-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v3_0)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v3_0) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113_0) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v113_1) = v3 c
          ∧ r.2.mem ((c.tc : Thread Cert.ReferenceIdeal.nD Cert.ReferenceIdeal.τ).loc Cert.ReferenceIdeal.main_v105) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S3x384x4096 : Shape := ⟨3, ![3, 384, 4096]⟩
abbrev S4096 : Shape := ⟨1, ![4096]⟩
abbrev S3 : Shape := ⟨1, ![3]⟩
abbrev S3x4096 : Shape := ⟨2, ![3, 4096]⟩
abbrev S14336x4096 : Shape := ⟨2, ![14336, 4096]⟩
abbrev S14336 : Shape := ⟨1, ![14336]⟩
abbrev S_ : Shape := ⟨0, ![]⟩
abbrev S3x384 : Shape := ⟨2, ![3, 384]⟩
abbrev S3x384x1 : Shape := ⟨3, ![3, 384, 1]⟩
abbrev S1x1x4096 : Shape := ⟨3, ![1, 1, 4096]⟩
abbrev S384 : Shape := ⟨1, ![384]⟩
abbrev S1x384 : Shape := ⟨2, ![1, 384]⟩
abbrev S3x1 : Shape := ⟨2, ![3, 1]⟩
abbrev S3x1x4096 : Shape := ⟨3, ![3, 1, 4096]⟩

class Facts : Prop where
  bitsLt_bf16_f32 : FTy.bits .bf16 < FTy.bits .f32
  reducesTo_S3x384x4096_S3x384_d2 : S3x384x4096.ReducesTo [2] S3x384
  h_S_ : 0 < S_.numel
  bcast_S3x384_S3x384x1_0_1 : S3x384.BroadcastsInDim S3x384x1 (![0, 1] : Fin 2 → Fin S3x384x1.rank)
  bcast_S_S3x384x1 : S_.BroadcastsInDim S3x384x1 (![] : Fin 0 → Fin S3x384x1.rank)
  bcast_S3x384x1_S3x384x4096_0_1_2 : S3x384x1.BroadcastsInDim S3x384x4096 (![0, 1, 2] : Fin 3 → Fin S3x384x4096.rank)
  bcast_S4096_S1x1x4096_2 : S4096.BroadcastsInDim S1x1x4096 (![2] : Fin 1 → Fin S1x1x4096.rank)
  bcast_S1x1x4096_S3x384x4096_0_1_2 : S1x1x4096.BroadcastsInDim S3x384x4096 (![0, 1, 2] : Fin 3 → Fin S3x384x4096.rank)
  bcast_S384_S1x384_1 : S384.BroadcastsInDim S1x384 (![1] : Fin 1 → Fin S1x384.rank)
  bcast_S3_S3x1_0 : S3.BroadcastsInDim S3x1 (![0] : Fin 1 → Fin S3x1.rank)
  bcast_S1x384_S3x384_0_1 : S1x384.BroadcastsInDim S3x384 (![0, 1] : Fin 2 → Fin S3x384.rank)
  bcast_S3x1_S3x384_0_1 : S3x1.BroadcastsInDim S3x384 (![0, 1] : Fin 2 → Fin S3x384.rank)
  reducesTo_S3x384x4096_S3x4096_d1 : S3x384x4096.ReducesTo [1] S3x4096
  bcast_S3x1_S3x4096_0_1 : S3x1.BroadcastsInDim S3x4096 (![0, 1] : Fin 2 → Fin S3x4096.rank)
  reducesTo_S3x4096_S3_d1 : S3x4096.ReducesTo [1] S3
  bcast_S3x4096_S3x1x4096_0_2 : S3x4096.BroadcastsInDim S3x1x4096 (![0, 2] : Fin 2 → Fin S3x1x4096.rank)
  bcast_S3x1x4096_S3x384x4096_0_1_2 : S3x1x4096.BroadcastsInDim S3x384x4096 (![0, 1, 2] : Fin 3 → Fin S3x384x4096.rank)
  reducesTo_S3x384x4096_S4096_d0_1 : S3x384x4096.ReducesTo [0, 1] S4096
  bcast_S_S4096 : S_.BroadcastsInDim S4096 (![] : Fin 0 → Fin S4096.rank)
  reducesTo_S4096_S_d0 : S4096.ReducesTo [0] S_
  bcast_S_S3 : S_.BroadcastsInDim S3 (![] : Fin 0 → Fin S3.rank)
  reducesTo_S3_S_d0 : S3.ReducesTo [0] S_
  bcast_S_S3x4096 : S_.BroadcastsInDim S3x4096 (![] : Fin 0 → Fin S3x4096.rank)
  reducesTo_S3x4096_S_d0_1 : S3x4096.ReducesTo [0, 1] S_
  bcast_S_S3x384 : S_.BroadcastsInDim S3x384 (![] : Fin 0 → Fin S3x384.rank)
  reducesTo_S3x384_S_d0_1 : S3x384.ReducesTo [0, 1] S_

variable [Facts]

def fn_part5 {F : FTy → Type} [FloatOps F] (main_v95 : IVec S_ 1) (main_v97 : IVec S3x384 1) : IVec S_ 1 :=
  let main_c_20 : IVec S_ 1 := constantI S_ 1 1#1
  let main_v98 : IVec S_ 1 := (fun x v => Host.reduce IntOp.andi x v reducesTo_S3x384_S_d0_1 h_S_) main_v97 main_c_20
  let main_v99 : IVec S_ 1 := andi main_v95 main_v98
  main_v99

def fn_part4 {F : FTy → Type} [FloatOps F] (main_arg1 : FVec F S4096 .f32) (main_arg3 : IVec S3 32) (main_v51 : FVec F S3x4096 .f32) (main_v81 : FVec F S3x384x4096 .f32) : IVec S_ 1 :=
  let main_cst_13 : FVec F S_ .f32 := constant S_ .f32 0xFF800000#32
  let main_v82 : FVec F S3x384 .f32 := (fun x v => Host.reduce FloatOps.maximumf x v reducesTo_S3x384x4096_S3x384_d2 h_S_) main_v81 main_cst_13
  let main_v83 : FVec F S4096 .f32 := Host.absf main_arg1
  let main_cst_14 : FVec F S_ .f32 := constant S_ .f32 0x7F800000#32
  let main_v84 : FVec F S4096 .f32 := broadcastInDim S4096 ![] bcast_S_S4096 main_cst_14
  let main_v85 : IVec S4096 1 := cmpf .olt main_v83 main_v84
  let main_c : IVec S_ 1 := constantI S_ 1 1#1
  let main_v86 : IVec S_ 1 := (fun x v => Host.reduce IntOp.andi x v reducesTo_S4096_S_d0 h_S_) main_v85 main_c
  let main_c_15 : IVec S_ 32 := constantI S_ 32 384#32
  let main_v87 : IVec S3 32 := broadcastInDim S3 ![] bcast_S_S3 main_c_15
  let main_v88 : IVec S3 1 := cmpi .sle main_arg3 main_v87
  let main_c_16 : IVec S_ 1 := constantI S_ 1 1#1
  let main_v89 : IVec S_ 1 := (fun x v => Host.reduce IntOp.andi x v reducesTo_S3_S_d0 h_S_) main_v88 main_c_16
  let main_v90 : IVec S_ 1 := andi main_v86 main_v89
  let main_v91 : FVec F S3x4096 .f32 := Host.absf main_v51
  let main_cst_17 : FVec F S_ .f32 := constant S_ .f32 0x7F800000#32
  let main_v92 : FVec F S3x4096 .f32 := broadcastInDim S3x4096 ![] bcast_S_S3x4096 main_cst_17
  let main_v93 : IVec S3x4096 1 := cmpf .olt main_v91 main_v92
  let main_c_18 : IVec S_ 1 := constantI S_ 1 1#1
  let main_v94 : IVec S_ 1 := (fun x v => Host.reduce IntOp.andi x v reducesTo_S3x4096_S_d0_1 h_S_) main_v93 main_c_18
  let main_v95 : IVec S_ 1 := andi main_v90 main_v94
  let main_cst_19 : FVec F S_ .f32 := constant S_ .f32 0x7F7FFFFF#32
  let main_v96 : FVec F S3x384 .f32 := broadcastInDim S3x384 ![] bcast_S_S3x384 main_cst_19
  let main_v97 : IVec S3x384 1 := cmpf .ole main_v82 main_v96
  fn_part5 (F := F) main_v95 main_v97

def fn_part3 {F : FTy → Type} [FloatOps F] (main_arg1 : FVec F S4096 .f32) (main_arg3 : IVec S3 32) (main_v14 : FVec F S3x384x1 .f32) (main_v16 : FVec F S3x384x4096 .f32) (main_v51 : FVec F S3x4096 .f32) (main_v58 : FVec F S3x384x4096 .f32) : IVec S_ 1 :=
  let main_v62 : FVec F S1x1x4096 .f32 := broadcastInDim S1x1x4096 ![2] bcast_S4096_S1x1x4096_2 main_arg1
  let main_v63 : FVec F S3x384x4096 .f32 := broadcastInDim S3x384x4096 ![0, 1, 2] bcast_S1x1x4096_S3x384x4096_0_1_2 main_v62
  let main_v64 : FVec F S3x384x4096 .f32 := mulf main_v58 main_v63
  let main_cst_9 : FVec F S_ .f32 := constant S_ .f32 0x00000000#32
  let main_v65 : FVec F S3x384 .f32 := (fun x v => Host.reduceAdd x v reducesTo_S3x384x4096_S3x384_d2 h_S_) main_v64 main_cst_9
  let main_v66 : FVec F S3x384x1 .f32 := broadcastInDim S3x384x1 ![0, 1] bcast_S3x384_S3x384x1_0_1 main_v65
  let main_cst_10 : FVec F S_ .f32 := constant S_ .f32 0x45800000#32
  let main_v67 : FVec F S3x384x1 .f32 := broadcastInDim S3x384x1 ![] bcast_S_S3x384x1 main_cst_10
  let main_v68 : FVec F S3x384x1 .f32 := Host.divf main_v66 main_v67
  let main_v69 : FVec F S3x384x4096 .f32 := broadcastInDim S3x384x4096 ![0, 1, 2] bcast_S3x384x1_S3x384x4096_0_1_2 main_v68
  let main_v70 : FVec F S3x384x4096 .f32 := subf main_v64 main_v69
  let main_v71 : FVec F S3x384x4096 .f32 := mulf main_v64 main_v16
  let main_cst_11 : FVec F S_ .f32 := constant S_ .f32 0x00000000#32
  let main_v72 : FVec F S3x384 .f32 := (fun x v => Host.reduceAdd x v reducesTo_S3x384x4096_S3x384_d2 h_S_) main_v71 main_cst_11
  let main_v73 : FVec F S3x384x1 .f32 := broadcastInDim S3x384x1 ![0, 1] bcast_S3x384_S3x384x1_0_1 main_v72
  let main_cst_12 : FVec F S_ .f32 := constant S_ .f32 0x45800000#32
  let main_v74 : FVec F S3x384x1 .f32 := broadcastInDim S3x384x1 ![] bcast_S_S3x384x1 main_cst_12
  let main_v75 : FVec F S3x384x1 .f32 := Host.divf main_v73 main_v74
  let main_v76 : FVec F S3x384x4096 .f32 := broadcastInDim S3x384x4096 ![0, 1, 2] bcast_S3x384x1_S3x384x4096_0_1_2 main_v75
  let main_v77 : FVec F S3x384x4096 .f32 := mulf main_v16 main_v76
  let main_v78 : FVec F S3x384x4096 .f32 := subf main_v70 main_v77
  let main_v79 : FVec F S3x384x4096 .f32 := broadcastInDim S3x384x4096 ![0, 1, 2] bcast_S3x384x1_S3x384x4096_0_1_2 main_v14
  let main_v80 : FVec F S3x384x4096 .f32 := mulf main_v79 main_v78
  let main_v81 : FVec F S3x384x4096 .f32 := Host.absf main_v80
  fn_part4 (F := F) main_arg1 main_arg3 main_v51 main_v81

def fn_part2 {F : FTy → Type} [FloatOps F] (main_arg1 : FVec F S4096 .f32) (main_arg3 : IVec S3 32) (main_arg4 : FVec F S3x4096 .f32) (main_v14 : FVec F S3x384x1 .f32) (main_v16 : FVec F S3x384x4096 .f32) (main_v29 : FVec F S3x384 .f32) (main_v31 : FVec F S3x1 .f32) (main_v37 : FVec F S3x4096 .f32) (main_v40 : FVec F S3x1 .f32) : IVec S_ 1 :=
  let main_v41 : FVec F S3x1 .f32 := Host.sqrt main_v40
  let main_v42 : FVec F S3x4096 .f32 := broadcastInDim S3x4096 ![0, 1] bcast_S3x1_S3x4096_0_1 main_v41
  let main_v43 : FVec F S3x4096 .f32 := Host.divf main_v37 main_v42
  let main_v44 : FVec F S3x4096 .f32 := mulf main_v43 main_arg4
  let main_cst_6 : FVec F S_ .f32 := constant S_ .f32 0x00000000#32
  let main_v45 : FVec F S3 .f32 := (fun x v => Host.reduceAdd x v reducesTo_S3x4096_S3_d1 h_S_) main_v44 main_cst_6
  let main_v46 : FVec F S3x1 .f32 := broadcastInDim S3x1 ![0] bcast_S3_S3x1_0 main_v45
  let main_v47 : FVec F S3x4096 .f32 := broadcastInDim S3x4096 ![0, 1] bcast_S3x1_S3x4096_0_1 main_v46
  let main_v48 : FVec F S3x4096 .f32 := mulf main_v43 main_v47
  let main_v49 : FVec F S3x4096 .f32 := subf main_arg4 main_v48
  let main_v50 : FVec F S3x4096 .f32 := broadcastInDim S3x4096 ![0, 1] bcast_S3x1_S3x4096_0_1 main_v41
  let main_v51 : FVec F S3x4096 .f32 := Host.divf main_v49 main_v50
  let main_v52 : FVec F S3x384x1 .f32 := broadcastInDim S3x384x1 ![0, 1] bcast_S3x384_S3x384x1_0_1 main_v29
  let main_v53 : FVec F S3x4096 .f32 := broadcastInDim S3x4096 ![0, 1] bcast_S3x1_S3x4096_0_1 main_v31
  let main_v54 : FVec F S3x4096 .f32 := Host.divf main_v51 main_v53
  let main_v55 : FVec F S3x1x4096 .f32 := broadcastInDim S3x1x4096 ![0, 2] bcast_S3x4096_S3x1x4096_0_2 main_v54
  let main_v56 : FVec F S3x384x4096 .f32 := broadcastInDim S3x384x4096 ![0, 1, 2] bcast_S3x384x1_S3x384x4096_0_1_2 main_v52
  let main_v57 : FVec F S3x384x4096 .f32 := broadcastInDim S3x384x4096 ![0, 1, 2] bcast_S3x1x4096_S3x384x4096_0_1_2 main_v55
  let main_v58 : FVec F S3x384x4096 .f32 := mulf main_v56 main_v57
  let main_v59 : FVec F S3x384x4096 .f32 := mulf main_v58 main_v16
  let main_cst_7 : FVec F S_ .f32 := constant S_ .f32 0x00000000#32
  let main_v60 : FVec F S4096 .f32 := (fun x v => Host.reduceAdd x v reducesTo_S3x384x4096_S4096_d0_1 h_S_) main_v59 main_cst_7
  let main_cst_8 : FVec F S_ .f32 := constant S_ .f32 0x00000000#32
  let main_v61 : FVec F S4096 .f32 := (fun x v => Host.reduceAdd x v reducesTo_S3x384x4096_S4096_d0_1 h_S_) main_v58 main_cst_8
  fn_part3 (F := F) main_arg1 main_arg3 main_v14 main_v16 main_v51 main_v58

def fn_part1 {F : FTy → Type} [FloatOps F] (main_arg1 : FVec F S4096 .f32) (main_arg2 : FVec F S4096 .f32) (main_arg3 : IVec S3 32) (main_arg4 : FVec F S3x4096 .f32) (main_v14 : FVec F S3x384x1 .f32) (main_v16 : FVec F S3x384x4096 .f32) (main_v18 : FVec F S3x384x4096 .f32) : IVec S_ 1 :=
  let main_v19 : FVec F S3x384x4096 .f32 := mulf main_v16 main_v18
  let main_v20 : FVec F S1x1x4096 .f32 := broadcastInDim S1x1x4096 ![2] bcast_S4096_S1x1x4096_2 main_arg2
  let main_v21 : FVec F S3x384x4096 .f32 := broadcastInDim S3x384x4096 ![0, 1, 2] bcast_S1x1x4096_S3x384x4096_0_1_2 main_v20
  let main_v22 : FVec F S3x384x4096 .f32 := addf main_v19 main_v21
  let main_v23 : IVec S384 32 := iotaInDim S384 32 0
  let main_v24 : IVec S1x384 32 := broadcastInDim S1x384 ![1] bcast_S384_S1x384_1 main_v23
  let main_v25 : IVec S3x1 32 := broadcastInDim S3x1 ![0] bcast_S3_S3x1_0 main_arg3
  let main_v26 : IVec S3x384 32 := broadcastInDim S3x384 ![0, 1] bcast_S1x384_S3x384_0_1 main_v24
  let main_v27 : IVec S3x384 32 := broadcastInDim S3x384 ![0, 1] bcast_S3x1_S3x384_0_1 main_v25
  let main_v28 : IVec S3x384 1 := cmpi .slt main_v26 main_v27
  let main_v29 : FVec F S3x384 .f32 := uitofp .f32 main_v28
  let main_v30 : FVec F S3 .f32 := sitofp .f32 main_arg3
  let main_v31 : FVec F S3x1 .f32 := broadcastInDim S3x1 ![0] bcast_S3_S3x1_0 main_v30
  let main_v32 : FVec F S3x384x1 .f32 := broadcastInDim S3x384x1 ![0, 1] bcast_S3x384_S3x384x1_0_1 main_v29
  let main_v33 : FVec F S3x384x4096 .f32 := broadcastInDim S3x384x4096 ![0, 1, 2] bcast_S3x384x1_S3x384x4096_0_1_2 main_v32
  let main_v34 : FVec F S3x384x4096 .f32 := mulf main_v33 main_v22
  let main_cst_4 : FVec F S_ .f32 := constant S_ .f32 0x00000000#32
  let main_v35 : FVec F S3x4096 .f32 := (fun x v => Host.reduceAdd x v reducesTo_S3x384x4096_S3x4096_d1 h_S_) main_v34 main_cst_4
  let main_v36 : FVec F S3x4096 .f32 := broadcastInDim S3x4096 ![0, 1] bcast_S3x1_S3x4096_0_1 main_v31
  let main_v37 : FVec F S3x4096 .f32 := Host.divf main_v35 main_v36
  let main_v38 : FVec F S3x4096 .f32 := mulf main_v37 main_v37
  let main_cst_5 : FVec F S_ .f32 := constant S_ .f32 0x00000000#32
  let main_v39 : FVec F S3 .f32 := (fun x v => Host.reduceAdd x v reducesTo_S3x4096_S3_d1 h_S_) main_v38 main_cst_5
  let main_v40 : FVec F S3x1 .f32 := broadcastInDim S3x1 ![0] bcast_S3_S3x1_0 main_v39
  fn_part2 (F := F) main_arg1 main_arg3 main_arg4 main_v14 main_v16 main_v29 main_v31 main_v37 main_v40

def fn {F : FTy → Type} [FloatOps F] (main_arg0 : FVec F S3x384x4096 .bf16) (main_arg1 : FVec F S4096 .f32) (main_arg2 : FVec F S4096 .f32) (main_arg3 : IVec S3 32) (main_arg4 : FVec F S3x4096 .f32) (main_arg5 : FVec F S14336x4096 .fp8e4m3) (main_arg6 : FVec F S14336 .f32) : IVec S_ 1 :=
  let main_v0 : FVec F S3x384x4096 .f32 := (extf .f32 · bitsLt_bf16_f32) main_arg0
  let main_cst : FVec F S_ .f32 := constant S_ .f32 0x00000000#32
  let main_v1 : FVec F S3x384 .f32 := (fun x v => Host.reduceAdd x v reducesTo_S3x384x4096_S3x384_d2 h_S_) main_v0 main_cst
  let main_v2 : FVec F S3x384x1 .f32 := broadcastInDim S3x384x1 ![0, 1] bcast_S3x384_S3x384x1_0_1 main_v1
  let main_cst_0 : FVec F S_ .f32 := constant S_ .f32 0x45800000#32
  let main_v3 : FVec F S3x384x1 .f32 := broadcastInDim S3x384x1 ![] bcast_S_S3x384x1 main_cst_0
  let main_v4 : FVec F S3x384x1 .f32 := Host.divf main_v2 main_v3
  let main_v5 : FVec F S3x384x4096 .f32 := broadcastInDim S3x384x4096 ![0, 1, 2] bcast_S3x384x1_S3x384x4096_0_1_2 main_v4
  let main_v6 : FVec F S3x384x4096 .f32 := subf main_v0 main_v5
  let main_v7 : FVec F S3x384x4096 .f32 := mulf main_v6 main_v6
  let main_cst_1 : FVec F S_ .f32 := constant S_ .f32 0x00000000#32
  let main_v8 : FVec F S3x384 .f32 := (fun x v => Host.reduceAdd x v reducesTo_S3x384x4096_S3x384_d2 h_S_) main_v7 main_cst_1
  let main_v9 : FVec F S3x384x1 .f32 := broadcastInDim S3x384x1 ![0, 1] bcast_S3x384_S3x384x1_0_1 main_v8
  let main_cst_2 : FVec F S_ .f32 := constant S_ .f32 0x45800000#32
  let main_v10 : FVec F S3x384x1 .f32 := broadcastInDim S3x384x1 ![] bcast_S_S3x384x1 main_cst_2
  let main_v11 : FVec F S3x384x1 .f32 := Host.divf main_v9 main_v10
  let main_cst_3 : FVec F S_ .f32 := constant S_ .f32 0x3727C5AC#32
  let main_v12 : FVec F S3x384x1 .f32 := broadcastInDim S3x384x1 ![] bcast_S_S3x384x1 main_cst_3
  let main_v13 : FVec F S3x384x1 .f32 := addf main_v11 main_v12
  let main_v14 : FVec F S3x384x1 .f32 := Host.rsqrt main_v13
  let main_v15 : FVec F S3x384x4096 .f32 := broadcastInDim S3x384x4096 ![0, 1, 2] bcast_S3x384x1_S3x384x4096_0_1_2 main_v14
  let main_v16 : FVec F S3x384x4096 .f32 := mulf main_v6 main_v15
  let main_v17 : FVec F S1x1x4096 .f32 := broadcastInDim S1x1x4096 ![2] bcast_S4096_S1x1x4096_2 main_arg1
  let main_v18 : FVec F S3x384x4096 .f32 := broadcastInDim S3x384x4096 ![0, 1, 2] bcast_S1x1x4096_S3x384x4096_0_1_2 main_v17
  fn_part1 (F := F) main_arg1 main_arg2 main_arg3 main_arg4 main_v14 main_v16 main_v18
-- ==== Kernel.lean ====
abbrev S3x384x4096 : Shape := ⟨3, ![3, 384, 4096]⟩
abbrev S4096 : Shape := ⟨1, ![4096]⟩
abbrev S3 : Shape := ⟨1, ![3]⟩
abbrev S3x4096 : Shape := ⟨2, ![3, 4096]⟩
abbrev S14336x4096 : Shape := ⟨2, ![14336, 4096]⟩
abbrev S14336 : Shape := ⟨1, ![14336]⟩
abbrev S1x4096 : Shape := ⟨2, ![1, 4096]⟩
abbrev S3x1x4096 : Shape := ⟨3, ![3, 1, 4096]⟩
abbrev S3x384x1 : Shape := ⟨3, ![3, 384, 1]⟩
abbrev S1x384x4096 : Shape := ⟨3, ![1, 384, 4096]⟩
abbrev S1x1x4096 : Shape := ⟨3, ![1, 1, 4096]⟩
abbrev S1x384x1 : Shape := ⟨3, ![1, 384, 1]⟩
abbrev S384x128 : Shape := ⟨2, ![384, 128]⟩
abbrev S8x4096 : Shape := ⟨2, ![8, 4096]⟩
abbrev S1 : Shape := ⟨1, ![1]⟩
abbrev S1x32x4096 : Shape := ⟨3, ![1, 32, 4096]⟩
abbrev S32x4096 : Shape := ⟨2, ![32, 4096]⟩
abbrev S32 : Shape := ⟨1, ![32]⟩
abbrev S32x1 : Shape := ⟨2, ![32, 1]⟩
abbrev S32x128 : Shape := ⟨2, ![32, 128]⟩
abbrev S1x1 : Shape := ⟨2, ![1, 1]⟩
abbrev S1x256 : Shape := ⟨2, ![1, 256]⟩
abbrev S32x256 : Shape := ⟨2, ![32, 256]⟩
abbrev S1x32x1 : Shape := ⟨3, ![1, 32, 1]⟩
abbrev S1152x4096 : Shape := ⟨2, ![1152, 4096]⟩
abbrev S1152x1 : Shape := ⟨2, ![1152, 1]⟩
abbrev S1x14336 : Shape := ⟨2, ![1, 14336]⟩
abbrev S1152x14336 : Shape := ⟨2, ![1152, 14336]⟩
abbrev S1024x4096 : Shape := ⟨2, ![1024, 4096]⟩
abbrev S1x1024 : Shape := ⟨2, ![1, 1024]⟩
abbrev S1152x1024 : Shape := ⟨2, ![1152, 1024]⟩
abbrev S3x384x14336 : Shape := ⟨3, ![3, 384, 14336]⟩
abbrev S3x384 : Shape := ⟨2, ![3, 384]⟩

abbrev nBuf : Space → Nat
  | .hbm => 21
  | .vmem => 24
  | .smem => 1
  | _ => 0

abbrev bufTy : (tb : Table) → Fin (tcTables nBuf tb) → BufTy
  | .hbm, ⟨0, _⟩ => ⟨S3x384x4096, .bf16⟩
  | .hbm, ⟨1, _⟩ => ⟨S4096, .f32⟩
  | .hbm, ⟨2, _⟩ => ⟨S4096, .f32⟩
  | .hbm, ⟨3, _⟩ => ⟨S3x4096, .f32⟩
  | .hbm, ⟨4, _⟩ => ⟨S14336x4096, .fp8e4m3⟩
  | .hbm, ⟨5, _⟩ => ⟨S14336, .f32⟩
  | .hbm, ⟨6, _⟩ => ⟨S1x4096, .f32⟩
  | .hbm, ⟨7, _⟩ => ⟨S1x4096, .f32⟩
  | .hbm, ⟨8, _⟩ => ⟨S3x1x4096, .f32⟩
  | .hbm, ⟨9, _⟩ => ⟨S3x384x4096, .fp8e5m2⟩
  | .hbm, ⟨10, _⟩ => ⟨S3x384x1, .f32⟩
  | .hbm, ⟨11, _⟩ => ⟨S1x4096, .f32⟩
  | .hbm, ⟨12, _⟩ => ⟨S1x4096, .f32⟩
  | .hbm, ⟨13, _⟩ => ⟨S1152x4096, .fp8e5m2⟩
  | .hbm, ⟨14, _⟩ => ⟨S1152x1, .f32⟩
  | .hbm, ⟨15, _⟩ => ⟨S1x14336, .f32⟩
  | .hbm, ⟨16, _⟩ => ⟨S1152x14336, .bf16⟩
  | .hbm, ⟨17, _⟩ => ⟨S3x384x14336, .bf16⟩
  | .hbm, ⟨18, _⟩ => ⟨S4096, .f32⟩
  | .hbm, ⟨19, _⟩ => ⟨S4096, .f32⟩
  | .hbm, ⟨20, _⟩ => ⟨S3x384, .f32⟩
  | .local _ .vmem, ⟨0, _⟩ => ⟨S1x384x4096, .bf16⟩
  | .local _ .vmem, ⟨1, _⟩ => ⟨S1x384x4096, .bf16⟩
  | .local _ .vmem, ⟨2, _⟩ => ⟨S1x4096, .f32⟩
  | .local _ .vmem, ⟨3, _⟩ => ⟨S1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x384x4096, .fp8e5m2⟩
  | .local _ .vmem, ⟨7, _⟩ => ⟨S1x384x4096, .fp8e5m2⟩
  | .local _ .vmem, ⟨8, _⟩ => ⟨S1x384x1, .f32⟩
  | .local _ .vmem, ⟨9, _⟩ => ⟨S1x384x1, .f32⟩
  | .local _ .vmem, ⟨10, _⟩ => ⟨S1x4096, .f32⟩
  | .local _ .vmem, ⟨11, _⟩ => ⟨S1x4096, .f32⟩
  | .local _ .vmem, ⟨12, _⟩ => ⟨S384x128, .f32⟩
  | .local _ .vmem, ⟨13, _⟩ => ⟨S384x128, .f32⟩
  | .local _ .vmem, ⟨14, _⟩ => ⟨S8x4096, .f32⟩
  | .local _ .vmem, ⟨15, _⟩ => ⟨S8x4096, .f32⟩
  | .local _ .vmem, ⟨16, _⟩ => ⟨S1152x4096, .fp8e5m2⟩
  | .local _ .vmem, ⟨17, _⟩ => ⟨S1152x1, .f32⟩
  | .local _ .vmem, ⟨18, _⟩ => ⟨S1024x4096, .fp8e4m3⟩
  | .local _ .vmem, ⟨19, _⟩ => ⟨S1024x4096, .fp8e4m3⟩
  | .local _ .vmem, ⟨20, _⟩ => ⟨S1x1024, .f32⟩
  | .local _ .vmem, ⟨21, _⟩ => ⟨S1x1024, .f32⟩
  | .local _ .vmem, ⟨22, _⟩ => ⟨S1152x1024, .bf16⟩
  | .local _ .vmem, ⟨23, _⟩ => ⟨S1152x1024, .bf16⟩
  | .local _ .smem, ⟨0, _⟩ => ⟨S3, .i32⟩
  | _, _ => ⟨S3x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c12_i32 : BitVec 32 := 12#32
  let v7 : BitVec 32 := Scalar.addi c0_i32 c12_i32
  let c1_i32 : BitVec 32 := 1#32
  ⟨c0_i32, v7, c1_i32⟩
def k0_off2 (k0_t1 : Fin k0_t1_loop.trips) : Fin 3 → Nat :=
  let c0_30 : Index := 0#32
  let c0_i32 : BitVec 32 := 0#32
  let c1_i32 : BitVec 32 := 1#32
  let arg14 : BitVec 32 := Scf.iv c0_i32 c1_i32 k0_t1
  let c32_i32 : BitVec 32 := 32#32
  let v61 : BitVec 32 := Scalar.muli arg14 c32_i32
  let v62 : Index := Scalar.indexCast v61
  let c0_31 : Index := 0#32
  ![0, v62.toNat, 0]
def k0_off3 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32 : BitVec 32 := 32#32
  let v61 : BitVec 32 := Scalar.muli arg14 c32_i32
  let v104 : Index := Scalar.indexCast v61
  let c0_43 : Index := 0#32
  ![v104.toNat, 0]
@[reducible] def k0_t2_loop : Scf.Loop 32 :=
  let c0_i32_26 : BitVec 32 := 0#32
  let c12_i32_27 : BitVec 32 := 12#32
  let v60 : BitVec 32 := Scalar.addi c0_i32_26 c12_i32_27
  let c1_i32_28 : BitVec 32 := 1#32
  ⟨c0_i32_26, v60, c1_i32_28⟩
def k0_off4 (k0_t2 : Fin k0_t2_loop.trips) : Fin 2 → Nat :=
  let c0_i32_26 : BitVec 32 := 0#32
  let c1_i32_28 : BitVec 32 := 1#32
  let arg14 : BitVec 32 := Scf.iv c0_i32_26 c1_i32_28 k0_t2
  let c32_i32 : BitVec 32 := 32#32
  let v61 : BitVec 32 := Scalar.muli arg14 c32_i32
  let v62 : Index := Scalar.indexCast v61
  let c0_30 : Index := 0#32
  ![v62.toNat, 0]
def k0_off5 (k0_t2 : Fin k0_t2_loop.trips) : Fin 3 → Nat :=
  let c0_32 : Index := 0#32
  let c0_i32_26 : BitVec 32 := 0#32
  let c1_i32_28 : BitVec 32 := 1#32
  let arg14 : BitVec 32 := Scf.iv c0_i32_26 c1_i32_28 k0_t2
  let c32_i32 : BitVec 32 := 32#32
  let v61 : BitVec 32 := Scalar.muli arg14 c32_i32
  let v66 : Index := Scalar.indexCast v61
  let c0_33 : Index := 0#32
  ![0, v66.toNat, 0]
def k0_off6 (k0_t2 : Fin k0_t2_loop.trips) : Fin 3 → Nat :=
  let c0_51 : Index := 0#32
  let c0_i32_26 : BitVec 32 := 0#32
  let c1_i32_28 : BitVec 32 := 1#32
  let arg14 : BitVec 32 := Scf.iv c0_i32_26 c1_i32_28 k0_t2
  let c32_i32 : BitVec 32 := 32#32
  let v61 : BitVec 32 := Scalar.muli arg14 c32_i32
  let v139 : Index := Scalar.indexCast v61
  let c0_52 : Index := 0#32
  ![0, v139.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x384x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x384x4096 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x384x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![14], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1152x4096 .fp8e5m2 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1152x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x4096 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1152x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S3x384x4096 : Shape := ⟨3, ![3, 384, 4096]⟩
abbrev S4096 : Shape := ⟨1, ![4096]⟩
abbrev S3 : Shape := ⟨1, ![3]⟩
abbrev S3x4096 : Shape := ⟨2, ![3, 4096]⟩
abbrev S14336x4096 : Shape := ⟨2, ![14336, 4096]⟩
abbrev S14336 : Shape := ⟨1, ![14336]⟩
abbrev S_ : Shape := ⟨0, ![]⟩
abbrev S3x384 : Shape := ⟨2, ![3, 384]⟩
abbrev S3x384x1 : Shape := ⟨3, ![3, 384, 1]⟩
abbrev S1x1x4096 : Shape := ⟨3, ![1, 1, 4096]⟩
abbrev S384 : Shape := ⟨1, ![384]⟩
abbrev S1x384 : Shape := ⟨2, ![1, 384]⟩
abbrev S3x1 : Shape := ⟨2, ![3, 1]⟩
abbrev S3x1x4096 : Shape := ⟨3, ![3, 1, 4096]⟩
abbrev S254 : Shape := ⟨1, ![254]⟩
abbrev S1x1x254 : Shape := ⟨3, ![1, 1, 254]⟩
abbrev S3x384x254 : Shape := ⟨3, ![3, 384, 254]⟩
abbrev S3x384x14336 : Shape := ⟨3, ![3, 384, 14336]⟩
abbrev S1x1x14336 : Shape := ⟨3, ![1, 1, 14336]⟩

abbrev nBuf : Space → Nat
  | .hbm => 159
  | .vmem => 6
  | .smem => 0
  | _ => 0

abbrev hbmTy0_0 (i : Nat) : BufTy := match i % 128 with
  | 0 => ⟨S3x384x4096, .bf16⟩
  | 1 => ⟨S4096, .f32⟩
  | 2 => ⟨S4096, .f32⟩
  | 3 => ⟨S3, .i32⟩
  | 4 => ⟨S3x4096, .f32⟩
  | 5 => ⟨S14336x4096, .fp8e4m3⟩
  | 6 => ⟨S14336, .f32⟩
  | 7 => ⟨S3x384x4096, .f32⟩
  | 8 => ⟨S_, .f32⟩
  | 9 => ⟨S3x384, .f32⟩
  | 10 => ⟨S3x384x1, .f32⟩
  | 11 => ⟨S_, .f32⟩
  | 12 => ⟨S3x384x1, .f32⟩
  | 13 => ⟨S3x384x1, .f32⟩
  | 14 => ⟨S3x384x4096, .f32⟩
  | 15 => ⟨S3x384x4096, .f32⟩
  | 16 => ⟨S3x384x4096, .f32⟩
  | 17 => ⟨S_, .f32⟩
  | 18 => ⟨S3x384, .f32⟩
  | 19 => ⟨S3x384x1, .f32⟩
  | 20 => ⟨S_, .f32⟩
  | 21 => ⟨S3x384x1, .f32⟩
  | 22 => ⟨S3x384x1, .f32⟩
  | 23 => ⟨S_, .f32⟩
  | 24 => ⟨S3x384x1, .f32⟩
  | 25 => ⟨S3x384x1, .f32⟩
  | 26 => ⟨S3x384x1, .f32⟩
  | 27 => ⟨S3x384x4096, .f32⟩
  | 28 => ⟨S3x384x4096, .f32⟩
  | 29 => ⟨S1x1x4096, .f32⟩
  | 30 => ⟨S3x384x4096, .f32⟩
  | 31 => ⟨S3x384x4096, .f32⟩
  | 32 => ⟨S1x1x4096, .f32⟩
  | 33 => ⟨S3x384x4096, .f32⟩
  | 34 => ⟨S3x384x4096, .f32⟩
  | 35 => ⟨S384, .i32⟩
  | 36 => ⟨S1x384, .i32⟩
  | 37 => ⟨S3x1, .i32⟩
  | 38 => ⟨S3x384, .i32⟩
  | 39 => ⟨S3x384, .i32⟩
  | 40 => ⟨S3x384, .i1⟩
  | 41 => ⟨S3x384, .f32⟩
  | 42 => ⟨S3, .f32⟩
  | 43 => ⟨S3x1, .f32⟩
  | 44 => ⟨S3x384x1, .f32⟩
  | 45 => ⟨S3x384x4096, .f32⟩
  | 46 => ⟨S3x384x4096, .f32⟩
  | 47 => ⟨S_, .f32⟩
  | 48 => ⟨S3x4096, .f32⟩
  | 49 => ⟨S3x4096, .f32⟩
  | 50 => ⟨S3x4096, .f32⟩
  | 51 => ⟨S3x4096, .f32⟩
  | 52 => ⟨S_, .f32⟩
  | 53 => ⟨S3, .f32⟩
  | 54 => ⟨S3x1, .f32⟩
  | 55 => ⟨S3x1, .f32⟩
  | 56 => ⟨S3x4096, .f32⟩
  | 57 => ⟨S3x4096, .f32⟩
  | 58 => ⟨S3x4096, .f32⟩
  | 59 => ⟨S_, .f32⟩
  | 60 => ⟨S3, .f32⟩
  | 61 => ⟨S3x1, .f32⟩
  | 62 => ⟨S3x4096, .f32⟩
  | 63 => ⟨S3x4096, .f32⟩
  | 64 => ⟨S3x4096, .f32⟩
  | 65 => ⟨S3x4096, .f32⟩
  | 66 => ⟨S3x4096, .f32⟩
  | 67 => ⟨S3x384x1, .f32⟩
  | 68 => ⟨S3x4096, .f32⟩
  | 69 => ⟨S3x4096, .f32⟩
  | 70 => ⟨S3x1x4096, .f32⟩
  | 71 => ⟨S3x384x4096, .f32⟩
  | 72 => ⟨S3x384x4096, .f32⟩
  | 73 => ⟨S3x384x4096, .f32⟩
  | 74 => ⟨S3x384x4096, .f32⟩
  | 75 => ⟨S_, .f32⟩
  | 76 => ⟨S4096, .f32⟩
  | 77 => ⟨S_, .f32⟩
  | 78 => ⟨S4096, .f32⟩
  | 79 => ⟨S1x1x4096, .f32⟩
  | 80 => ⟨S3x384x4096, .f32⟩
  | 81 => ⟨S3x384x4096, .f32⟩
  | 82 => ⟨S_, .f32⟩
  | 83 => ⟨S3x384, .f32⟩
  | 84 => ⟨S3x384x1, .f32⟩
  | 85 => ⟨S_, .f32⟩
  | 86 => ⟨S3x384x1, .f32⟩
  | 87 => ⟨S3x384x1, .f32⟩
  | 88 => ⟨S3x384x4096, .f32⟩
  | 89 => ⟨S3x384x4096, .f32⟩
  | 90 => ⟨S3x384x4096, .f32⟩
  | 91 => ⟨S_, .f32⟩
  | 92 => ⟨S3x384, .f32⟩
  | 93 => ⟨S3x384x1, .f32⟩
  | 94 => ⟨S_, .f32⟩
  | 95 => ⟨S3x384x1, .f32⟩
  | 96 => ⟨S3x384x1, .f32⟩
  | 97 => ⟨S3x384x4096, .f32⟩
  | 98 => ⟨S3x384x4096, .f32⟩
  | 99 => ⟨S3x384x4096, .f32⟩
  | 100 => ⟨S3x384x4096, .f32⟩
  | 101 => ⟨S3x384x4096, .f32⟩
  | 102 => ⟨S3x384x4096, .f32⟩
  | 103 => ⟨S_, .f32⟩
  | 104 => ⟨S3x384, .f32⟩
  | 105 => ⟨S_, .f32⟩
  | 106 => ⟨S3x384, .f32⟩
  | 107 => ⟨S3x384, .f32⟩
  | 108 => ⟨S254, .i32⟩
  | 109 => ⟨S_, .i32⟩
  | 110 => ⟨S254, .i32⟩
  | 111 => ⟨S254, .i32⟩
  | 112 => ⟨S3x384x1, .f32⟩
  | 113 => ⟨S_, .i32⟩
  | 114 => ⟨S254, .i32⟩
  | 115 => ⟨S254, .i32⟩
  | 116 => ⟨S254, .f32⟩
  | 117 => ⟨S_, .f32⟩
  | 118 => ⟨S254, .f32⟩
  | 119 => ⟨S254, .f32⟩
  | 120 => ⟨S1x1x254, .f32⟩
  | 121 => ⟨S3x384x254, .f32⟩
  | 122 => ⟨S3x384x254, .f32⟩
  | 123 => ⟨S3x384x254, .i1⟩
  | 124 => ⟨S_, .f32⟩
  | 125 => ⟨S3x384, .f32⟩
  | 126 => ⟨S3x384, .i1⟩
  | 127 => ⟨S_, .i32⟩
  | _ => ⟨S3x384x4096, .bf16⟩

abbrev hbmTy0_1 (i : Nat) : BufTy := match i % 128 with
  | 0 => ⟨S_, .i32⟩
  | 1 => ⟨S3x384x254, .i32⟩
  | 2 => ⟨S3x384x254, .i32⟩
  | 3 => ⟨S3x384x254, .i32⟩
  | 4 => ⟨S_, .i32⟩
  | 5 => ⟨S3x384, .i32⟩
  | 6 => ⟨S_, .i32⟩
  | 7 => ⟨S_, .i32⟩
  | 8 => ⟨S3x384, .i32⟩
  | 9 => ⟨S3x384, .i32⟩
  | 10 => ⟨S3x384, .f32⟩
  | 11 => ⟨S_, .f32⟩
  | 12 => ⟨S3x384, .f32⟩
  | 13 => ⟨S3x384, .f32⟩
  | 14 => ⟨S3x384, .f32⟩
  | 15 => ⟨S_, .f32⟩
  | 16 => ⟨S3x384, .f32⟩
  | 17 => ⟨S3x384, .f32⟩
  | 18 => ⟨S3x384x1, .f32⟩
  | 19 => ⟨S3x384x4096, .f32⟩
  | 20 => ⟨S3x384x4096, .f32⟩
  | 21 => ⟨S_, .f32⟩
  | 22 => ⟨S_, .f32⟩
  | 23 => ⟨S_, .f32⟩
  | 24 => ⟨S3x384x4096, .f32⟩
  | 25 => ⟨S3x384x4096, .f32⟩
  | 26 => ⟨S_, .f32⟩
  | 27 => ⟨S3x384x4096, .f32⟩
  | 28 => ⟨S3x384x4096, .f32⟩
  | 29 => ⟨S3x384x14336, .bf16⟩
  | 30 => ⟨S3x384x4096, .fp8e5m2⟩
  | _ => ⟨S3x384x4096, .bf16⟩

abbrev hbmTy (i : Nat) : BufTy := match i / 128 with
  | 0 => hbmTy0_0 i
  | 1 => hbmTy0_1 i
  | _ => ⟨S3x384x4096, .bf16⟩

abbrev bufTy : (tb : Table) → Fin (tcTables nBuf tb) → BufTy
  | .hbm, ⟨i, _⟩ => hbmTy i
  | .local _ .vmem, ⟨0, _⟩ => ⟨S3x384x4096, .f32⟩
  | .local _ .vmem, ⟨1, _⟩ => ⟨S3x384, .f32⟩
  | .local _ .vmem, ⟨2, _⟩ => ⟨S14336x4096, .fp8e4m3⟩
  | .local _ .vmem, ⟨3, _⟩ => ⟨S14336, .f32⟩
  | .local _ .vmem, ⟨4, _⟩ => ⟨S3x384x14336, .bf16⟩
  | .local _ .vmem, ⟨5, _⟩ => ⟨S3x384x4096, .fp8e5m2⟩
  | _, _ => ⟨S3x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_cst_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_cst_14 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_c : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_c_15 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_16 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_17 : Ref sig .tc := ⟨.hbm, 124, rfl⟩
abbrev main_v98 : Ref sig .tc := ⟨.hbm, 125, rfl⟩
abbrev main_v99 : Ref sig .tc := ⟨.hbm, 126, rfl⟩
abbrev main_c_18 : Ref sig .tc := ⟨.hbm, 127, rfl⟩
abbrev main_call0_v0 : Ref sig .tc := ⟨.hbm, 128, rfl⟩
abbrev main_call0_v1 : Ref sig .tc := ⟨.hbm, 129, rfl⟩
abbrev main_call0_v2 : Ref sig .tc := ⟨.hbm, 130, rfl⟩
abbrev main_v100 : Ref sig .tc := ⟨.hbm, 131, rfl⟩
abbrev main_c_19 : Ref sig .tc := ⟨.hbm, 132, rfl⟩
abbrev main_v101 : Ref sig .tc := ⟨.hbm, 133, rfl⟩
abbrev main_c_20 : Ref sig .tc := ⟨.hbm, 134, rfl⟩
abbrev main_call1_v0 : Ref sig .tc := ⟨.hbm, 135, rfl⟩
abbrev main_call1_v1 : Ref sig .tc := ⟨.hbm, 136, rfl⟩
abbrev main_v102 : Ref sig .tc := ⟨.hbm, 137, rfl⟩
abbrev main_v103 : Ref sig .tc := ⟨.hbm, 138, rfl⟩
abbrev main_cst_21 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_22 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_23 : Ref sig .tc := ⟨.hbm, 149, rfl⟩
abbrev main_cst_24 : Ref sig .tc := ⟨.hbm, 150, rfl⟩
abbrev main_call2_v0 : Ref sig .tc := ⟨.hbm, 151, rfl⟩
abbrev main_call2_v1 : Ref sig .tc := ⟨.hbm, 152, rfl⟩
abbrev main_call2_v2 : Ref sig .tc := ⟨.hbm, 153, rfl⟩
abbrev main_call2_v3 : Ref sig .tc := ⟨.hbm, 154, rfl⟩
abbrev main_call2_v4 : Ref sig .tc := ⟨.hbm, 155, rfl⟩
abbrev main_v112 : Ref sig .tc := ⟨.hbm, 156, rfl⟩
abbrev main_v113_0 : Ref sig .tc := ⟨.hbm, 157, rfl⟩
abbrev main_v113_1 : Ref sig .tc := ⟨.hbm, 158, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x384x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x384x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x384x4096 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRegion0Kit.lean ====
/- The first pipeline (layer norm backward and quantiser): when its windows are fetched and written back, its arrays
   and tables at entry, its staging and scratch memrefs, the condition of its branch. -/
module

public import proofs.«01_k».proof.Proof.Gen.Kernel.Regions
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%0)) is fetched at the first point only, at any contents of the tables (its index map reads none). -/
theorem fetch0_1 (a : (pcfg0 (F := F)).Adm) : ∀ t : Fin (cfg0 a).N, ((cfg0 a).win 1).fetch t = true ↔ t.val % 3 = 0 :=
  (fun t => Pipeline.Window.fetchOf_const cc0_transform_1 (fun _ _ => rfl) (n := 3) (by decide) t : ∀ t : Fin grid0.N, Pipeline.Window.fetchOf grid0 false cc0_transform_1 t = true ↔ t.val % 3 = 0)
/-- Window 2 (operand 3 (%1)) is fetched at the first point only, at any contents of the tables (its index map reads none). -/
theorem fetch0_2 (a : (pcfg0 (F := F)).Adm) : ∀ t : Fin (cfg0 a).N, ((cfg0 a).win 2).fetch t = true ↔ t.val % 3 = 0 :=
  (fun t => Pipeline.Window.fetchOf_const cc0_transform_2 (fun _ _ => rfl) (n := 3) (by decide) t : ∀ t : Fin grid0.N, Pipeline.Window.fetchOf grid0 false cc0_transform_2 t = true ↔ t.val % 3 = 0)
/-- Window 3 (operand 4 (%2)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (result 0 (%3#0)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)
/-- Window 5 (result 1 (%3#1)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)
/-- Window 6 (result 2 (%3#2)) is written back at the last point only, at any contents of the tables (its index map reads none). -/
theorem flush0_6 (a : (pcfg0 (F := F)).Adm) : ∀ t : Fin (cfg0 a).N, ((cfg0 a).win 6).flush t = true ↔ t.val % 3 = 2 :=
  (fun t => Pipeline.Window.flushOf_const cc0_transform_6 (fun _ _ => rfl) (n := 3) (by decide) rfl t : ∀ t : Fin grid0.N, Pipeline.Window.flushOf grid0 true cc0_transform_6 t = true ↔ t.val % 3 = 2)
/-- Window 7 (result 3 (%3#3)) is written back at the last point only, at any contents of the tables (its index map reads none). -/
theorem flush0_7 (a : (pcfg0 (F := F)).Adm) : ∀ t : Fin (cfg0 a).N, ((cfg0 a).win 7).flush t = true ↔ t.val % 3 = 2 :=
  (fun t => Pipeline.Window.flushOf_const cc0_transform_7 (fun _ _ => rfl) (n := 3) (by decide) rfl t : ∀ t : Fin grid0.N, Pipeline.Window.flushOf grid0 true cc0_transform_7 t = true ↔ t.val % 3 = 2)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ln_backward_quantise (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg3
abbrev htbM0_0 : tbM0_0.IsWhole := Memref.isWhole_whole _

/-- A table memref's buffer on core `c`: its contents type, and it held whole at `f`. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare} f

/-- The table, held whole at the contents it has when the region is entered. -/
theorem PhiT0_eq (c : Dev nD) : (Pipeline.prefHeld pre0 c (fun _ => fullShare) (tbl m) : sProp 𝕄) = iprop(tbPt0 c tbM0_0 (tbl m 0)) := by
  unfold Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 3 = 0 :=
  (fun t => by
    have ht : t.val < 3 := Nat.lt_of_lt_of_eq t.isLt N_0
    have e0 : (grid0.coords t 0).val = t.val / 1 % 3 := Pipeline.Grid.coords_val t 0 (by decide) rfl
    simp only [cond0_0, e0]
    word_cmp
   : ∀ t : Fin grid0.N, cond0_0 (grid0.coords t) ↔ t.val % 3 = 0)

/-! ## The kernel body on any staging memrefs: a subtype the run finds -/

/-- One staging buffer of output window 4, through which its contents are stated (`View.read_writes_of_cover`: the
    choice does not matter). -/
abbrev VO0_4 : View sig .tc .vmem S1x384x4096 .fp8e5m2 := (Memref.whole cc0_stg4_0 : Memref sig .tc .vmem S1x384x4096 .fp8e5m2).view
/-- One staging buffer of output window 5, through which its contents are stated (`View.read_writes_of_cover`: the
    choice does not matter). -/
abbrev VO0_5 : View sig .tc .vmem S1x384x1 .f32 := (Memref.whole cc0_stg5_0 : Memref sig .tc .vmem S1x384x1 .f32).view
/-- One staging buffer of output window 6, through which its contents are stated (`View.read_writes_of_cover`: the
    choice does not matter). -/
abbrev VO0_6 : View sig .tc .vmem S1x4096 .f32 := (Memref.whole cc0_stg6_0 : Memref sig .tc .vmem S1x4096 .f32).view
/-- One staging buffer of output window 7, through which its contents are stated (`View.read_writes_of_cover`: the
    choice does not matter). -/
abbrev VO0_7 : View sig .tc .vmem S1x4096 .f32 := (Memref.whole cc0_stg7_0 : Memref sig .tc .vmem S1x4096 .f32).view
/-- Each window's current staging memref at point `t`, spelled as the pipeline passes it (`bodyAt0`), and its wholeness. -/
abbrev ms0_0 (hO : Ok m) (t : Fin (cfgM m hO).N) : Memref sig .tc .vmem S1x384x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x4096 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x384x4096 .fp8e5m2 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x384x1 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x4096 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x4096 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S384x128 .f32 := Memref.whole cc0_scratch0
abbrev scM0_1 : Memref sig .tc .vmem S384x128 .f32 := Memref.whole cc0_scratch1
abbrev scM0_2 : Memref sig .tc .vmem S8x4096 .f32 := Memref.whole cc0_scratch2
abbrev scM0_3 : Memref sig .tc .vmem S8x4096 .f32 := Memref.whole cc0_scratch3

/-- The scoped buffers of the second pipeline, each whole at some contents: they ride along. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The invariant's scoped buffers with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ otherScoped c) ∗ (∃ r, prngReg c r)) := by
  unfold Pipeline.ΦA otherScoped; rw [scopedRest0_eq]; simp only [scM0_0, scM0_1, scM0_2, scM0_3, owns_whole]; try rfl

end Cert.Kernel.Region0

end
-- ==== Proof.KernelRegion1Body.lean ====
/- The second pipeline (the product): what its body leaves at each tile, from whatever its arrays hold at entry (`Wv`). -/
module

public import proofs.«01_k».proof.Proof.Gen.Kernel.Regions
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic

@[expose] public section

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (Wv : (c : Dev nD) → (b : Ref sig .tc) → Buf (Elt F) ((c : Thread nD τ).loc b))

/-! ## The windows' blocks -/

/-- Window `w`'s block at point `t`, read off its array as the region finds it (`Wv`). -/
def iblk (c : Dev nD) (w : Fin cfg1.W) (t : Fin cfg1.N) : ((cfg1.win w).xblock (cfg1.grid.coords t)).Idx → Elt F (cfg1.win w).elt :=
  ((cfg1.win w).blk t).view.read (Elt F) (Wv c (Pipeline.arrRef spec1 w))

/-- Input window 0's current staging buffer holds its block at every point, fetched there or not, for ANY proof
    data whose array is `Wv`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = Wv c (Pipeline.arrRef spec1 0))
    (hafter : ∀ t, dat.after 0 t = iblk Wv c 0 t) (t : Fin cfg1.N) (d) : dat.before 0 t d = iblk Wv c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `Wv`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = Wv c (Pipeline.arrRef spec1 1))
    (hafter : ∀ t, dat.after 1 t = iblk Wv c 1 t) (t : Fin cfg1.N) (d) : dat.before 1 t d = iblk Wv c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `Wv`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = Wv c (Pipeline.arrRef spec1 2))
    (hafter : ∀ t, dat.after 2 t = iblk Wv c 2 t) (t : Fin cfg1.N) (d) : dat.before 2 t d = iblk Wv c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `Wv`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = Wv c (Pipeline.arrRef spec1 3))
    (hafter : ∀ t, dat.after 3 t = iblk Wv c 3 t) (t : Fin cfg1.N) (d) : dat.before 3 t d = iblk Wv c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S1152x4096 := Rect.unit (s := S1152x4096) ![0, 0] S1152x4096.size inb_S1152x4096_S1152x4096_0_0
abbrev r1_1 : Rect S1024x4096 := Rect.unit (s := S1024x4096) ![0, 0] S1024x4096.size inb_S1024x4096_S1024x4096_0_0
abbrev r1_2 : Rect S1152x1 := Rect.unit (s := S1152x1) ![0, 0] S1152x1.size inb_S1152x1_S1152x1_0_0
abbrev r1_3 : Rect S1x1024 := Rect.unit (s := S1x1024) ![0, 0] S1x1024.size inb_S1x1024_S1x1024_0_0
abbrev r1_4 : Rect S1152x1024 := Rect.unit (s := S1152x1024) ![0, 0] S1152x1024.size inb_S1152x1024_S1152x1024_0_0

/-! ## What the body leaves in each output window's buffer -/

/-- Window 4's staging buffer after the body, from the input windows' blocks: its 1 store as pieces, LAST
    FIRST (Lib/Pipeline/FrameBody.lean `View.canon`; the payloads are the skeleton's). -/
def out1_4 (x0 : Vec F S1152x4096 .fp8e5m2) (x1 : Vec F S1152x1 .f32) (x2 : Vec F S1024x4096 .fp8e4m3) (x3 : Vec F S1x1024 .f32) : Vec F S1152x1024 .bf16 :=
  View.canon [⟨r1_4, k1_pay1 (View.ld x0 r1_0) (View.ld x2 r1_1) (View.ld x1 r1_2) (View.ld x3 r1_3)⟩]

/-- Its stores tile the buffer (checked by evaluation), so they cover it. -/
theorem cover1_4 (p0 : Vec F S1152x1024 .bf16) (y : S1152x1024.Idx) :
    ∃ pc ∈ ([⟨r1_4, p0⟩] : List (View.Piece (Elt F) S1152x1024 .bf16)), y ∈ pc.1.set :=
  View.cover_of_tiled [⟨r1_4, p0⟩] S1152x1024.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel (c : Dev nD) (E : Set ℕ) (i : grid1.Coords) (arg1 : Memref sig .tc .vmem S1152x4096 .fp8e5m2) (harg1 : arg1.IsWhole) (arg2 : Memref sig .tc .vmem S1152x1 .f32) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S1152x1024 .bf16) (harg5 : arg5.IsWhole)
    (x0 : Vec F S1152x4096 .fp8e5m2) (x1 : Vec F S1152x1 .f32) (x2 : Vec F S1024x4096 .fp8e4m3) (x3 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_down_dgrad i arg1 harg1 arg2 harg2 arg3 harg3 arg4 harg4 arg5 harg5) K := by
  simp only [cc1_down_dgrad_eq_skeleton]; unfold cc1_down_dgrad_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the one pipeline on core `c`: the arrays as the region finds them (`Wv`); after the body at
    point `t` each input's buffer at its block and each output's at `out1_W` of the input blocks; the invariant the
    class's (Lib/Pipeline/Frame.lean `ΦA`: the scoped rest and the generator register, untouched); nothing owed;
    full shares. -/
def dats (c : Dev nD) : Dat τ (Elt F) Unit ℕ (UR sig nD τ) ℕ cfg1 c where
  A w := Wv c (Pipeline.arrRef spec1 w)
  after w t := match w with
    | ⟨0, _⟩ => iblk Wv c 0 t
    | ⟨1, _⟩ => iblk Wv c 1 t
    | ⟨2, _⟩ => iblk Wv c 2 t
    | ⟨3, _⟩ => iblk Wv c 3 t
    | ⟨4, _⟩ => out1_4 (iblk Wv c 0 t) (iblk Wv c 1 t) (iblk Wv c 2 t) (iblk Wv c 3 t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dats Wv c).A w = Wv c (Pipeline.arrRef spec1 w) := by
  dsimp only [dats]

/-- What the body leaves, window by window (the proof data's `match` reduced by `dsimp`, never `rfl`: Lib/Pipeline.lean `Dat`). -/
theorem after1_0 (c : Dev nD) (t : Fin cfg1.N) : (dats Wv c).after 0 t = iblk Wv c 0 t := by dsimp only [dats]
theorem after1_1 (c : Dev nD) (t : Fin cfg1.N) : (dats Wv c).after 1 t = iblk Wv c 1 t := by dsimp only [dats]
theorem after1_2 (c : Dev nD) (t : Fin cfg1.N) : (dats Wv c).after 2 t = iblk Wv c 2 t := by dsimp only [dats]
theorem after1_3 (c : Dev nD) (t : Fin cfg1.N) : (dats Wv c).after 3 t = iblk Wv c 3 t := by dsimp only [dats]
theorem after1_4 (c : Dev nD) (t : Fin cfg1.N) : (dats Wv c).after 4 t = out1_4 (iblk Wv c 0 t) (iblk Wv c 1 t) (iblk Wv c 2 t) (iblk Wv c 3 t) := by dsimp only [dats]

/-- Each input's current staging buffer holds its block at every point, fetched there or not (`beforeK_W_of`). -/
theorem before1_0 (c : Dev nD) (t : Fin cfg1.N) (d) : (dats Wv c).before 0 t d = iblk Wv c 0 t :=
  before1_0_of Wv (dats Wv c) (A_eq Wv c 0) (after1_0 Wv c) t d
theorem before1_1 (c : Dev nD) (t : Fin cfg1.N) (d) : (dats Wv c).before 1 t d = iblk Wv c 1 t :=
  before1_1_of Wv (dats Wv c) (A_eq Wv c 1) (after1_1 Wv c) t d
theorem before1_2 (c : Dev nD) (t : Fin cfg1.N) (d) : (dats Wv c).before 2 t d = iblk Wv c 2 t :=
  before1_2_of Wv (dats Wv c) (A_eq Wv c 2) (after1_2 Wv c) t d
theorem before1_3 (c : Dev nD) (t : Fin cfg1.N) (d) : (dats Wv c).before 3 t d = iblk Wv c 3 t :=
  before1_3_of Wv (dats Wv c) (A_eq Wv c 3) (after1_3 Wv c) t d

/-! ## The body obligation, at a generic point -/

/-- What the body is called with at point `t` (Lib/Pipeline.lean `BodyObligation`'s precondition, the windows one by one), -/
def bodyPre (c : Dev nD) (t : Fin cfg1.N) : sProp 𝕄 :=
  iprop((dats Wv c).Φ t.castSucc ∗ (dats Wv c).owesAt () t.castSucc
    ∗ (∃ d, owns (c : Thread nD τ) (st1_0 t) fullShare ((dats Wv c).before 0 t d))
    ∗ (∃ d, owns (c : Thread nD τ) (st1_1 t) fullShare ((dats Wv c).before 1 t d))
    ∗ (∃ d, owns (c : Thread nD τ) (st1_2 t) fullShare ((dats Wv c).before 2 t d))
    ∗ (∃ d, owns (c : Thread nD τ) (st1_3 t) fullShare ((dats Wv c).before 3 t d))
    ∗ (∃ d, owns (c : Thread nD τ) (st1_4 t) fullShare ((dats Wv c).before 4 t d)))

/-- and what it returns. -/
def bodyPost (c : Dev nD) (t : Fin cfg1.N) : sProp 𝕄 :=
  iprop((dats Wv c).Φ t.succ ∗ (dats Wv c).owesAt () t.succ
    ∗ owns (c : Thread nD τ) (st1_0 t) fullShare ((dats Wv c).after 0 t)
    ∗ owns (c : Thread nD τ) (st1_1 t) fullShare ((dats Wv c).after 1 t)
    ∗ owns (c : Thread nD τ) (st1_2 t) fullShare ((dats Wv c).after 2 t)
    ∗ owns (c : Thread nD τ) (st1_3 t) fullShare ((dats Wv c).after 3 t)
    ∗ owns (c : Thread nD τ) (st1_4 t) fullShare ((dats Wv c).after 4 t))

/-- The body at any point: the inputs' memrefs hold their blocks (`before1_W`), so `sound_kernel` applies; the invariant and
    the core's `owes` pass through unread. -/
theorem sound_body (c : Dev nD) (t : Fin cfg1.N) :
    bodyPre Wv c t ⊢ wp frame (wpE (defs₀ (F := F)) Variants.none c none) Set.univ (bodyAt1 t) (fun _ => bodyPost Wv c t) := by
  unfold bodyPre bodyPost bodyAt1
  simp only [before1_0, before1_1, before1_2, before1_3]
  rw [show (dats Wv c).Φ t.succ = (dats Wv c).Φ t.castSucc from rfl,
    show (dats Wv c).owesAt () t.succ = (dats Wv c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (iblk Wv c 0 t) (iblk Wv c 1 t) (iblk Wv c 2 t) (iblk Wv c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dats (F := F) Wv c) (defs₀ (F := F)) Variants.none () Set.univ := fun t => by
  rw [bigSep_W1, bigSep_W1, defs₀_row]
  exact triple_restated (sound_body Wv c t) rfl .rfl fun _ => .rfl

end Cert.Kernel.Region1

end
-- ==== Proof.KernelRun.lean ====
/- The whole run: @main is host reshapes, the first kernel, host reshapes, the second kernel, host reshapes. Given what the first
   kernel's body leaves (proof data `D0` meeting its body obligation), every execution terminates with every counter at zero and
   every unscoped buffer at a closed term. -/
module

public import proofs.«01_k».proof.Proof.KernelRegion0Kit
public import proofs.«01_k».proof.Proof.KernelRegion1Body
public import Idealize.ShloMosaic.Lib.Pipeline.RegionArraysTS
public import Idealize.ShloMosaic.Lib.Pipeline.RegionArraysS
public import Idealize.ShloMosaic.Lib.Pipeline.FrameTail

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first kernel's side needs: proof data over the arrays as the host operations left them, the table and the generator
    register in the invariant, nothing owed, full shares, and the body's obligation. -/
structure First where
  hO : Region0.Ok (F := F) m
  dat : (c : Dev nD) → Dat τ (Elt F) Unit ℕ (UR sig nD τ) ℕ (Region0.cfgM m hO) c
  hA : ∀ c w, (dat c).A w = Region0.V m c (Pipeline.arrRef spec0 w)
  hΦ : ∀ c t, (dat c).Φ t = iprop(Pipeline.ΦA spec0 c ∗ Pipeline.prefHeld pre0 c (fun _ => fullShare) (Region0.tbl m))
  hq : ∀ c w, (dat c).q w = fullShare
  howed : ∀ c t, (dat c).owed t = 0
  hrec : ∀ c, (dat c).recorded 0 = Set.univ
  hbody : ∀ c, BodyObligation (dat c) (defs₀ (F := F)) Variants.none () Set.univ

variable (D : First (F := F) m)

/-- The unscoped buffers after the first host stretch, -/
def W1 (c : Dev nD) : Valuation τ sig (Elt F) := StableHlo.after hostOps0 (fun b => m (c, b))
/-- after the first kernel, -/
def W2 (c : Dev nD) : Valuation τ sig (Elt F) := Pipeline.afterRegion (D.dat c) (W1 m c)
/-- after the second host stretch, -/
def W3 (c : Dev nD) : Valuation τ sig (Elt F) := StableHlo.after hostOps1 (W2 m D c)
/-- the second kernel's proof data, -/
abbrev dat1 (c : Dev nD) : Dat τ (Elt F) Unit ℕ (UR sig nD τ) ℕ cfg1 c := Region1.dats (fun c b => W3 m D c (Proc.devRef .tc b)) c
/-- after the second kernel, -/
def W4 (c : Dev nD) : Valuation τ sig (Elt F) := Pipeline.afterRegion (dat1 m D c) (W3 m D c)
/-- and at the end. -/
def W5 (c : Dev nD) : Valuation τ sig (Elt F) := StableHlo.after hostOps2 (W4 m D c)

/-- The tables' contents, pipeline by pipeline: the second has none. -/
def adms : (p : Fin 2) → (pcfgs (F := F) p).Adm
  | ⟨0, _⟩ => Region0.adm m D.hO
  | ⟨1, _⟩ => cfg1.toPCfg_adm

/-- The proof data of both pipelines. -/
def pdats : (p : Fin 2) → (c : Dev nD) → Dat τ (Elt F) Unit ℕ (UR sig nD τ) ℕ (Pipeline.pin (pcfgs (F := F)) (adms m D) p) c
  | ⟨0, _⟩ => fun c => D.dat c
  | ⟨1, _⟩ => fun c => dat1 m D c

/-- No wait is levelled: the cores owe nothing. -/
abbrev L : GSem nD τ sig → Finset Unit := fun g => if g.1.2 = .tc then Finset.univ else ∅
abbrev lv : GSem nD τ sig → Unit → ℕ := fun _ _ => 0

theorem cut (p : Fin 2) : Pipeline.LevelCut (pcfgs (F := F)) (adms m D) () L lv p (fun _ => 0) (fun _ => 0) where
  hι c w s := by simp [L]
  hιb c w s := le_refl _
  hD c g i h := absurd h (by simp)

/-- The generator register at some state, what rides beside the buffers with the core owing nothing. -/
abbrev gen (c : Dev nD) : sProp 𝕄 := iprop(∃ r, prngReg c r)
abbrev rest (c : Dev nD) : sProp 𝕄 := iprop((∃ Wd, owes (c : Thread nD τ) (0 : CellTallies nD τ sig Unit) Wd) ∗ gen c ∗ emp)

/-- The first kernel's region. -/
def reg0 : RegionSeg (pcfgs (F := F)) (adms m D) (pdats m D) () defs₀ Variants.none L lv 0 :=
  RegionSeg.ofHeldInT (pcfgs (F := F)) (adms m D) (pdats m D) () defs₀ Variants.none L lv 0 (fun _ => 0) (Pipeline.ucRefs τ sig) gen gen launch0
    (fun c => (D.hbody c).loose) (fun c t => D.howed c t) (fun c => D.hrec c)
    (fun c w => (D.dat c).share_full (D.hq c) w)
    (fun c => by
      rw [show (pdats m D 0 c).Φ 0 = _ from D.hΦ c 0]
      exact .rfl)
    (fun c => by
      rw [show (pdats m D 0 c).Φ (Fin.last _) = _ from D.hΦ c (Fin.last _)]
      exact .rfl)
    (fun _ => 0) (cut m D 0) (fun _ => iprop(emp)) (W1 m)
    (fun c w => D.hA c w)
    (fun c k => (Region0.V_pre m c k).symm)

/-- The second kernel's region. -/
def reg1 : RegionSeg (pcfgs (F := F)) (adms m D) (pdats m D) () defs₀ Variants.none L lv 1 :=
  RegionSeg.ofHeldIn (pcfgs (F := F)) (adms m D) (pdats m D) () defs₀ Variants.none L lv 1 (fun _ => 0) (Pipeline.ucRefs τ sig) gen gen launch1 rfl
    (fun c => (Region1.body_obligation _ c).loose) (fun c t => rfl) (fun c => rfl)
    (fun c w => (dat1 m D c).share_full (fun _ => rfl) w)
    (fun c => .rfl) (fun c => .rfl)
    (fun _ => 0) (cut m D 1) (fun _ => iprop(emp)) (W3 m D)
    (fun c w => Region1.A_eq (fun c b => W3 m D c (Proc.devRef .tc b)) c w)

/-- The host stretches, each over the unscoped buffers. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) rest
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m D) rest
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m D) rest

/-- @main's items as segments. -/
abbrev segs : List (Seg (pcfgs (F := F)) (adms m D) (pdats m D) () defs₀ Variants.none L lv) :=
  [.host (host0 m), .region (reg0 m D), .host (host1 m D), .region (reg1 m D), .host (host2 m D)]

theorem unscoped0 : ∀ w : Fin 8, (Pipeline.arrRef spec0 w).isScoped = false := by decide
theorem unscoped1 : ∀ w : Fin 5, (Pipeline.arrRef spec1 w).isScoped = false := by decide
theorem unscopedT : ∀ k : Fin 1, (pre0.ref k).isScoped = false := by decide

/-- Each region's links to the host stretches around it. -/
theorem pre0 (c : Dev nD) : iprop(StableHlo.held (c.tc : Thread nD τ) (Pipeline.ucRefs τ sig) (W1 m c) ∗ rest c) ⊢ (reg0 m D).pre c := by
  have hS : Pipeline.arrRefs (τ := τ) (pcfgs (F := F) 0).spec ⊆ Pipeline.ucRefs τ sig := Pipeline.arrRefs_sub_ucRefs _ unscoped0
  have hS' : Pipeline.tblRefs (τ := τ) (pcfgs (F := F) 0).pre ⊆ Pipeline.ucRefs τ sig := Pipeline.tblRefs_sub_ucRefs _ unscopedT
  unfold reg0
  refine BI.Entails.trans ?_ (RegionSeg.ofHeldInT_pre hS hS' c)
  exact BI.Entails.refl _

theorem post0 (c : Dev nD) : (reg0 m D).post c ⊢ iprop(StableHlo.held (c.tc : Thread nD τ) (Pipeline.ucRefs τ sig) (W2 m D c) ∗ rest c) := by
  have hS : Pipeline.arrRefs (τ := τ) (pcfgs (F := F) 0).spec ⊆ Pipeline.ucRefs τ sig := Pipeline.arrRefs_sub_ucRefs _ unscoped0
  have hS' : Pipeline.tblRefs (τ := τ) (pcfgs (F := F) 0).pre ⊆ Pipeline.ucRefs τ sig := Pipeline.tblRefs_sub_ucRefs _ unscopedT
  unfold reg0
  rw [show W2 m D c = Pipeline.afterRegion (pdats m D 0 c) (W1 m c) from rfl]
  exact RegionSeg.ofHeldInT_post hS hS' c

theorem pre1 (c : Dev nD) : iprop(StableHlo.held (c.tc : Thread nD τ) (Pipeline.ucRefs τ sig) (W3 m D c) ∗ rest c) ⊢ (reg1 m D).pre c := by
  have hS : Pipeline.arrRefs (τ := τ) (pcfgs (F := F) 1).spec ⊆ Pipeline.ucRefs τ sig := Pipeline.arrRefs_sub_ucRefs _ unscoped1
  unfold reg1
  refine BI.Entails.trans ?_ (RegionSeg.ofHeldIn_pre hS c)
  exact BI.Entails.refl _

theorem post1 (c : Dev nD) : (reg1 m D).post c ⊢ iprop(StableHlo.held (c.tc : Thread nD τ) (Pipeline.ucRefs τ sig) (W4 m D c) ∗ rest c) := by
  have hS : Pipeline.arrRefs (τ := τ) (pcfgs (F := F) 1).spec ⊆ Pipeline.ucRefs τ sig := Pipeline.arrRefs_sub_ucRefs _ unscoped1
  unfold reg1
  rw [show W4 m D c = Pipeline.afterRegion (pdats m D 1 c) (W3 m D c) from rfl]
  exact RegionSeg.ofHeldIn_post hS c

set_option backward.isDefEq.respectTransparency.types false in
/-- Every weakly fair execution of @main terminates; at the end every unscoped buffer holds `W5` and every counter is zero. -/
theorem run : θ_run defs (onTc (τ := τ) (main (F := F))) ⟨m, fun _ => 0, ρ⟩ (fun r =>
    (∀ (c : Dev nD) (b : Ref sig .tc), b.isScoped = false → r.2.mem ((c.tc : Thread nD τ).loc b) = W5 m D c (Proc.devRef .tc b))
      ∧ r.2.sem = fun _ => 0) := by
  refine Pipeline.θ_run_regions_kit_sems (pcfgs (F := F)) (adms m D) (pdats m D) () (cellOf_inj (adms m D)) emb₁ defs₀ Variants.none L lv m ρ main
    (segs m D)
    (fun c Q => by
      rewrite [main_chain c, Seg.run_eq_chain,
        show (segs m D).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (by simp only [segs, Seg.pipes_host, Seg.pipes_region, Seg.pipes_nil]; decide)
    (O₀ := 0) (hL := fun g h => if_neg h)
    (G := fun _ => iprop(emp)) (u₀ := initOf (Pipeline.cells (Pipeline.pin (pcfgs (F := F)) (adms m D)) (cellOf_inj (adms m D))) (Pipeline.launchToks (Pipeline.pin (pcfgs (F := F)) (adms m D)) (cellOf_inj (adms m D))))
    (hu₀ := by
      iintro Hu; imodintro
      isplitl [Hu]
      · iapply (show (ownU _ : sProp 𝕄) ⊢ BI.own (emb₁ (initOf (Pipeline.cells (Pipeline.pin (pcfgs (F := F)) (adms m D)) (cellOf_inj (adms m D))) (Pipeline.launchToks (Pipeline.pin (pcfgs (F := F)) (adms m D)) (cellOf_inj (adms m D))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (fun b => m (c, b)) ∗ rest c))
    (Tₙ := fun c => StableHlo.held (c.tc : Thread nD τ) (Pipeline.ucRefs τ sig) (W5 m D c))
    (hch := ⟨fun _ => .rfl,
      pre0 m D, post0 m D, pre1 m D, post1 m D,
      fun c => (show iprop(StableHlo.held (c.tc : Thread nD τ) (Pipeline.ucRefs τ sig) (W5 m D c)
          ∗ (∃ Wd, owes (c : Thread nD τ) (0 : CellTallies nD τ sig Unit) Wd) ∗ gen c ∗ emp) ⊢ (_ : sProp 𝕄) from by
        iintro ⟨Hh, HO, -, -⟩
        isplitl [Hh] <;> iassumption)⟩)
    (hinit := by
      refine Pipeline.initEach L lv fun c => ?_
      rw [show unscopedBufs c (fun b => m ((c.tc : Thread nD τ).loc b)) = StableHlo.held (c.tc : Thread nD τ) (Pipeline.ucRefs τ sig) (fun b => m (c, b))
          from Pipeline.unscopedBufs_held (Ix := Unit) (Name := ℕ) (U := UR sig nD τ) (Lvl := ℕ) c (fun b => m (c, b))]
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c.tc : Thread nD τ).1, b) = W5 m D c b)
    (hfin := fun c s' => by
      unfold StableHlo.held
      iintro ⟨Hh, HSI⟩
      ihave Hr := (pointsTo_read_all (Pipeline.ucRefs τ sig) (fun b => ((c.tc : Thread nD τ).1, b)) (W5 m D c) s') $$ [Hh HSI]
      · isplitl [Hh] <;> iassumption
      imodintro; iexact Hr)
    (hQ := fun _ h hz => ⟨fun c b hb => h c (Proc.devRef .tc b) (Pipeline.devRef_mem_ucRefs hb), funext fun g => hz g (.inr (regions_no_unscoped g.2))⟩)

end Cert.Kernel.Run

end
-- ==== Proof.KernelRegion0Values.lean ====
/- What one run of the first kernel's body computes, as functions of its input blocks: the row statistics strip by
   strip, the running masked sum of the normalised rows, the four outputs; and what the two counted loops leave in the
   buffers they write, read back as these functions. -/
module

public import proofs.«01_k».proof.Proof.KernelRegion0Kit
public import Idealize.ShloMosaic.Lib.Pointwise

@[expose] public section

set_option maxRecDepth 16384

noncomputable section

namespace Cert.Kernel.Region0

open Idealize.ShloMosaic Idealize.ShloMosaic.TcCoe
open Cert.Kernel.Gen

variable {F : FTy → Type} [FloatOps F]

theorem trips1 : k0_t1_loop.trips = 12 := by decide +kernel
theorem trips2 : k0_t2_loop.trips = 12 := by decide +kernel

/-- Both loops step through the same strips of 32 rows. -/
theorem off2_eq (k : Fin k0_t1_loop.trips) : k0_off2 k = ![0, 32 * k.val, 0] := by
  revert k; decide +kernel
theorem off3_eq (k : Fin k0_t1_loop.trips) : k0_off3 k = ![32 * k.val, 0] := by
  revert k; decide +kernel
theorem off4_eq (k : Fin k0_t2_loop.trips) : k0_off4 k = ![32 * k.val, 0] := by
  revert k; decide +kernel
theorem off5_eq (k : Fin k0_t2_loop.trips) : k0_off5 k = ![0, 32 * k.val, 0] := by
  revert k; decide +kernel
theorem off6_eq (k : Fin k0_t2_loop.trips) : k0_off6 k = ![0, 32 * k.val, 0] := by
  revert k; decide +kernel

/-- Rows `32 k` to `32 k + 31` of a sequence block. -/
def strip (x : Vec F S1x384x4096 .bf16) (k : ℕ) (hk : k < 12) : Vec F S1x32x4096 .bf16 := fun j =>
  x (ix3 (j 0) ⟨32 * k + (j 1).val, by have h : (j 1).val < 32 := (j 1).isLt; omega⟩ (j 2))

/-- The masked sum of the normalised rows after `n` strips, by row within an eighth of a strip. -/
def acc (v1 : Elt F .i32) (x : Vec F S1x384x4096 .bf16) : ℕ → Vec F S8x4096 .f32
  | 0 => k0_pay21
  | n + 1 => if h : n < k0_t1_loop.trips then k0_pay15 v1 0#32 1#32 ⟨n, h⟩ (strip x n (by rw [trips1] at h; exact h)) (acc v1 x n)
      else acc v1 x n

/-- The row means, one per row and lane. -/
def muV (x : Vec F S1x384x4096 .bf16) : Vec F S384x128 .f32 := fun y =>
  k0_pay22 (k0_pay16 (strip x ((y 0).val / 32) (by have h : (y 0).val < 384 := (y 0).isLt; omega)))
    (ix2 ⟨(y 0).val % 32, by omega⟩ (y 1))

/-- The rows' inverse standard deviations, one per row and lane. -/
def rsV (x : Vec F S1x384x4096 .bf16) : Vec F S384x128 .f32 := fun y =>
  k0_pay23 (k0_pay14 (strip x ((y 0).val / 32) (by have h : (y 0).val < 384 := (y 0).isLt; omega)))
    (ix2 ⟨(y 0).val % 32, by omega⟩ (y 1))

/-- One strip's column 0 of a statistics block. -/
def col (s : Vec F S384x128 .f32) (k : ℕ) (hk : k < 12) : Vec F S32x1 .f32 := fun j =>
  s (ix2 ⟨32 * k + (j 0).val, by have h : (j 0).val < 32 := (j 0).isLt; omega⟩ ⟨(j 1).val, by have h : (j 1).val < 1 := (j 1).isLt; omega⟩)

/-- One strip of the input gradient; -/
def dhS (v1 : Elt F .i32) (v12 v36 v37 : FVec F S1x4096 .f32) (x : Vec F S1x384x4096 .bf16) (k : ℕ) (hk : k < 12) : FVec F S32x4096 .f32 :=
  k0_pay17 v1 (k0_pay2 v12 v36 v37) (k0_pay3 v12 v36 v37) 0#32 1#32 ⟨k, by rw [trips2]; exact hk⟩ (col (muV x) k hk) (col (rsV x) k hk) (strip x k hk)

/-- which powers of two each of its rows' largest value stays below; -/
def mkS (v1 : Elt F .i32) (v12 v36 v37 : FVec F S1x4096 .f32) (x : Vec F S1x384x4096 .bf16) (k : ℕ) (hk : k < 12) : IVec S32x256 1 :=
  k0_pay18 v1 (k0_pay2 v12 v36 v37) (k0_pay3 v12 v36 v37) 0#32 1#32 ⟨k, by rw [trips2]; exact hk⟩ (col (muV x) k hk) (col (rsV x) k hk) (strip x k hk)

/-- the powers' numbers. -/
def lanes : IVec S1x256 32 := iota .tc S1x256 32 [1] iota_S1x256_d1_w32

/-- The codes of a block: its strips'. -/
def codesV (v1 : Elt F .i32) (v12 v36 v37 : FVec F S1x4096 .f32) (x : Vec F S1x384x4096 .bf16) : Vec F S1x384x4096 .fp8e5m2 := fun y =>
  have h : (y 1).val < 384 := (y 1).isLt
  k0_pay9 (dhS v1 v12 v36 v37 x ((y 1).val / 32) (by omega)) lanes (mkS v1 v12 v36 v37 x ((y 1).val / 32) (by omega)) k0_pay19
    (ix3 (y 0) ⟨(y 1).val % 32, by omega⟩ (y 2))

/-- The scales of a block: its strips'. -/
def scalesV (v1 : Elt F .i32) (v12 v36 v37 : FVec F S1x4096 .f32) (x : Vec F S1x384x4096 .bf16) : Vec F S1x384x1 .f32 := fun y =>
  have h : (y 1).val < 384 := (y 1).isLt
  k0_pay10 lanes (mkS v1 v12 v36 v37 x ((y 1).val / 32) (by omega)) k0_pay19
    (ix3 (y 0) ⟨(y 1).val % 32, by omega⟩ (y 2))

end Cert.Kernel.Region0

end
-- ==== Proof.KernelRegion0Loops.lean ====
/- What the first kernel body's two counted loops leave in the buffers they write. -/
module

public import proofs.«01_k».proof.Proof.KernelRegion0Values
public import Idealize.ShloMosaic.Lib.VecWindow

@[expose] public section

set_option maxRecDepth 16384

noncomputable section

namespace Cert.Kernel.Region0

open Idealize.ShloMosaic Idealize.ShloMosaic.TcCoe
open Cert.Kernel.Gen

variable {F : FTy → Type} [FloatOps F]

/-- A load of a strip of the sequence block reads that strip. -/
theorem ld_off2 (x : Vec F S1x384x4096 .bf16) (k : Fin k0_t1_loop.trips) (hk : k.val < 12) :
    View.ld (Val := Elt F) x (Rect.unit (s := S1x384x4096) (k0_off2 k) S1x32x4096.size (k0_off2_inb k)) = strip x k.val hk := by
  funext j
  refine congrArg x (funext fun a => Fin.ext ?_)
  have h := congrFun (off2_eq k) a
  show k0_off2 k a + 1 * (j a).val = _
  rw [h]
  match a with
  | ⟨0, _⟩ => simp
  | ⟨1, _⟩ => simp
  | ⟨2, _⟩ => simp
theorem ld_off5 (x : Vec F S1x384x4096 .bf16) (k : Fin k0_t2_loop.trips) (hk : k.val < 12) :
    View.ld (Val := Elt F) x (Rect.unit (s := S1x384x4096) (k0_off5 k) S1x32x4096.size (k0_off5_inb k)) = strip x k.val hk := by
  funext j
  refine congrArg x (funext fun a => Fin.ext ?_)
  have h := congrFun (off5_eq k) a
  show k0_off5 k a + 1 * (j a).val = _
  rw [h]
  match a with
  | ⟨0, _⟩ => simp
  | ⟨1, _⟩ => simp
  | ⟨2, _⟩ => simp
/-- A load of a strip's first column of a statistics block reads that column. -/
theorem ld_off4 (s : Vec F S384x128 .f32) (k : Fin k0_t2_loop.trips) (hk : k.val < 12) :
    View.ld (Val := Elt F) s (Rect.unit (s := S384x128) (k0_off4 k) S32x1.size (k0_off4_inb k)) = col s k.val hk := by
  funext j
  refine congrArg s (funext fun a => Fin.ext ?_)
  have h := congrFun (off4_eq k) a
  show k0_off4 k a + 1 * (j a).val = _
  rw [h]
  match a with
  | ⟨0, _⟩ => simp
  | ⟨1, _⟩ => simp

section Trips

variable (c : Dev nD) (i : grid0.Coords) (arg1 : Memref sig .tc .smem S3 .i32) (harg1 : arg1.IsWhole) (arg2 : Memref sig .tc .vmem S1x384x4096 .bf16) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S1x384x4096 .fp8e5m2) (harg6 : arg6.IsWhole) (arg7 : Memref sig .tc .vmem S1x384x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S8x4096 .f32) (harg12 : arg12.IsWhole) (arg13 : Memref sig .tc .vmem S8x4096 .f32) (harg13 : arg13.IsWhole)

/-- One trip of the first loop writes the strip's means, -/
theorem trip1_10 (v1 : Elt F .i32) (X2 : BufTy.Contents (Elt F) arg2.view.ty) (k : Fin k0_t1_loop.trips) (hk : k.val < 12) f10 f11 f12 :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v1 X2 k).1 f10 f11 f12
      = [⟨Rect.unit (s := S384x128) (k0_off3 k) S32x128.size (k0_off3_inb k), k0_pay22 (k0_pay16 (strip (arg2.view.read (Elt F) X2) k.val hk))⟩] := by
  unfold trip_k0_t1; dsimp only; unfold trip_k0_t1.sl.r_1
  rw [← ld_off2 _ k hk]; rfl

/-- its inverse deviations, -/
theorem trip1_11 (v1 : Elt F .i32) (X2 : BufTy.Contents (Elt F) arg2.view.ty) (k : Fin k0_t1_loop.trips) (hk : k.val < 12) f10 f11 f12 :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v1 X2 k).2.1 f10 f11 f12
      = [⟨Rect.unit (s := S384x128) (k0_off3 k) S32x128.size (k0_off3_inb k), k0_pay23 (k0_pay14 (strip (arg2.view.read (Elt F) X2) k.val hk))⟩] := by
  unfold trip_k0_t1; dsimp only; unfold trip_k0_t1.sl.r
  rw [← ld_off2 _ k hk]; rfl

/-- and the running sum with the strip added. -/
theorem trip1_12 (v1 : Elt F .i32) (X2 : BufTy.Contents (Elt F) arg2.view.ty) (k : Fin k0_t1_loop.trips) (hk : k.val < 12) f10 f11 f12 :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v1 X2 k).2.2.1 f10 f11 f12
      = [⟨Rect.unit (s := S8x4096) ![0, 0] S8x4096.size inb_S8x4096_S8x4096_0_0,
          k0_pay15 v1 0#32 1#32 k (strip (arg2.view.read (Elt F) X2) k.val hk) (arg12.view.read (Elt F) f12)⟩] := by
  unfold trip_k0_t1; dsimp only
  have h := View.readAt_full (Val := Elt F) arg12.view f12 inb_S8x4096_S8x4096_0_0
  rw [← ld_off2 _ k hk, ← h]; rfl

/-- One trip of the second loop writes the strip's codes, -/
theorem trip2_6 (v1 : Elt F .i32) (v12 v36 v37 : FVec F S1x4096 .f32) (x : Vec F S1x384x4096 .bf16) (X2 : BufTy.Contents (Elt F) arg2.view.ty) (X10 : BufTy.Contents (Elt F) arg10.view.ty) (X11 : BufTy.Contents (Elt F) arg11.view.ty)
    (h2 : arg2.view.read (Elt F) X2 = x) (h10 : arg10.view.read (Elt F) X10 = muV x) (h11 : arg11.view.read (Elt F) X11 = rsV x)
    (k : Fin k0_t2_loop.trips) (hk : k.val < 12) :
    (trip_k0_t2 (F := F) Variants.none c none i arg1 harg1 arg2 harg2 arg3 harg3 arg4 harg4 arg5 harg5 arg6 harg6 arg7 harg7 arg8 harg8 arg9 harg9 arg10 harg10 arg11 harg11 arg12 harg12 arg13 harg13 v1 v12 v36 v37 X2 X10 X11 k).1
      = [⟨Rect.unit (s := S1x384x4096) (k0_off5 k) S1x32x4096.size (k0_off5_inb k), k0_pay9 (dhS v1 v12 v36 v37 x k.val hk) lanes (mkS v1 v12 v36 v37 x k.val hk) k0_pay19⟩] := by
  unfold trip_k0_t2; dsimp only; unfold trip_k0_t2.sl.r_1 trip_k0_t2.sl.r
  simp only [View.readAt_eq_ld, h2, h10, h11, ld_off4 _ k hk, ld_off5 _ k hk]
  rfl

/-- and its scales. -/
theorem trip2_7 (v1 : Elt F .i32) (v12 v36 v37 : FVec F S1x4096 .f32) (x : Vec F S1x384x4096 .bf16) (X2 : BufTy.Contents (Elt F) arg2.view.ty) (X10 : BufTy.Contents (Elt F) arg10.view.ty) (X11 : BufTy.Contents (Elt F) arg11.view.ty)
    (h2 : arg2.view.read (Elt F) X2 = x) (h10 : arg10.view.read (Elt F) X10 = muV x) (h11 : arg11.view.read (Elt F) X11 = rsV x)
    (k : Fin k0_t2_loop.trips) (hk : k.val < 12) :
    (trip_k0_t2 (F := F) Variants.none c none i arg1 harg1 arg2 harg2 arg3 harg3 arg4 harg4 arg5 harg5 arg6 harg6 arg7 harg7 arg8 harg8 arg9 harg9 arg10 harg10 arg11 harg11 arg12 harg12 arg13 harg13 v1 v12 v36 v37 X2 X10 X11 k).2.1
      = [⟨Rect.unit (s := S1x384x1) (k0_off6 k) S1x32x1.size (k0_off6_inb k), k0_pay10 lanes (mkS v1 v12 v36 v37 x k.val hk) k0_pay19⟩] := by
  unfold trip_k0_t2; dsimp only; unfold trip_k0_t2.sl.r_1
  simp only [View.readAt_eq_ld, h2, h10, h11, ld_off4 _ k hk, ld_off5 _ k hk]
  rfl

/-- After `n` strips of the first loop: the means and inverse deviations of the rows passed, the sum over them. -/
theorem loop1 (v1 : Elt F .i32) (x : Vec F S1x384x4096 .bf16) (X2 : BufTy.Contents (Elt F) arg2.view.ty) (h2 : arg2.view.read (Elt F) X2 = x)
    (G10 : BufTy.Contents (Elt F) arg10.view.ty) (G11 : BufTy.Contents (Elt F) arg11.view.ty) (G12 : BufTy.Contents (Elt F) arg12.view.ty)
    (h12 : arg12.view.read (Elt F) G12 = k0_pay21) : ∀ n : ℕ, n ≤ 12 →
    (∀ y : S384x128.Idx, (y 0).val < 32 * n → arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v1 X2 G10 G11 G12 n).1) y = muV x y)
    ∧ (∀ y : S384x128.Idx, (y 0).val < 32 * n → arg11.view.read (Elt F) (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v1 X2 G10 G11 G12 n).2.1) y = rsV x y)
    ∧ arg12.view.read (Elt F) (arg12.view.writes (Elt F) G12 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v1 X2 G10 G11 G12 n).2.2) = acc v1 x n
  | 0, _ => ⟨fun y h => absurd h (by omega), fun y h => absurd h (by omega), h12⟩
  | n + 1, hn => by
    obtain ⟨i10, i11, i12⟩ := loop1 v1 x X2 h2 G10 G11 G12 h12 n (by omega)
    have hk : n < k0_t1_loop.trips := by rw [trips1]; omega
    have hs := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 v1 X2 G10 G11 G12 ⟨n, hk⟩
    dsimp only at hs
    rw [hs]
    dsimp only
    rw [trip1_10 (hk := by show n < 12; omega), trip1_11 (hk := by show n < 12; omega), trip1_12 (hk := by show n < 12; omega), h2, i12]
    have ho := off3_eq ⟨n, hk⟩
    refine ⟨fun y hy => ?_, fun y hy => ?_, ?_⟩
    · by_cases hy' : (y 0).val < 32 * n
      · rw [List.singleton_append, View.read_writes_cons_miss_of_axis _ _ _ _ y 0 (32 * n) 32 (congrFun ho 0) rfl rfl (Or.inl hy')]
        exact i10 y hy'
      · have e : (y 0).val / 32 = n := by omega
        rw [List.singleton_append, View.read_writes_cons_hit_of_coords _ _ _ _ _ (ix2 (n0 := 32) (n1 := 128) ⟨(y 0).val % 32, by omega⟩ (y 1)) y (fun a => by
          match a with
          | ⟨0, _⟩ => show (y 0).val = k0_off3 ⟨n, hk⟩ 0 + 1 * ((y 0).val % 32); rw [ho]; show (y 0).val = 32 * n + 1 * ((y 0).val % 32); omega
          | ⟨1, _⟩ => show (y 1).val = k0_off3 ⟨n, hk⟩ 1 + 1 * (y 1).val; rw [ho]; show (y 1).val = 0 + 1 * (y 1).val; omega)]
        subst e; rfl
    · by_cases hy' : (y 0).val < 32 * n
      · rw [List.singleton_append, View.read_writes_cons_miss_of_axis _ _ _ _ y 0 (32 * n) 32 (congrFun ho 0) rfl rfl (Or.inl hy')]
        exact i11 y hy'
      · have e : (y 0).val / 32 = n := by omega
        rw [List.singleton_append, View.read_writes_cons_hit_of_coords _ _ _ _ _ (ix2 (n0 := 32) (n1 := 128) ⟨(y 0).val % 32, by omega⟩ (y 1)) y (fun a => by
          match a with
          | ⟨0, _⟩ => show (y 0).val = k0_off3 ⟨n, hk⟩ 0 + 1 * ((y 0).val % 32); rw [ho]; show (y 0).val = 32 * n + 1 * ((y 0).val % 32); omega
          | ⟨1, _⟩ => show (y 1).val = k0_off3 ⟨n, hk⟩ 1 + 1 * (y 1).val; rw [ho]; show (y 1).val = 0 + 1 * (y 1).val; omega)]
        subst e; rfl
    · funext y
      rw [List.singleton_append, View.read_writes_cons_hit_of_coords _ _ _ _ _ y y (fun a => by
        match a with
        | ⟨0, _⟩ => show (y 0).val = 0 + 1 * (y 0).val; omega
        | ⟨1, _⟩ => show (y 1).val = 0 + 1 * (y 1).val; omega)]
      rw [acc, dif_pos hk]

/-- Writing the next strip of a block whose earlier rows hold `V`, at what `V` holds there, extends the rows that hold it. -/
theorem next6 (V : S1x384x4096.Idx → Elt F .fp8e5m2) (G6 : BufTy.Contents (Elt F) arg6.view.ty) (k : Fin k0_t2_loop.trips) (hk : k.val < 12)
    (w : S1x32x4096.Idx → Elt F .fp8e5m2) (L : List (View.Piece (Elt F) S1x384x4096 .fp8e5m2))
    (hw : ∀ y : S1x384x4096.Idx, (y 1).val / 32 = k.val → w (ix3 (n0 := 1) (n1 := 32) (n2 := 4096) (y 0) ⟨(y 1).val % 32, by omega⟩ (y 2)) = V y)
    (ih : ∀ y : S1x384x4096.Idx, (y 1).val < 32 * k.val → arg6.view.read (Elt F) (arg6.view.writes (Elt F) G6 L) y = V y)
    (y : S1x384x4096.Idx) (hy : (y 1).val < 32 * (k.val + 1)) :
    arg6.view.read (Elt F) (arg6.view.writes (Elt F) G6 ([⟨Rect.unit (s := S1x384x4096) (k0_off5 k) S1x32x4096.size (k0_off5_inb k), w⟩] ++ L)) y = V y := by
  have ho := off5_eq k
  by_cases hy' : (y 1).val < 32 * k.val
  · rw [List.singleton_append, View.read_writes_cons_miss_of_axis _ _ _ _ y 1 (32 * k.val) 32 (congrFun ho 1) rfl rfl (Or.inl hy')]
    exact ih y hy'
  · have e : (y 1).val / 32 = k.val := by omega
    rw [List.singleton_append]
    refine (View.read_writes_cons_hit_of_coords _ _ _ _ _ (ix3 (n0 := 1) (n1 := 32) (n2 := 4096) (y 0) ⟨(y 1).val % 32, by omega⟩ (y 2)) y (fun a => ?_)).trans (hw y e)
    match a with
    | ⟨0, _⟩ => show (y 0).val = k0_off5 k 0 + 1 * (y 0).val; rw [ho]; show (y 0).val = 0 + 1 * (y 0).val; omega
    | ⟨1, _⟩ => show (y 1).val = k0_off5 k 1 + 1 * ((y 1).val % 32); rw [ho]; show (y 1).val = 32 * k.val + 1 * ((y 1).val % 32); omega
    | ⟨2, _⟩ => show (y 2).val = k0_off5 k 2 + 1 * (y 2).val; rw [ho]; show (y 2).val = 0 + 1 * (y 2).val; omega

/-- The same of the scales' block. -/
theorem next7 (V : S1x384x1.Idx → Elt F .f32) (G7 : BufTy.Contents (Elt F) arg7.view.ty) (k : Fin k0_t2_loop.trips) (hk : k.val < 12)
    (w : S1x32x1.Idx → Elt F .f32) (L : List (View.Piece (Elt F) S1x384x1 .f32))
    (hw : ∀ y : S1x384x1.Idx, (y 1).val / 32 = k.val → w (ix3 (n0 := 1) (n1 := 32) (n2 := 1) (y 0) ⟨(y 1).val % 32, by omega⟩ (y 2)) = V y)
    (ih : ∀ y : S1x384x1.Idx, (y 1).val < 32 * k.val → arg7.view.read (Elt F) (arg7.view.writes (Elt F) G7 L) y = V y)
    (y : S1x384x1.Idx) (hy : (y 1).val < 32 * (k.val + 1)) :
    arg7.view.read (Elt F) (arg7.view.writes (Elt F) G7 ([⟨Rect.unit (s := S1x384x1) (k0_off6 k) S1x32x1.size (k0_off6_inb k), w⟩] ++ L)) y = V y := by
  have ho := off6_eq k
  by_cases hy' : (y 1).val < 32 * k.val
  · rw [List.singleton_append, View.read_writes_cons_miss_of_axis _ _ _ _ y 1 (32 * k.val) 32 (congrFun ho 1) rfl rfl (Or.inl hy')]
    exact ih y hy'
  · have e : (y 1).val / 32 = k.val := by omega
    rw [List.singleton_append]
    refine (View.read_writes_cons_hit_of_coords _ _ _ _ _ (ix3 (n0 := 1) (n1 := 32) (n2 := 1) (y 0) ⟨(y 1).val % 32, by omega⟩ (y 2)) y (fun a => ?_)).trans (hw y e)
    match a with
    | ⟨0, _⟩ => show (y 0).val = k0_off6 k 0 + 1 * (y 0).val; rw [ho]; show (y 0).val = 0 + 1 * (y 0).val; omega
    | ⟨1, _⟩ => show (y 1).val = k0_off6 k 1 + 1 * ((y 1).val % 32); rw [ho]; show (y 1).val = 32 * k.val + 1 * ((y 1).val % 32); omega
    | ⟨2, _⟩ => show (y 2).val = k0_off6 k 2 + 1 * (y 2).val; rw [ho]; show (y 2).val = 0 + 1 * (y 2).val; omega

/-- A strip's codes are the block's codes at the strip's rows; -/
theorem codesV_strip (v1 : Elt F .i32) (v12 v36 v37 : FVec F S1x4096 .f32) (x : Vec F S1x384x4096 .bf16) (n : ℕ) (hn : n < 12) (y : S1x384x4096.Idx) (e : (y 1).val / 32 = n) :
    k0_pay9 (dhS v1 v12 v36 v37 x n hn) lanes (mkS v1 v12 v36 v37 x n hn) k0_pay19 (ix3 (n0 := 1) (n1 := 32) (n2 := 4096) (y 0) ⟨(y 1).val % 32, by omega⟩ (y 2)) = codesV v1 v12 v36 v37 x y := by
  subst e; unfold codesV; rfl

/-- a strip's scales the block's. -/
theorem scalesV_strip (v1 : Elt F .i32) (v12 v36 v37 : FVec F S1x4096 .f32) (x : Vec F S1x384x4096 .bf16) (n : ℕ) (hn : n < 12) (y : S1x384x1.Idx) (e : (y 1).val / 32 = n) :
    k0_pay10 lanes (mkS v1 v12 v36 v37 x n hn) k0_pay19 (ix3 (n0 := 1) (n1 := 32) (n2 := 1) (y 0) ⟨(y 1).val % 32, by omega⟩ (y 2)) = scalesV v1 v12 v36 v37 x y := by
  subst e; unfold scalesV; rfl

/-- After `n` strips of the second loop: the codes of the rows passed; -/
theorem loop2_6 (v1 : Elt F .i32) (v12 v36 v37 : FVec F S1x4096 .f32) (x : Vec F S1x384x4096 .bf16) (X2 : BufTy.Contents (Elt F) arg2.view.ty) (X10 : BufTy.Contents (Elt F) arg10.view.ty) (X11 : BufTy.Contents (Elt F) arg11.view.ty)
    (h2 : arg2.view.read (Elt F) X2 = x) (h10 : arg10.view.read (Elt F) X10 = muV x) (h11 : arg11.view.read (Elt F) X11 = rsV x)
    (G6 : BufTy.Contents (Elt F) arg6.view.ty) (n : ℕ) (hn : n ≤ 12) :
    ∀ y : S1x384x4096.Idx, (y 1).val < 32 * n → arg6.view.read (Elt F) (arg6.view.writes (Elt F) G6 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 v1 v12 v36 v37 X2 X10 X11 n).1) y = codesV v1 v12 v36 v37 x y := by
  induction n with
  | zero => exact fun y h => absurd h (by omega)
  | succ n ih =>
    have hk : n < k0_t2_loop.trips := by rw [trips2]; omega
    have hs := congrArg Prod.fst (pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 v1 v12 v36 v37 X2 X10 X11 ⟨n, hk⟩)
    have ht := trip2_6 c i arg1 harg1 arg2 harg2 arg3 harg3 arg4 harg4 arg5 harg5 arg6 harg6 arg7 harg7 arg8 harg8 arg9 harg9 arg10 harg10 arg11 harg11 arg12 harg12 arg13 harg13 v1 v12 v36 v37 x X2 X10 X11 h2 h10 h11 ⟨n, hk⟩ (by show n < 12; omega)
    intro y hy
    refine (congrArg (fun L => arg6.view.read (Elt F) (arg6.view.writes (Elt F) G6 L) y) (hs.trans (congrArg (· ++ _) ht))).trans ?_
    exact next6 arg6 (codesV v1 v12 v36 v37 x) G6 ⟨n, hk⟩ (by show n < 12; omega) _ _ (fun y e => codesV_strip v1 v12 v36 v37 x n (by omega) y e) (ih (by omega)) y hy

/-- and the scales. -/
theorem loop2_7 (v1 : Elt F .i32) (v12 v36 v37 : FVec F S1x4096 .f32) (x : Vec F S1x384x4096 .bf16) (X2 : BufTy.Contents (Elt F) arg2.view.ty) (X10 : BufTy.Contents (Elt F) arg10.view.ty) (X11 : BufTy.Contents (Elt F) arg11.view.ty)
    (h2 : arg2.view.read (Elt F) X2 = x) (h10 : arg10.view.read (Elt F) X10 = muV x) (h11 : arg11.view.read (Elt F) X11 = rsV x)
    (G7 : BufTy.Contents (Elt F) arg7.view.ty) (n : ℕ) (hn : n ≤ 12) :
    ∀ y : S1x384x1.Idx, (y 1).val < 32 * n → arg7.view.read (Elt F) (arg7.view.writes (Elt F) G7 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 v1 v12 v36 v37 X2 X10 X11 n).2) y = scalesV v1 v12 v36 v37 x y := by
  induction n with
  | zero => exact fun y h => absurd h (by omega)
  | succ n ih =>
    have hk : n < k0_t2_loop.trips := by rw [trips2]; omega
    have hs := congrArg Prod.snd (pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 v1 v12 v36 v37 X2 X10 X11 ⟨n, hk⟩)
    have ht := trip2_7 c i arg1 harg1 arg2 harg2 arg3 harg3 arg4 harg4 arg5 harg5 arg6 harg6 arg7 harg7 arg8 harg8 arg9 harg9 arg10 harg10 arg11 harg11 arg12 harg12 arg13 harg13 v1 v12 v36 v37 x X2 X10 X11 h2 h10 h11 ⟨n, hk⟩ (by show n < 12; omega)
    intro y hy
    refine (congrArg (fun L => arg7.view.read (Elt F) (arg7.view.writes (Elt F) G7 L) y) (hs.trans (congrArg (· ++ _) ht))).trans ?_
    exact next7 arg7 (scalesV v1 v12 v36 v37 x) G7 ⟨n, hk⟩ (by show n < 12; omega) _ _ (fun y e => scalesV_strip v1 v12 v36 v37 x n (by omega) y e) (ih (by omega)) y hy

end Trips

end Cert.Kernel.Region0

end
-- ==== Proof.KernelRegion0Outs.lean ====
/- One run of the first kernel's body: what it is called with, what it leaves, as functions of the input blocks. -/
module

public import proofs.«01_k».proof.Proof.KernelRegion0Loops

@[expose] public section

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The length of the sequence that grid point `i` works on: its word of the table. -/
def len0 (c : Dev nD) (i : grid0.Coords) (xt0 : TbBuf0 (F := F) c tbM0_0) : Elt F .i32 :=
  View.readAt (Elt F) tbM0_0.view (Rect.unit (s := S3) (k0_off1 i) S1.size (k0_off1_inb i)).toLoadRect xt0 (Shape.Idx.first (Nat.one_pos))

/-- The pooled gradient before the division by the length. -/
def dp0 (v1 : Elt F .i32) (x0 : Vec F S1x384x4096 .bf16) (x1 x2 : Vec F S1x4096 .f32) (x3 : Vec F S1x1x4096 .f32) : FVec F S1x4096 .f32 :=
  k0_pay26 v1 (acc v1 x0 12) x1 x2 x3

/-- The four outputs: codes, -/
def codes0 (v1 : Elt F .i32) (x0 : Vec F S1x384x4096 .bf16) (x1 x2 : Vec F S1x4096 .f32) (x3 : Vec F S1x1x4096 .f32) : Vec F S1x384x4096 .fp8e5m2 :=
  codesV v1 (k0_pay25 x1) (dp0 v1 x0 x1 x2 x3) (k0_pay27 v1) x0
/-- scales, -/
def scales0 (v1 : Elt F .i32) (x0 : Vec F S1x384x4096 .bf16) (x1 x2 : Vec F S1x4096 .f32) (x3 : Vec F S1x1x4096 .f32) : Vec F S1x384x1 .f32 :=
  scalesV v1 (k0_pay25 x1) (dp0 v1 x0 x1 x2 x3) (k0_pay27 v1) x0
/-- the scale's gradient added to what was there, -/
def dgamma0 (v1 : Elt F .i32) (x0 : Vec F S1x384x4096 .bf16) (x1 x2 : Vec F S1x4096 .f32) (x3 : Vec F S1x1x4096 .f32) (old : Vec F S1x4096 .f32) : Vec F S1x4096 .f32 :=
  k0_pay6 (k0_pay24 (acc v1 x0 12)) (dp0 v1 x0 x1 x2 x3) (k0_pay27 v1) old
/-- the shift's gradient added to what was there. -/
def dbeta0 (v1 : Elt F .i32) (x0 : Vec F S1x384x4096 .bf16) (x1 x2 : Vec F S1x4096 .f32) (x3 : Vec F S1x1x4096 .f32) (old : Vec F S1x4096 .f32) : Vec F S1x4096 .f32 :=
  k0_pay7 (k0_pay20 v1) (dp0 v1 x0 x1 x2 x3) (k0_pay27 v1) old

/-- A store over a whole row, read back. -/
theorem read_row (arg8 : Memref sig .tc .vmem S1x4096 .f32) (f : BufTy.Contents (Elt F) arg8.view.ty) (w : S1x4096.Idx → Elt F .f32) (L : List (View.Piece (Elt F) S1x4096 .f32)) :
    arg8.view.read (Elt F) (arg8.view.writes (Elt F) f (⟨(Rect.unit (s := S1x4096) ![0, 0] S1x4096.size inb_S1x4096_S1x4096_0_0), w⟩ :: L)) = w :=
  View.read_writes_full _ _ _ _ _

/-- A load of a whole row just stored. -/
theorem cov_row (arg8 : Memref sig .tc .vmem S1x4096 .f32) (w : S1x4096.Idx → Elt F .f32) (L : List (View.Piece (Elt F) S1x4096 .f32)) :
    arg8.view.readCov (⟨(Rect.unit (s := S1x4096) ![0, 0] S1x4096.size inb_S1x4096_S1x4096_0_0), w⟩ :: L) (Rect.unit (s := S1x4096) ![0, 0] S1x4096.size inb_S1x4096_S1x4096_0_0).toLoadRect = w := by
  unfold View.readCov
  exact (View.readAt_full arg8.view _ _).trans (read_row arg8 _ w L)

/-- A load of a whole row. -/
theorem load_row (arg8 : Memref sig .tc .vmem S1x4096 .f32) (h : arg8.IsWhole) (x : Vec F S1x4096 .f32) :
    View.readAt (Elt F) arg8.view (Rect.unit (s := S1x4096) ![0, 0] S1x4096.size inb_S1x4096_S1x4096_0_0).toLoadRect (h.unread x) = x :=
  (View.readAt_full arg8.view _ _).trans (h.read_unread x)
theorem load_row3 (arg8 : Memref sig .tc .vmem S1x1x4096 .f32) (h : arg8.IsWhole) (x : Vec F S1x1x4096 .f32) :
    View.readAt (Elt F) arg8.view (Rect.unit (s := S1x1x4096) ![0, 0, 0] S1x1x4096.size inb_S1x1x4096_S1x1x4096_0_0_0).toLoadRect (h.unread x) = x :=
  (View.readAt_full arg8.view _ _).trans (h.read_unread x)

section Outs

variable (c : Dev nD) (i : grid0.Coords) (arg2 : Memref sig .tc .vmem S1x384x4096 .bf16) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S1x384x4096 .fp8e5m2) (harg6 : arg6.IsWhole) (arg7 : Memref sig .tc .vmem S1x384x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S8x4096 .f32) (harg12 : arg12.IsWhole) (arg13 : Memref sig .tc .vmem S8x4096 .f32) (harg13 : arg13.IsWhole)
variable (v1 : Elt F .i32) (x0 : Vec F S1x384x4096 .bf16) (x1 x2 : Vec F S1x4096 .f32) (x3 : Vec F S1x1x4096 .f32)
variable (fs0 : BufTy.Contents (Elt F) arg10.view.ty) (fs1 : BufTy.Contents (Elt F) arg11.view.ty)

/-- The zeroed running sum. -/
theorem read_zero : arg12.view.read (Elt F) (arg12.view.writes (Elt F) arg12.view.junk [⟨(Rect.unit (s := S8x4096) ![0, 0] S8x4096.size inb_S8x4096_S8x4096_0_0), k0_pay21⟩]) = k0_pay21 :=
  View.read_writes_full _ _ _ _ _

/-- After the first loop: the means, -/
theorem stat10 : arg10.view.read (Elt F) (arg10.view.writes (Elt F) fs0 (pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).1) = muV x0 := by
  funext y
  have h : (y 0).val < 384 := (y 0).isLt
  rw [show Scf.trips k0_t1_loop.lb k0_t1_loop.ub k0_t1_loop.st = 12 from trips1]
  exact (loop1 c i tbM0_0 htbM0_0 arg2 harg2 arg3 harg3 arg4 harg4 arg5 harg5 arg6 harg6 arg7 harg7 arg8 harg8 arg9 harg9 arg10 harg10 arg11 harg11 arg12 harg12 arg13 harg13 v1 x0 _ (harg2.read_unread x0) fs0 fs1 _ (read_zero arg12) 12 le_rfl).1 y h
/-- the inverse deviations, -/
theorem stat11 : arg11.view.read (Elt F) (arg11.view.writes (Elt F) fs1 (pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).2.1) = rsV x0 := by
  funext y
  have h : (y 0).val < 384 := (y 0).isLt
  rw [show Scf.trips k0_t1_loop.lb k0_t1_loop.ub k0_t1_loop.st = 12 from trips1]
  exact (loop1 c i tbM0_0 htbM0_0 arg2 harg2 arg3 harg3 arg4 harg4 arg5 harg5 arg6 harg6 arg7 harg7 arg8 harg8 arg9 harg9 arg10 harg10 arg11 harg11 arg12 harg12 arg13 harg13 v1 x0 _ (harg2.read_unread x0) fs0 fs1 _ (read_zero arg12) 12 le_rfl).2.1 y h
/-- the sum of the normalised rows. -/
theorem stat12 : arg12.view.readCov ((pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).2.2 ++ [⟨(Rect.unit (s := S8x4096) ![0, 0] S8x4096.size inb_S8x4096_S8x4096_0_0), k0_pay21⟩]) (Rect.unit (s := S8x4096) ![0, 0] S8x4096.size inb_S8x4096_S8x4096_0_0).toLoadRect = acc v1 x0 12 := by
  unfold View.readCov
  rw [View.writes_append]
  refine (View.readAt_full arg12.view _ _).trans ?_
  rw [show Scf.trips k0_t1_loop.lb k0_t1_loop.ub k0_t1_loop.st = 12 from trips1]
  exact (loop1 c i tbM0_0 htbM0_0 arg2 harg2 arg3 harg3 arg4 harg4 arg5 harg5 arg6 harg6 arg7 harg7 arg8 harg8 arg9 harg9 arg10 harg10 arg11 harg11 arg12 harg12 arg13 harg13 v1 x0 _ (harg2.read_unread x0) fs0 fs1 _ (read_zero arg12) 12 le_rfl).2.2

/-- The pooled gradient from what the body loads. -/
theorem dp0_eq : k0_pay26 v1 (arg12.view.readCov ((pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).2.2 ++ [⟨(Rect.unit (s := S8x4096) ![0, 0] S8x4096.size inb_S8x4096_S8x4096_0_0), k0_pay21⟩]) (Rect.unit (s := S8x4096) ![0, 0] S8x4096.size inb_S8x4096_S8x4096_0_0).toLoadRect)
      (View.readAt (Elt F) arg3.view (Rect.unit (s := S1x4096) ![0, 0] S1x4096.size inb_S1x4096_S1x4096_0_0).toLoadRect (harg3.unread x1)) (View.readAt (Elt F) arg4.view (Rect.unit (s := S1x4096) ![0, 0] S1x4096.size inb_S1x4096_S1x4096_0_0).toLoadRect (harg4.unread x2))
      (View.readAt (Elt F) arg5.view (Rect.unit (s := S1x1x4096) ![0, 0, 0] S1x1x4096.size inb_S1x1x4096_S1x1x4096_0_0_0).toLoadRect (harg5.unread x3)) = dp0 v1 x0 x1 x2 x3 := by
  rw [stat12, load_row, load_row, load_row3]; rfl

/-- The codes' buffer after the second loop, -/
theorem out4 (v12 v36 v37 : FVec F S1x4096 .f32) (h12 : v12 = k0_pay25 x1) (h36 : v36 = dp0 v1 x0 x1 x2 x3) (h37 : v37 = k0_pay27 v1)
    (G : BufTy.Contents (Elt F) arg6.view.ty) :
    arg6.view.read (Elt F) (arg6.view.writes (Elt F) G (pb_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 v12 v36 v37 (harg2.unread x0)
      (arg10.view.writes (Elt F) fs0 (pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).1) (arg11.view.writes (Elt F) fs1 (pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).2.1) (Scf.trips k0_t2_loop.lb k0_t2_loop.ub k0_t2_loop.st)).1)
      = codes0 v1 x0 x1 x2 x3 := by
  subst h12 h36 h37
  funext y
  have h : (y 1).val < 384 := (y 1).isLt
  rw [show Scf.trips k0_t2_loop.lb k0_t2_loop.ub k0_t2_loop.st = 12 from trips2]
  exact loop2_6 c i tbM0_0 htbM0_0 arg2 harg2 arg3 harg3 arg4 harg4 arg5 harg5 arg6 harg6 arg7 harg7 arg8 harg8 arg9 harg9 arg10 harg10 arg11 harg11 arg12 harg12 arg13 harg13 v1 _ _ _ x0 _ _ _ (harg2.read_unread x0) (stat10 c i arg2 harg2 arg3 harg3 arg4 harg4 arg5 harg5 arg6 harg6 arg7 harg7 arg8 harg8 arg9 harg9 arg10 harg10 arg11 harg11 arg12 harg12 arg13 harg13 v1 x0 fs0 fs1) (stat11 c i arg2 harg2 arg3 harg3 arg4 harg4 arg5 harg5 arg6 harg6 arg7 harg7 arg8 harg8 arg9 harg9 arg10 harg10 arg11 harg11 arg12 harg12 arg13 harg13 v1 x0 fs0 fs1) G 12 le_rfl y h

/-- and the scales'. -/
theorem out5 (v12 v36 v37 : FVec F S1x4096 .f32) (h12 : v12 = k0_pay25 x1) (h36 : v36 = dp0 v1 x0 x1 x2 x3) (h37 : v37 = k0_pay27 v1)
    (G : BufTy.Contents (Elt F) arg7.view.ty) :
    arg7.view.read (Elt F) (arg7.view.writes (Elt F) G (pb_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 v12 v36 v37 (harg2.unread x0)
      (arg10.view.writes (Elt F) fs0 (pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).1) (arg11.view.writes (Elt F) fs1 (pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).2.1) (Scf.trips k0_t2_loop.lb k0_t2_loop.ub k0_t2_loop.st)).2)
      = scales0 v1 x0 x1 x2 x3 := by
  subst h12 h36 h37
  funext y
  have h : (y 1).val < 384 := (y 1).isLt
  rw [show Scf.trips k0_t2_loop.lb k0_t2_loop.ub k0_t2_loop.st = 12 from trips2]
  exact loop2_7 c i tbM0_0 htbM0_0 arg2 harg2 arg3 harg3 arg4 harg4 arg5 harg5 arg6 harg6 arg7 harg7 arg8 harg8 arg9 harg9 arg10 harg10 arg11 harg11 arg12 harg12 arg13 harg13 v1 _ _ _ x0 _ _ _ (harg2.read_unread x0) (stat10 c i arg2 harg2 arg3 harg3 arg4 harg4 arg5 harg5 arg6 harg6 arg7 harg7 arg8 harg8 arg9 harg9 arg10 harg10 arg11 harg11 arg12 harg12 arg13 harg13 v1 x0 fs0 fs1) (stat11 c i arg2 harg2 arg3 harg3 arg4 harg4 arg5 harg5 arg6 harg6 arg7 harg7 arg8 harg8 arg9 harg9 arg10 harg10 arg11 harg11 arg12 harg12 arg13 harg13 v1 x0 fs0 fs1) G 12 le_rfl y h

end Outs

theorem pay6_congr {a a' b b' d d' : FVec F S1x4096 .f32} {o o' : Vec F S1x4096 .f32} (h1 : a = a') (h2 : b = b') (h3 : d = d') (h4 : o = o') :
    k0_pay6 a b d o = k0_pay6 a' b' d' o' := by subst h1 h2 h3 h4; rfl
theorem pay7_congr {a a' : F .f32} {b b' d d' : FVec F S1x4096 .f32} {o o' : Vec F S1x4096 .f32} (h1 : a = a') (h2 : b = b') (h3 : d = d') (h4 : o = o') :
    k0_pay7 a b d o = k0_pay7 a' b' d' o' := by subst h1 h2 h3 h4; rfl

end Cert.Kernel.Region0

end
-- ==== Proof.KernelRegion0First.lean ====
/- One run of the first kernel's body: what it is called with, what it leaves, as functions of the input blocks. -/
module

public import proofs.«01_k».proof.Proof.KernelRegion0Outs

@[expose] public section

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- The body's triple at the first grid point: on whole staging memrefs — the inputs' at their contents, the scratch at anything, every output at anything — it leaves the codes, the scales and the two gradients as above. -/
theorem runA (c : Dev nD) (i : grid0.Coords) (arg2 : Memref sig .tc .vmem S1x384x4096 .bf16) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S1x384x4096 .fp8e5m2) (harg6 : arg6.IsWhole) (arg7 : Memref sig .tc .vmem S1x384x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S8x4096 .f32) (harg12 : arg12.IsWhole) (arg13 : Memref sig .tc .vmem S8x4096 .f32) (harg13 : arg13.IsWhole) (hc0 : cond0_0 i)
    (x0 : Vec F S1x384x4096 .bf16) (x1 : Vec F S1x4096 .f32) (x2 : Vec F S1x4096 .f32) (x3 : Vec F S1x1x4096 .f32) (xt0 : TbBuf0 (F := F) c tbM0_0)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (codes0 (len0 c i xt0) x0 x1 x2 x3) ∗ owns (c : Thread nD τ) arg7 fullShare (scales0 (len0 c i xt0) x0 x1 x2 x3) ∗ owns (c : Thread nD τ) arg8 fullShare (dgamma0 (len0 c i xt0) x0 x1 x2 x3 k0_pay4) ∗ owns (c : Thread nD τ) arg9 fullShare (dbeta0 (len0 c i xt0) x0 x1 x2 x3 k0_pay5) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
      ⊢ wp frame (wpE (defs₀ (F := F)) Variants.none c none) E (cc0_ln_backward_quantise i tbM0_0 htbM0_0 arg2 harg2 arg3 harg3 arg4 harg4 arg5 harg5 arg6 harg6 arg7 harg7 arg8 harg8 arg9 harg9 arg10 harg10 arg11 harg11 arg12 harg12 arg13 harg13) K := by
  simp only [cc0_ln_backward_quantise_eq_skeleton]; unfold cc0_ln_backward_quantise_skel
  simp only [k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, HT0, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro; exact out4 c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1 _ _ _ (congrArg k0_pay25 (load_row arg3 harg3 x1)) (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl _
  isplitl [H5]
  · iexists _; isplitr; swap; · iexact H5
    ipureintro; exact out5 c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1 _ _ _ (congrArg k0_pay25 (load_row arg3 harg3 x1)) (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl _
  isplitl [H6]
  · iexists _; isplitr; swap; · iexact H6
    ipureintro; exact (read_row arg8 _ _ _).trans (pay6_congr (congrArg k0_pay24 (stat12 c i arg2 harg2 arg3 harg3 arg4 harg4 arg5 harg5 arg6 harg6 arg7 harg7 arg8 harg8 arg9 harg9 arg10 harg10 arg11 harg11 arg12 harg12 arg13 harg13 (len0 c i xt0) x0 fs0 fs1)) (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl (cov_row arg8 k0_pay4 []))
  isplitl [H7]
  · iexists _; isplitr; swap; · iexact H7
    ipureintro; exact (read_row arg9 _ _ _).trans (pay7_congr rfl (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl (cov_row arg9 k0_pay5 []))
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexact HT0

end Cert.Kernel.Region0

end
-- ==== Proof.KernelRegion0Later.lean ====
/- One run of the first kernel's body: what it is called with, what it leaves, as functions of the input blocks. -/
module

public import proofs.«01_k».proof.Proof.KernelRegion0Outs

@[expose] public section

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- The body's triple at a later grid point: on whole staging memrefs — the inputs' at their contents, the scratch at anything, the gradients at the sums so far — it leaves the codes, the scales and the two gradients as above. -/
theorem runB (c : Dev nD) (i : grid0.Coords) (arg2 : Memref sig .tc .vmem S1x384x4096 .bf16) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S1x384x4096 .fp8e5m2) (harg6 : arg6.IsWhole) (arg7 : Memref sig .tc .vmem S1x384x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S8x4096 .f32) (harg12 : arg12.IsWhole) (arg13 : Memref sig .tc .vmem S8x4096 .f32) (harg13 : arg13.IsWhole) (hc0 : ¬cond0_0 i)
    (x0 : Vec F S1x384x4096 .bf16) (x1 : Vec F S1x4096 .f32) (x2 : Vec F S1x4096 .f32) (x3 : Vec F S1x1x4096 .f32) (xt0 : TbBuf0 (F := F) c tbM0_0) (xo6 xo7 : Vec F S1x4096 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xo6 ∗ owns (c : Thread nD τ) arg9 fullShare xo7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (codes0 (len0 c i xt0) x0 x1 x2 x3) ∗ owns (c : Thread nD τ) arg7 fullShare (scales0 (len0 c i xt0) x0 x1 x2 x3) ∗ owns (c : Thread nD τ) arg8 fullShare (dgamma0 (len0 c i xt0) x0 x1 x2 x3 xo6) ∗ owns (c : Thread nD τ) arg9 fullShare (dbeta0 (len0 c i xt0) x0 x1 x2 x3 xo7) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
      ⊢ wp frame (wpE (defs₀ (F := F)) Variants.none c none) E (cc0_ln_backward_quantise i tbM0_0 htbM0_0 arg2 harg2 arg3 harg3 arg4 harg4 arg5 harg5 arg6 harg6 arg7 harg7 arg8 harg8 arg9 harg9 arg10 harg10 arg11 harg11 arg12 harg12 arg13 harg13) K := by
  simp only [cc0_ln_backward_quantise_eq_skeleton]; unfold cc0_ln_backward_quantise_skel
  simp only [k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, HT0, Hk⟩
  obtain rfl := harg2.eq_unread hf0; obtain rfl := harg3.eq_unread hf1; obtain rfl := harg4.eq_unread hf2; obtain rfl := harg5.eq_unread hf3
  obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro; exact out4 c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1 _ _ _ (congrArg k0_pay25 (load_row arg3 harg3 x1)) (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl _
  isplitl [H5]
  · iexists _; isplitr; swap; · iexact H5
    ipureintro; exact out5 c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1 _ _ _ (congrArg k0_pay25 (load_row arg3 harg3 x1)) (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl _
  isplitl [H6]
  · iexists _; isplitr; swap; · iexact H6
    ipureintro; exact (read_row arg8 _ _ _).trans (pay6_congr (congrArg k0_pay24 (stat12 c i arg2 harg2 arg3 harg3 arg4 harg4 arg5 harg5 arg6 harg6 arg7 harg7 arg8 harg8 arg9 harg9 arg10 harg10 arg11 harg11 arg12 harg12 arg13 harg13 (len0 c i xt0) x0 fs0 fs1)) (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl (load_row arg8 harg8 xo6))
  isplitl [H7]
  · iexists _; isplitr; swap; · iexact H7
    ipureintro; exact (read_row arg9 _ _ _).trans (pay7_congr rfl (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl (load_row arg9 harg9 xo7))
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexact HT0

end Cert.Kernel.Region0

end
-- ==== Proof.KernelRegion0Body.lean ====
/- What the first kernel's body leaves at each grid point, and that the pipeline may rely on it. -/
module

public import proofs.«01_k».proof.Proof.KernelRegion0First
public import proofs.«01_k».proof.Proof.KernelRegion0Later
public import Idealize.ShloMosaic.Lib.Quiescent

@[expose] public section

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the four outputs' staging buffers hold after the body at grid point `n`: the codes and the scales of that point's rows,
    and the two gradients' sums so far, begun at zero by the first point. -/
def outsAt0 (hO : Ok m) (c : Dev nD) : (n : ℕ) → n < (cfgM m hO).N → Vec F S1x384x4096 .fp8e5m2 × Vec F S1x384x1 .f32 × Vec F S1x4096 .f32 × Vec F S1x4096 .f32
  | 0, hn => (codes0 (len0 c (grid0.coords ⟨0, hn⟩) (tbl m 0)) (iblk m hO c 0 ⟨0, hn⟩) (iblk m hO c 1 ⟨0, hn⟩) (iblk m hO c 2 ⟨0, hn⟩) (iblk m hO c 3 ⟨0, hn⟩), scales0 (len0 c (grid0.coords ⟨0, hn⟩) (tbl m 0)) (iblk m hO c 0 ⟨0, hn⟩) (iblk m hO c 1 ⟨0, hn⟩) (iblk m hO c 2 ⟨0, hn⟩) (iblk m hO c 3 ⟨0, hn⟩), dgamma0 (len0 c (grid0.coords ⟨0, hn⟩) (tbl m 0)) (iblk m hO c 0 ⟨0, hn⟩) (iblk m hO c 1 ⟨0, hn⟩) (iblk m hO c 2 ⟨0, hn⟩) (iblk m hO c 3 ⟨0, hn⟩) k0_pay4, dbeta0 (len0 c (grid0.coords ⟨0, hn⟩) (tbl m 0)) (iblk m hO c 0 ⟨0, hn⟩) (iblk m hO c 1 ⟨0, hn⟩) (iblk m hO c 2 ⟨0, hn⟩) (iblk m hO c 3 ⟨0, hn⟩) k0_pay5)
  | n + 1, hn =>
    if h0 : (n + 1) % 3 = 0 then
      (codes0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩), scales0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩), dgamma0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩) k0_pay4, dbeta0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩) k0_pay5)
    else
      (codes0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩), scales0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩), dgamma0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩) (outsAt0 hO c n (Nat.lt_of_succ_lt hn)).2.2.1, dbeta0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩) (outsAt0 hO c n (Nat.lt_of_succ_lt hn)).2.2.2)

/-- `outsAt0` at a first point, -/
theorem outsAt0_A (hO : Ok m) (c : Dev nD) (t : Fin (cfgM m hO).N) (h0 : t.val % 3 = 0) :
    outsAt0 m hO c t.val t.isLt = (codes0 (len0 c (grid0.coords t) (tbl m 0)) (iblk m hO c 0 t) (iblk m hO c 1 t) (iblk m hO c 2 t) (iblk m hO c 3 t), scales0 (len0 c (grid0.coords t) (tbl m 0)) (iblk m hO c 0 t) (iblk m hO c 1 t) (iblk m hO c 2 t) (iblk m hO c 3 t), dgamma0 (len0 c (grid0.coords t) (tbl m 0)) (iblk m hO c 0 t) (iblk m hO c 1 t) (iblk m hO c 2 t) (iblk m hO c 3 t) k0_pay4, dbeta0 (len0 c (grid0.coords t) (tbl m 0)) (iblk m hO c 0 t) (iblk m hO c 1 t) (iblk m hO c 2 t) (iblk m hO c 3 t) k0_pay5) := by
  obtain ⟨n, hn⟩ := t
  cases n with
  | zero => exact rfl
  | succ n => exact (dif_pos h0).trans rfl

/-- and at a later one, over what the point before left. -/
theorem outsAt0_B (hO : Ok m) (c : Dev nD) (t : Fin (cfgM m hO).N) (h0 : ¬t.val % 3 = 0) :
    outsAt0 m hO c t.val t.isLt = (codes0 (len0 c (grid0.coords t) (tbl m 0)) (iblk m hO c 0 t) (iblk m hO c 1 t) (iblk m hO c 2 t) (iblk m hO c 3 t), scales0 (len0 c (grid0.coords t) (tbl m 0)) (iblk m hO c 0 t) (iblk m hO c 1 t) (iblk m hO c 2 t) (iblk m hO c 3 t), dgamma0 (len0 c (grid0.coords t) (tbl m 0)) (iblk m hO c 0 t) (iblk m hO c 1 t) (iblk m hO c 2 t) (iblk m hO c 3 t) (outsAt0 m hO c (t.val - 1) (Nat.lt_of_le_of_lt (Nat.sub_le _ _) t.isLt)).2.2.1, dbeta0 (len0 c (grid0.coords t) (tbl m 0)) (iblk m hO c 0 t) (iblk m hO c 1 t) (iblk m hO c 2 t) (iblk m hO c 3 t) (outsAt0 m hO c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
    | ⟨5, _⟩ => (outsAt0 m hO c t.val t.isLt).2.1
    | ⟨6, _⟩ => (outsAt0 m hO c t.val t.isLt).2.2.1
    | ⟨7, _⟩ => (outsAt0 m hO c t.val t.isLt).2.2.2
  Φ _ := iprop(Pipeline.ΦA spec0 c ∗ Pipeline.prefHeld pre0 c (fun _ => fullShare) (tbl m))
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl
theorem after0_5 (hO : Ok m) (c : Dev nD) (t : Fin (cfgM m hO).N) : (dats m hO 0 c).after 5 t = (outsAt0 m hO c t.val t.isLt).2.1 := by dsimp only [dats]; try rfl
theorem after0_6 (hO : Ok m) (c : Dev nD) (t : Fin (cfgM m hO).N) : (dats m hO 0 c).after 6 t = (outsAt0 m hO c t.val t.isLt).2.2.1 := by dsimp only [dats]; try rfl
theorem after0_7 (hO : Ok m) (c : Dev nD) (t : Fin (cfgM m hO).N) : (dats m hO 0 c).after 7 t = (outsAt0 m hO c t.val t.isLt).2.2.2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- At a point of case B output 6's current staging buffer holds what the body left at the point before: the point is
    not the first, the buffer was not written back between (`flush0_6`), the window is live and uncut (Lib/Pipeline/Frame.lean
    `Dat.before_out_kept`). -/
theorem before0_6_B (hO : Ok m) (c : Dev nD) (t : Fin (cfgM m hO).N) (h0 : ¬t.val % 3 = 0) (d) :
    (dats m hO 0 c).before 6 t d = (outsAt0 m hO c (t.val - 1) (Nat.lt_of_le_of_lt (Nat.sub_le _ _) t.isLt)).2.2.1 := by
  have hN : t.val < 3 := lt_of_lt_of_eq t.isLt (show (cfgM m hO).N = 3 from N_0)
  rw [Dat.before_out_kept _ 6 rfl t (by omega) (Bool.eq_false_iff.mpr fun h => by have := (flush0_6 (adm m hO) _).mp h; dsimp only at this; omega)
    (fun _ => rfl) (fun _ _ => rfl)]
  dsimp only [dats]
  try rfl
/-- At a point of case B output 7's current staging buffer holds what the body left at the point before: the point is
    not the first, the buffer was not written back between (`flush0_7`), the window is live and uncut (Lib/Pipeline/Frame.lean
    `Dat.before_out_kept`). -/
theorem before0_7_B (hO : Ok m) (c : Dev nD) (t : Fin (cfgM m hO).N) (h0 : ¬t.val % 3 = 0) (d) :
    (dats m hO 0 c).before 7 t d = (outsAt0 m hO c (t.val - 1) (Nat.lt_of_le_of_lt (Nat.sub_le _ _) t.isLt)).2.2.2 := by
  have hN : t.val < 3 := lt_of_lt_of_eq t.isLt (show (cfgM m hO).N = 3 from N_0)
  rw [Dat.before_out_kept _ 7 rfl t (by omega) (Bool.eq_false_iff.mpr fun h => by have := (flush0_7 (adm m hO) _).mp h; dsimp only at this; omega)
    (fun _ => rfl) (fun _ _ => rfl)]
  dsimp only [dats]
  try rfl

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.prefHeld pre0 c (fun _ => fullShare) (tbl m)) from rfl, PhiT0_eq, PhiA0_eq]
  have hN : t.val < 3 := lt_of_lt_of_eq t.isLt (show (cfgM m hO).N = 3 from N_0)
  by_cases h0 : t.val % 3 = 0
  · rw [outsAt0_A m hO c t h0]
    iintro ⟨⟨⟨⟨HS0, HS1, HS2, HS3, HR⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ _ _ _ _ _ _ _ _ ((hcond0_0 t).mpr h0) (iblk m hO c 0 t) (iblk m hO c 1 t) (iblk m hO c 2 t) (iblk m hO c 3 t) (tbl m 0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, H7, HS0, HS1, HS2, HS3, HT0⟩
    isplitl [HS0 HS1 HS2 HS3 HR Hg HT0]
    · isplitl [HS0 HS1 HS2 HS3 HR Hg]
      · isplitl [HS0 HS1 HS2 HS3 HR]
        · isplitl [HS0]
          · iexact HS0
          isplitl [HS1]
          · iexact HS1
          isplitl [HS2]
          · iexact HS2
          isplitl [HS3]
          · iexact HS3
          iexact HR
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAt0_B m hO c t h0]
    simp only [before0_6_B m hO c t h0, before0_7_B m hO c t h0]
    iintro ⟨⟨⟨⟨HS0, HS1, HS2, HS3, HR⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (grid0.coords t) _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (tbl m 0) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, H7, HS0, HS1, HS2, HS3, HT0⟩
    isplitl [HS0 HS1 HS2 HS3 HR Hg HT0]
    · isplitl [HS0 HS1 HS2 HS3 HR Hg]
      · isplitl [HS0 HS1 HS2 HS3 HR]
        · isplitl [HS0]
          · iexact HS0
          isplitl [HS1]
          · iexact HS1
          isplitl [HS2]
          · iexact HS2
          isplitl [HS3]
          · iexact HS3
          iexact HR
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

end Cert.Kernel.Region0

end
-- ==== Proof.KernelWhole.lean ====
/- The whole run with the first kernel's side filled in: the arguments end unchanged, and each result is a closed term of the
   two kernels' arrays. -/
module

public import proofs.«01_k».proof.Proof.KernelRun
public import proofs.«01_k».proof.Proof.KernelRegion0Body

@[expose] public section

set_option maxRecDepth 16384

noncomputable section

namespace Cert.Kernel.Run

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.Kernel.Gen

variable {F : FTy → Type} [FloatOps F]
variable (m : (ℓ : Loc nD τ sig) → Buf (Elt F) ℓ) (ρ : Dev nD → PrngReg)

/-- The first kernel's tables meet their side condition (there is none). -/
theorem ok : Region0.Ok (F := F) m := trivial

/-- The first kernel's proof data. -/
def first : First (F := F) m where
  hO := ok m
  dat := Region0.dats m (ok m) 0
  hA c w := Region0.A_eq m (ok m) c w
  hΦ c t := rfl
  hq c w := rfl
  howed c t := rfl
  hrec c := rfl
  hbody c := Region0.body_obligation m (ok m) c

/-- A buffer the last host stretch does not write. -/
theorem W5_of (c : Dev nD) (r : Ref sig .tc) (h : r ∉ hostOps2_W) : W5 m (first m) c (Proc.devRef .tc r) = W4 m (first m) c (Proc.devRef .tc r) :=
  StableHlo.after_of_writes_sub hostOps2 _ hostOps2_writes h
/-- A buffer the second kernel does not write. -/
theorem W4_of (c : Dev nD) (r : Ref sig .tc) (h : ∀ w : Fin 5, Pipeline.arrRef spec1 w = r → (spec1 w).isOut = false) :
    W4 m (first m) c (Proc.devRef .tc r) = W3 m (first m) c (Proc.devRef .tc r) :=
  Pipeline.afterRegion_keeps (dat1 m (first m) c) (W3 m (first m) c) (launch1 (F := F)).win.arr_inj (fun w => Region1.A_eq _ c w) r h
/-- A buffer the second host stretch does not write. -/
theorem W3_of (c : Dev nD) (r : Ref sig .tc) (h : r ∉ hostOps1_W) : W3 m (first m) c (Proc.devRef .tc r) = W2 m (first m) c (Proc.devRef .tc r) :=
  StableHlo.after_of_writes_sub hostOps1 _ hostOps1_writes h
/-- A buffer the first kernel does not write. -/
theorem W2_of (c : Dev nD) (r : Ref sig .tc) (h : ∀ w : Fin 8, Pipeline.arrRef spec0 w = r → (spec0 w).isOut = false) :
    W2 m (first m) c (Proc.devRef .tc r) = W1 m c (Proc.devRef .tc r) :=
  Pipeline.afterRegion_keeps (Region0.dats m (ok m) 0 c) (W1 m c) (launch0 (F := F)).win.arr_inj (fun w => Region0.A_eq m (ok m) c w) r h
/-- A buffer the first host stretch does not write. -/
theorem W1_of (c : Dev nD) (r : Ref sig .tc) (h : r ∉ hostOps0_W) : W1 m c (Proc.devRef .tc r) = m (c, Proc.devRef .tc r) :=
  StableHlo.after_of_writes_sub hostOps0 _ hostOps0_writes h

/-- A buffer nothing writes ends as it began. -/
theorem W5_kept (c : Dev nD) (r : Ref sig .tc) (h5 : r ∉ hostOps2_W) (h4 : ∀ w : Fin 5, Pipeline.arrRef spec1 w = r → (spec1 w).isOut = false)
    (h3 : r ∉ hostOps1_W) (h2 : ∀ w : Fin 8, Pipeline.arrRef spec0 w = r → (spec0 w).isOut = false) (h1 : r ∉ hostOps0_W) :
    W5 m (first m) c (Proc.devRef .tc r) = m ((c.tc : Thread nD τ).loc r) :=
  (W5_of m c r h5).trans ((W4_of m c r h4).trans ((W3_of m c r h3).trans ((W2_of m c r h2).trans (W1_of m c r h1))))

/-- The arguments end unchanged. -/
theorem args (c : Dev nD) :
    W5 m (first m) c (Proc.devRef .tc main_arg0) = m ((c.tc : Thread nD τ).loc main_arg0)
    ∧ W5 m (first m) c (Proc.devRef .tc main_arg1) = m ((c.tc : Thread nD τ).loc main_arg1)
    ∧ W5 m (first m) c (Proc.devRef .tc main_arg2) = m ((c.tc : Thread nD τ).loc main_arg2)
    ∧ W5 m (first m) c (Proc.devRef .tc main_arg3) = m ((c.tc : Thread nD τ).loc main_arg3)
    ∧ W5 m (first m) c (Proc.devRef .tc main_arg4) = m ((c.tc : Thread nD τ).loc main_arg4)
    ∧ W5 m (first m) c (Proc.devRef .tc main_arg5) = m ((c.tc : Thread nD τ).loc main_arg5)
    ∧ W5 m (first m) c (Proc.devRef .tc main_arg6) = m ((c.tc : Thread nD τ).loc main_arg6) :=
  ⟨W5_kept m c _ (by decide) (by decide) (by decide) (by decide) (by decide), W5_kept m c _ (by decide) (by decide) (by decide) (by decide) (by decide),
    W5_kept m c _ (by decide) (by decide) (by decide) (by decide) (by decide), W5_kept m c _ (by decide) (by decide) (by decide) (by decide) (by decide),
    W5_kept m c _ (by decide) (by decide) (by decide) (by decide) (by decide), W5_kept m c _ (by decide) (by decide) (by decide) (by decide) (by decide),
    W5_kept m c _ (by decide) (by decide) (by decide) (by decide) (by decide)⟩

/-- Every execution terminates, the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run _ _ _).mono (fun r h => ⟨fun c => ?_, h.2⟩) (run m ρ (first m))
  obtain ⟨a0, a1, a2, a3, a4, a5, a6⟩ := args m c
  exact ⟨(h.1 c _ rfl).trans a0, (h.1 c _ rfl).trans a1, (h.1 c _ rfl).trans a2, (h.1 c _ rfl).trans a3, (h.1 c _ rfl).trans a4,
    (h.1 c _ rfl).trans a5, (h.1 c _ rfl).trans a6⟩

end Cert.Kernel.Run

end
-- ==== Proof.Region0Kit.lean ====
/- The first pipeline (layer norm backward and quantiser): when its windows are fetched and written back, its arrays
   and tables at entry, its staging and scratch memrefs, the condition of its branch. -/
module

public import proofs.«01_k».proof.Proof.Gen.KernelIdeal.Regions
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%0)) is fetched at the first point only, at any contents of the tables (its index map reads none). -/
theorem fetch0_1 (a : (pcfg0 (F := F)).Adm) : ∀ t : Fin (cfg0 a).N, ((cfg0 a).win 1).fetch t = true ↔ t.val % 3 = 0 :=
  (fun t => Pipeline.Window.fetchOf_const cc0_transform_1 (fun _ _ => rfl) (n := 3) (by decide) t : ∀ t : Fin grid0.N, Pipeline.Window.fetchOf grid0 false cc0_transform_1 t = true ↔ t.val % 3 = 0)
/-- Window 2 (operand 3 (%1)) is fetched at the first point only, at any contents of the tables (its index map reads none). -/
theorem fetch0_2 (a : (pcfg0 (F := F)).Adm) : ∀ t : Fin (cfg0 a).N, ((cfg0 a).win 2).fetch t = true ↔ t.val % 3 = 0 :=
  (fun t => Pipeline.Window.fetchOf_const cc0_transform_2 (fun _ _ => rfl) (n := 3) (by decide) t : ∀ t : Fin grid0.N, Pipeline.Window.fetchOf grid0 false cc0_transform_2 t = true ↔ t.val % 3 = 0)
/-- Window 3 (operand 4 (%2)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (result 0 (%3#0)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)
/-- Window 5 (result 1 (%3#1)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)
/-- Window 6 (result 2 (%3#2)) is written back at the last point only, at any contents of the tables (its index map reads none). -/
theorem flush0_6 (a : (pcfg0 (F := F)).Adm) : ∀ t : Fin (cfg0 a).N, ((cfg0 a).win 6).flush t = true ↔ t.val % 3 = 2 :=
  (fun t => Pipeline.Window.flushOf_const cc0_transform_6 (fun _ _ => rfl) (n := 3) (by decide) rfl t : ∀ t : Fin grid0.N, Pipeline.Window.flushOf grid0 true cc0_transform_6 t = true ↔ t.val % 3 = 2)
/-- Window 7 (result 3 (%3#3)) is written back at the last point only, at any contents of the tables (its index map reads none). -/
theorem flush0_7 (a : (pcfg0 (F := F)).Adm) : ∀ t : Fin (cfg0 a).N, ((cfg0 a).win 7).flush t = true ↔ t.val % 3 = 2 :=
  (fun t => Pipeline.Window.flushOf_const cc0_transform_7 (fun _ _ => rfl) (n := 3) (by decide) rfl t : ∀ t : Fin grid0.N, Pipeline.Window.flushOf grid0 true cc0_transform_7 t = true ↔ t.val % 3 = 2)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ln_backward_quantise (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg3
abbrev htbM0_0 : tbM0_0.IsWhole := Memref.isWhole_whole _

/-- A table memref's buffer on core `c`: its contents type, and it held whole at `f`. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare} f

/-- The table, held whole at the contents it has when the region is entered. -/
theorem PhiT0_eq (c : Dev nD) : (Pipeline.prefHeld pre0 c (fun _ => fullShare) (tbl m) : sProp 𝕄) = iprop(tbPt0 c tbM0_0 (tbl m 0)) := by
  unfold Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 3 = 0 :=
  (fun t => by
    have ht : t.val < 3 := Nat.lt_of_lt_of_eq t.isLt N_0
    have e0 : (grid0.coords t 0).val = t.val / 1 % 3 := Pipeline.Grid.coords_val t 0 (by decide) rfl
    simp only [cond0_0, e0]
    word_cmp
   : ∀ t : Fin grid0.N, cond0_0 (grid0.coords t) ↔ t.val % 3 = 0)

/-! ## The kernel body on any staging memrefs: a subtype the run finds -/

/-- One staging buffer of output window 4, through which its contents are stated (`View.read_writes_of_cover`: the
    choice does not matter). -/
abbrev VO0_4 : View sig .tc .vmem S1x384x4096 .fp8e5m2 := (Memref.whole cc0_stg4_0 : Memref sig .tc .vmem S1x384x4096 .fp8e5m2).view
/-- One staging buffer of output window 5, through which its contents are stated (`View.read_writes_of_cover`: the
    choice does not matter). -/
abbrev VO0_5 : View sig .tc .vmem S1x384x1 .f32 := (Memref.whole cc0_stg5_0 : Memref sig .tc .vmem S1x384x1 .f32).view
/-- One staging buffer of output window 6, through which its contents are stated (`View.read_writes_of_cover`: the
    choice does not matter). -/
abbrev VO0_6 : View sig .tc .vmem S1x4096 .f32 := (Memref.whole cc0_stg6_0 : Memref sig .tc .vmem S1x4096 .f32).view
/-- One staging buffer of output window 7, through which its contents are stated (`View.read_writes_of_cover`: the
    choice does not matter). -/
abbrev VO0_7 : View sig .tc .vmem S1x4096 .f32 := (Memref.whole cc0_stg7_0 : Memref sig .tc .vmem S1x4096 .f32).view
/-- Each window's current staging memref at point `t`, spelled as the pipeline passes it (`bodyAt0`), and its wholeness. -/
abbrev ms0_0 (hO : Ok m) (t : Fin (cfgM m hO).N) : Memref sig .tc .vmem S1x384x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x4096 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x384x4096 .fp8e5m2 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x384x1 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x4096 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x4096 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S384x128 .f32 := Memref.whole cc0_scratch0
abbrev scM0_1 : Memref sig .tc .vmem S384x128 .f32 := Memref.whole cc0_scratch1
abbrev scM0_2 : Memref sig .tc .vmem S8x4096 .f32 := Memref.whole cc0_scratch2
abbrev scM0_3 : Memref sig .tc .vmem S8x4096 .f32 := Memref.whole cc0_scratch3

/-- The scoped buffers of the second pipeline, each whole at some contents: they ride along. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The invariant's scoped buffers with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ otherScoped c) ∗ (∃ r, prngReg c r)) := by
  unfold Pipeline.ΦA otherScoped; rw [scopedRest0_eq]; simp only [scM0_0, scM0_1, scM0_2, scM0_3, owns_whole]; try rfl

end Cert.KernelIdeal.Region0

end
-- ==== Proof.Region0Values.lean ====
/- What one run of the first kernel's body computes, as functions of its input blocks: the row statistics strip by
   strip, the running masked sum of the normalised rows, the four outputs; and what the two counted loops leave in the
   buffers they write, read back as these functions. -/
module

public import proofs.«01_k».proof.Proof.Region0Kit
public import Idealize.ShloMosaic.Lib.Pointwise

@[expose] public section

set_option maxRecDepth 16384

noncomputable section

namespace Cert.KernelIdeal.Region0

open Idealize.ShloMosaic Idealize.ShloMosaic.TcCoe
open Cert.KernelIdeal.Gen

variable {F : FTy → Type} [FloatOps F]

theorem trips1 : k0_t1_loop.trips = 12 := by decide +kernel
theorem trips2 : k0_t2_loop.trips = 12 := by decide +kernel

/-- Both loops step through the same strips of 32 rows. -/
theorem off2_eq (k : Fin k0_t1_loop.trips) : k0_off2 k = ![0, 32 * k.val, 0] := by
  revert k; decide +kernel
theorem off3_eq (k : Fin k0_t1_loop.trips) : k0_off3 k = ![32 * k.val, 0] := by
  revert k; decide +kernel
theorem off4_eq (k : Fin k0_t2_loop.trips) : k0_off4 k = ![32 * k.val, 0] := by
  revert k; decide +kernel
theorem off5_eq (k : Fin k0_t2_loop.trips) : k0_off5 k = ![0, 32 * k.val, 0] := by
  revert k; decide +kernel
theorem off6_eq (k : Fin k0_t2_loop.trips) : k0_off6 k = ![0, 32 * k.val, 0] := by
  revert k; decide +kernel

/-- Rows `32 k` to `32 k + 31` of a sequence block. -/
def strip (x : Vec F S1x384x4096 .bf16) (k : ℕ) (hk : k < 12) : Vec F S1x32x4096 .bf16 := fun j =>
  x (ix3 (j 0) ⟨32 * k + (j 1).val, by have h : (j 1).val < 32 := (j 1).isLt; omega⟩ (j 2))

/-- The masked sum of the normalised rows after `n` strips, by row within an eighth of a strip. -/
def acc (v1 : Elt F .i32) (x : Vec F S1x384x4096 .bf16) : ℕ → Vec F S8x4096 .f32
  | 0 => k0_pay21
  | n + 1 => if h : n < k0_t1_loop.trips then k0_pay15 v1 0#32 1#32 ⟨n, h⟩ (strip x n (by rw [trips1] at h; exact h)) (acc v1 x n)
      else acc v1 x n

/-- The row means, one per row and lane. -/
def muV (x : Vec F S1x384x4096 .bf16) : Vec F S384x128 .f32 := fun y =>
  k0_pay22 (k0_pay16 (strip x ((y 0).val / 32) (by have h : (y 0).val < 384 := (y 0).isLt; omega)))
    (ix2 ⟨(y 0).val % 32, by omega⟩ (y 1))

/-- The rows' inverse standard deviations, one per row and lane. -/
def rsV (x : Vec F S1x384x4096 .bf16) : Vec F S384x128 .f32 := fun y =>
  k0_pay23 (k0_pay14 (strip x ((y 0).val / 32) (by have h : (y 0).val < 384 := (y 0).isLt; omega)))
    (ix2 ⟨(y 0).val % 32, by omega⟩ (y 1))

/-- One strip's column 0 of a statistics block. -/
def col (s : Vec F S384x128 .f32) (k : ℕ) (hk : k < 12) : Vec F S32x1 .f32 := fun j =>
  s (ix2 ⟨32 * k + (j 0).val, by have h : (j 0).val < 32 := (j 0).isLt; omega⟩ ⟨(j 1).val, by have h : (j 1).val < 1 := (j 1).isLt; omega⟩)

/-- One strip of the input gradient; -/
def dhS (v1 : Elt F .i32) (v12 v36 v37 : FVec F S1x4096 .f32) (x : Vec F S1x384x4096 .bf16) (k : ℕ) (hk : k < 12) : FVec F S32x4096 .f32 :=
  k0_pay17 v1 (k0_pay2 v12 v36 v37) (k0_pay3 v12 v36 v37) 0#32 1#32 ⟨k, by rw [trips2]; exact hk⟩ (col (muV x) k hk) (col (rsV x) k hk) (strip x k hk)

/-- which powers of two each of its rows' largest value stays below; -/
def mkS (v1 : Elt F .i32) (v12 v36 v37 : FVec F S1x4096 .f32) (x : Vec F S1x384x4096 .bf16) (k : ℕ) (hk : k < 12) : IVec S32x256 1 :=
  k0_pay18 v1 (k0_pay2 v12 v36 v37) (k0_pay3 v12 v36 v37) 0#32 1#32 ⟨k, by rw [trips2]; exact hk⟩ (col (muV x) k hk) (col (rsV x) k hk) (strip x k hk)

/-- the powers' numbers. -/
def lanes : IVec S1x256 32 := iota .tc S1x256 32 [1] iota_S1x256_d1_w32

/-- The codes of a block: its strips'. -/
def codesV (v1 : Elt F .i32) (v12 v36 v37 : FVec F S1x4096 .f32) (x : Vec F S1x384x4096 .bf16) : Vec F S1x384x4096 .fp8e5m2 := fun y =>
  have h : (y 1).val < 384 := (y 1).isLt
  k0_pay9 (dhS v1 v12 v36 v37 x ((y 1).val / 32) (by omega)) lanes (mkS v1 v12 v36 v37 x ((y 1).val / 32) (by omega)) k0_pay19
    (ix3 (y 0) ⟨(y 1).val % 32, by omega⟩ (y 2))

/-- The scales of a block: its strips'. -/
def scalesV (v1 : Elt F .i32) (v12 v36 v37 : FVec F S1x4096 .f32) (x : Vec F S1x384x4096 .bf16) : Vec F S1x384x1 .f32 := fun y =>
  have h : (y 1).val < 384 := (y 1).isLt
  k0_pay10 lanes (mkS v1 v12 v36 v37 x ((y 1).val / 32) (by omega)) k0_pay19
    (ix3 (y 0) ⟨(y 1).val % 32, by omega⟩ (y 2))

end Cert.KernelIdeal.Region0

end
-- ==== Proof.Region0Loops.lean ====
/- What the first kernel body's two counted loops leave in the buffers they write. -/
module

public import proofs.«01_k».proof.Proof.Region0Values
public import Idealize.ShloMosaic.Lib.VecWindow

@[expose] public section

set_option maxRecDepth 16384

noncomputable section

namespace Cert.KernelIdeal.Region0

open Idealize.ShloMosaic Idealize.ShloMosaic.TcCoe
open Cert.KernelIdeal.Gen

variable {F : FTy → Type} [FloatOps F]

/-- A load of a strip of the sequence block reads that strip. -/
theorem ld_off2 (x : Vec F S1x384x4096 .bf16) (k : Fin k0_t1_loop.trips) (hk : k.val < 12) :
    View.ld (Val := Elt F) x (Rect.unit (s := S1x384x4096) (k0_off2 k) S1x32x4096.size (k0_off2_inb k)) = strip x k.val hk := by
  funext j
  refine congrArg x (funext fun a => Fin.ext ?_)
  have h := congrFun (off2_eq k) a
  show k0_off2 k a + 1 * (j a).val = _
  rw [h]
  match a with
  | ⟨0, _⟩ => simp
  | ⟨1, _⟩ => simp
  | ⟨2, _⟩ => simp
theorem ld_off5 (x : Vec F S1x384x4096 .bf16) (k : Fin k0_t2_loop.trips) (hk : k.val < 12) :
    View.ld (Val := Elt F) x (Rect.unit (s := S1x384x4096) (k0_off5 k) S1x32x4096.size (k0_off5_inb k)) = strip x k.val hk := by
  funext j
  refine congrArg x (funext fun a => Fin.ext ?_)
  have h := congrFun (off5_eq k) a
  show k0_off5 k a + 1 * (j a).val = _
  rw [h]
  match a with
  | ⟨0, _⟩ => simp
  | ⟨1, _⟩ => simp
  | ⟨2, _⟩ => simp
/-- A load of a strip's first column of a statistics block reads that column. -/
theorem ld_off4 (s : Vec F S384x128 .f32) (k : Fin k0_t2_loop.trips) (hk : k.val < 12) :
    View.ld (Val := Elt F) s (Rect.unit (s := S384x128) (k0_off4 k) S32x1.size (k0_off4_inb k)) = col s k.val hk := by
  funext j
  refine congrArg s (funext fun a => Fin.ext ?_)
  have h := congrFun (off4_eq k) a
  show k0_off4 k a + 1 * (j a).val = _
  rw [h]
  match a with
  | ⟨0, _⟩ => simp
  | ⟨1, _⟩ => simp

section Trips

variable (c : Dev nD) (i : grid0.Coords) (arg1 : Memref sig .tc .smem S3 .i32) (harg1 : arg1.IsWhole) (arg2 : Memref sig .tc .vmem S1x384x4096 .bf16) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S1x384x4096 .fp8e5m2) (harg6 : arg6.IsWhole) (arg7 : Memref sig .tc .vmem S1x384x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S8x4096 .f32) (harg12 : arg12.IsWhole) (arg13 : Memref sig .tc .vmem S8x4096 .f32) (harg13 : arg13.IsWhole)

/-- One trip of the first loop writes the strip's means, -/
theorem trip1_10 (v1 : Elt F .i32) (X2 : BufTy.Contents (Elt F) arg2.view.ty) (k : Fin k0_t1_loop.trips) (hk : k.val < 12) f10 f11 f12 :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v1 X2 k).1 f10 f11 f12
      = [⟨Rect.unit (s := S384x128) (k0_off3 k) S32x128.size (k0_off3_inb k), k0_pay22 (k0_pay16 (strip (arg2.view.read (Elt F) X2) k.val hk))⟩] := by
  unfold trip_k0_t1; dsimp only; unfold trip_k0_t1.sl.r_1
  rw [← ld_off2 _ k hk]; rfl

/-- its inverse deviations, -/
theorem trip1_11 (v1 : Elt F .i32) (X2 : BufTy.Contents (Elt F) arg2.view.ty) (k : Fin k0_t1_loop.trips) (hk : k.val < 12) f10 f11 f12 :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v1 X2 k).2.1 f10 f11 f12
      = [⟨Rect.unit (s := S384x128) (k0_off3 k) S32x128.size (k0_off3_inb k), k0_pay23 (k0_pay14 (strip (arg2.view.read (Elt F) X2) k.val hk))⟩] := by
  unfold trip_k0_t1; dsimp only; unfold trip_k0_t1.sl.r
  rw [← ld_off2 _ k hk]; rfl

/-- and the running sum with the strip added. -/
theorem trip1_12 (v1 : Elt F .i32) (X2 : BufTy.Contents (Elt F) arg2.view.ty) (k : Fin k0_t1_loop.trips) (hk : k.val < 12) f10 f11 f12 :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v1 X2 k).2.2.1 f10 f11 f12
      = [⟨Rect.unit (s := S8x4096) ![0, 0] S8x4096.size inb_S8x4096_S8x4096_0_0,
          k0_pay15 v1 0#32 1#32 k (strip (arg2.view.read (Elt F) X2) k.val hk) (arg12.view.read (Elt F) f12)⟩] := by
  unfold trip_k0_t1; dsimp only
  have h := View.readAt_full (Val := Elt F) arg12.view f12 inb_S8x4096_S8x4096_0_0
  rw [← ld_off2 _ k hk, ← h]; rfl

/-- One trip of the second loop writes the strip's codes, -/
theorem trip2_6 (v1 : Elt F .i32) (v12 v36 v37 : FVec F S1x4096 .f32) (x : Vec F S1x384x4096 .bf16) (X2 : BufTy.Contents (Elt F) arg2.view.ty) (X10 : BufTy.Contents (Elt F) arg10.view.ty) (X11 : BufTy.Contents (Elt F) arg11.view.ty)
    (h2 : arg2.view.read (Elt F) X2 = x) (h10 : arg10.view.read (Elt F) X10 = muV x) (h11 : arg11.view.read (Elt F) X11 = rsV x)
    (k : Fin k0_t2_loop.trips) (hk : k.val < 12) :
    (trip_k0_t2 (F := F) Variants.none c none i arg1 harg1 arg2 harg2 arg3 harg3 arg4 harg4 arg5 harg5 arg6 harg6 arg7 harg7 arg8 harg8 arg9 harg9 arg10 harg10 arg11 harg11 arg12 harg12 arg13 harg13 v1 v12 v36 v37 X2 X10 X11 k).1
      = [⟨Rect.unit (s := S1x384x4096) (k0_off5 k) S1x32x4096.size (k0_off5_inb k), k0_pay9 (dhS v1 v12 v36 v37 x k.val hk) lanes (mkS v1 v12 v36 v37 x k.val hk) k0_pay19⟩] := by
  unfold trip_k0_t2; dsimp only; unfold trip_k0_t2.sl.r_1 trip_k0_t2.sl.r
  simp only [View.readAt_eq_ld, h2, h10, h11, ld_off4 _ k hk, ld_off5 _ k hk]
  rfl

/-- and its scales. -/
theorem trip2_7 (v1 : Elt F .i32) (v12 v36 v37 : FVec F S1x4096 .f32) (x : Vec F S1x384x4096 .bf16) (X2 : BufTy.Contents (Elt F) arg2.view.ty) (X10 : BufTy.Contents (Elt F) arg10.view.ty) (X11 : BufTy.Contents (Elt F) arg11.view.ty)
    (h2 : arg2.view.read (Elt F) X2 = x) (h10 : arg10.view.read (Elt F) X10 = muV x) (h11 : arg11.view.read (Elt F) X11 = rsV x)
    (k : Fin k0_t2_loop.trips) (hk : k.val < 12) :
    (trip_k0_t2 (F := F) Variants.none c none i arg1 harg1 arg2 harg2 arg3 harg3 arg4 harg4 arg5 harg5 arg6 harg6 arg7 harg7 arg8 harg8 arg9 harg9 arg10 harg10 arg11 harg11 arg12 harg12 arg13 harg13 v1 v12 v36 v37 X2 X10 X11 k).2.1
      = [⟨Rect.unit (s := S1x384x1) (k0_off6 k) S1x32x1.size (k0_off6_inb k), k0_pay10 lanes (mkS v1 v12 v36 v37 x k.val hk) k0_pay19⟩] := by
  unfold trip_k0_t2; dsimp only; unfold trip_k0_t2.sl.r_1
  simp only [View.readAt_eq_ld, h2, h10, h11, ld_off4 _ k hk, ld_off5 _ k hk]
  rfl

/-- After `n` strips of the first loop: the means and inverse deviations of the rows passed, the sum over them. -/
theorem loop1 (v1 : Elt F .i32) (x : Vec F S1x384x4096 .bf16) (X2 : BufTy.Contents (Elt F) arg2.view.ty) (h2 : arg2.view.read (Elt F) X2 = x)
    (G10 : BufTy.Contents (Elt F) arg10.view.ty) (G11 : BufTy.Contents (Elt F) arg11.view.ty) (G12 : BufTy.Contents (Elt F) arg12.view.ty)
    (h12 : arg12.view.read (Elt F) G12 = k0_pay21) : ∀ n : ℕ, n ≤ 12 →
    (∀ y : S384x128.Idx, (y 0).val < 32 * n → arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v1 X2 G10 G11 G12 n).1) y = muV x y)
    ∧ (∀ y : S384x128.Idx, (y 0).val < 32 * n → arg11.view.read (Elt F) (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v1 X2 G10 G11 G12 n).2.1) y = rsV x y)
    ∧ arg12.view.read (Elt F) (arg12.view.writes (Elt F) G12 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 v1 X2 G10 G11 G12 n).2.2) = acc v1 x n
  | 0, _ => ⟨fun y h => absurd h (by omega), fun y h => absurd h (by omega), h12⟩
  | n + 1, hn => by
    obtain ⟨i10, i11, i12⟩ := loop1 v1 x X2 h2 G10 G11 G12 h12 n (by omega)
    have hk : n < k0_t1_loop.trips := by rw [trips1]; omega
    have hs := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 v1 X2 G10 G11 G12 ⟨n, hk⟩
    dsimp only at hs
    rw [hs]
    dsimp only
    rw [trip1_10 (hk := by show n < 12; omega), trip1_11 (hk := by show n < 12; omega), trip1_12 (hk := by show n < 12; omega), h2, i12]
    have ho := off3_eq ⟨n, hk⟩
    refine ⟨fun y hy => ?_, fun y hy => ?_, ?_⟩
    · by_cases hy' : (y 0).val < 32 * n
      · rw [List.singleton_append, View.read_writes_cons_miss_of_axis _ _ _ _ y 0 (32 * n) 32 (congrFun ho 0) rfl rfl (Or.inl hy')]
        exact i10 y hy'
      · have e : (y 0).val / 32 = n := by omega
        rw [List.singleton_append, View.read_writes_cons_hit_of_coords _ _ _ _ _ (ix2 (n0 := 32) (n1 := 128) ⟨(y 0).val % 32, by omega⟩ (y 1)) y (fun a => by
          match a with
          | ⟨0, _⟩ => show (y 0).val = k0_off3 ⟨n, hk⟩ 0 + 1 * ((y 0).val % 32); rw [ho]; show (y 0).val = 32 * n + 1 * ((y 0).val % 32); omega
          | ⟨1, _⟩ => show (y 1).val = k0_off3 ⟨n, hk⟩ 1 + 1 * (y 1).val; rw [ho]; show (y 1).val = 0 + 1 * (y 1).val; omega)]
        subst e; rfl
    · by_cases hy' : (y 0).val < 32 * n
      · rw [List.singleton_append, View.read_writes_cons_miss_of_axis _ _ _ _ y 0 (32 * n) 32 (congrFun ho 0) rfl rfl (Or.inl hy')]
        exact i11 y hy'
      · have e : (y 0).val / 32 = n := by omega
        rw [List.singleton_append, View.read_writes_cons_hit_of_coords _ _ _ _ _ (ix2 (n0 := 32) (n1 := 128) ⟨(y 0).val % 32, by omega⟩ (y 1)) y (fun a => by
          match a with
          | ⟨0, _⟩ => show (y 0).val = k0_off3 ⟨n, hk⟩ 0 + 1 * ((y 0).val % 32); rw [ho]; show (y 0).val = 32 * n + 1 * ((y 0).val % 32); omega
          | ⟨1, _⟩ => show (y 1).val = k0_off3 ⟨n, hk⟩ 1 + 1 * (y 1).val; rw [ho]; show (y 1).val = 0 + 1 * (y 1).val; omega)]
        subst e; rfl
    · funext y
      rw [List.singleton_append, View.read_writes_cons_hit_of_coords _ _ _ _ _ y y (fun a => by
        match a with
        | ⟨0, _⟩ => show (y 0).val = 0 + 1 * (y 0).val; omega
        | ⟨1, _⟩ => show (y 1).val = 0 + 1 * (y 1).val; omega)]
      rw [acc, dif_pos hk]

/-- Writing the next strip of a block whose earlier rows hold `V`, at what `V` holds there, extends the rows that hold it. -/
theorem next6 (V : S1x384x4096.Idx → Elt F .fp8e5m2) (G6 : BufTy.Contents (Elt F) arg6.view.ty) (k : Fin k0_t2_loop.trips) (hk : k.val < 12)
    (w : S1x32x4096.Idx → Elt F .fp8e5m2) (L : List (View.Piece (Elt F) S1x384x4096 .fp8e5m2))
    (hw : ∀ y : S1x384x4096.Idx, (y 1).val / 32 = k.val → w (ix3 (n0 := 1) (n1 := 32) (n2 := 4096) (y 0) ⟨(y 1).val % 32, by omega⟩ (y 2)) = V y)
    (ih : ∀ y : S1x384x4096.Idx, (y 1).val < 32 * k.val → arg6.view.read (Elt F) (arg6.view.writes (Elt F) G6 L) y = V y)
    (y : S1x384x4096.Idx) (hy : (y 1).val < 32 * (k.val + 1)) :
    arg6.view.read (Elt F) (arg6.view.writes (Elt F) G6 ([⟨Rect.unit (s := S1x384x4096) (k0_off5 k) S1x32x4096.size (k0_off5_inb k), w⟩] ++ L)) y = V y := by
  have ho := off5_eq k
  by_cases hy' : (y 1).val < 32 * k.val
  · rw [List.singleton_append, View.read_writes_cons_miss_of_axis _ _ _ _ y 1 (32 * k.val) 32 (congrFun ho 1) rfl rfl (Or.inl hy')]
    exact ih y hy'
  · have e : (y 1).val / 32 = k.val := by omega
    rw [List.singleton_append]
    refine (View.read_writes_cons_hit_of_coords _ _ _ _ _ (ix3 (n0 := 1) (n1 := 32) (n2 := 4096) (y 0) ⟨(y 1).val % 32, by omega⟩ (y 2)) y (fun a => ?_)).trans (hw y e)
    match a with
    | ⟨0, _⟩ => show (y 0).val = k0_off5 k 0 + 1 * (y 0).val; rw [ho]; show (y 0).val = 0 + 1 * (y 0).val; omega
    | ⟨1, _⟩ => show (y 1).val = k0_off5 k 1 + 1 * ((y 1).val % 32); rw [ho]; show (y 1).val = 32 * k.val + 1 * ((y 1).val % 32); omega
    | ⟨2, _⟩ => show (y 2).val = k0_off5 k 2 + 1 * (y 2).val; rw [ho]; show (y 2).val = 0 + 1 * (y 2).val; omega

/-- The same of the scales' block. -/
theorem next7 (V : S1x384x1.Idx → Elt F .f32) (G7 : BufTy.Contents (Elt F) arg7.view.ty) (k : Fin k0_t2_loop.trips) (hk : k.val < 12)
    (w : S1x32x1.Idx → Elt F .f32) (L : List (View.Piece (Elt F) S1x384x1 .f32))
    (hw : ∀ y : S1x384x1.Idx, (y 1).val / 32 = k.val → w (ix3 (n0 := 1) (n1 := 32) (n2 := 1) (y 0) ⟨(y 1).val % 32, by omega⟩ (y 2)) = V y)
    (ih : ∀ y : S1x384x1.Idx, (y 1).val < 32 * k.val → arg7.view.read (Elt F) (arg7.view.writes (Elt F) G7 L) y = V y)
    (y : S1x384x1.Idx) (hy : (y 1).val < 32 * (k.val + 1)) :
    arg7.view.read (Elt F) (arg7.view.writes (Elt F) G7 ([⟨Rect.unit (s := S1x384x1) (k0_off6 k) S1x32x1.size (k0_off6_inb k), w⟩] ++ L)) y = V y := by
  have ho := off6_eq k
  by_cases hy' : (y 1).val < 32 * k.val
  · rw [List.singleton_append, View.read_writes_cons_miss_of_axis _ _ _ _ y 1 (32 * k.val) 32 (congrFun ho 1) rfl rfl (Or.inl hy')]
    exact ih y hy'
  · have e : (y 1).val / 32 = k.val := by omega
    rw [List.singleton_append]
    refine (View.read_writes_cons_hit_of_coords _ _ _ _ _ (ix3 (n0 := 1) (n1 := 32) (n2 := 1) (y 0) ⟨(y 1).val % 32, by omega⟩ (y 2)) y (fun a => ?_)).trans (hw y e)
    match a with
    | ⟨0, _⟩ => show (y 0).val = k0_off6 k 0 + 1 * (y 0).val; rw [ho]; show (y 0).val = 0 + 1 * (y 0).val; omega
    | ⟨1, _⟩ => show (y 1).val = k0_off6 k 1 + 1 * ((y 1).val % 32); rw [ho]; show (y 1).val = 32 * k.val + 1 * ((y 1).val % 32); omega
    | ⟨2, _⟩ => show (y 2).val = k0_off6 k 2 + 1 * (y 2).val; rw [ho]; show (y 2).val = 0 + 1 * (y 2).val; omega

/-- A strip's codes are the block's codes at the strip's rows; -/
theorem codesV_strip (v1 : Elt F .i32) (v12 v36 v37 : FVec F S1x4096 .f32) (x : Vec F S1x384x4096 .bf16) (n : ℕ) (hn : n < 12) (y : S1x384x4096.Idx) (e : (y 1).val / 32 = n) :
    k0_pay9 (dhS v1 v12 v36 v37 x n hn) lanes (mkS v1 v12 v36 v37 x n hn) k0_pay19 (ix3 (n0 := 1) (n1 := 32) (n2 := 4096) (y 0) ⟨(y 1).val % 32, by omega⟩ (y 2)) = codesV v1 v12 v36 v37 x y := by
  subst e; unfold codesV; rfl

/-- a strip's scales the block's. -/
theorem scalesV_strip (v1 : Elt F .i32) (v12 v36 v37 : FVec F S1x4096 .f32) (x : Vec F S1x384x4096 .bf16) (n : ℕ) (hn : n < 12) (y : S1x384x1.Idx) (e : (y 1).val / 32 = n) :
    k0_pay10 lanes (mkS v1 v12 v36 v37 x n hn) k0_pay19 (ix3 (n0 := 1) (n1 := 32) (n2 := 1) (y 0) ⟨(y 1).val % 32, by omega⟩ (y 2)) = scalesV v1 v12 v36 v37 x y := by
  subst e; unfold scalesV; rfl

/-- After `n` strips of the second loop: the codes of the rows passed; -/
theorem loop2_6 (v1 : Elt F .i32) (v12 v36 v37 : FVec F S1x4096 .f32) (x : Vec F S1x384x4096 .bf16) (X2 : BufTy.Contents (Elt F) arg2.view.ty) (X10 : BufTy.Contents (Elt F) arg10.view.ty) (X11 : BufTy.Contents (Elt F) arg11.view.ty)
    (h2 : arg2.view.read (Elt F) X2 = x) (h10 : arg10.view.read (Elt F) X10 = muV x) (h11 : arg11.view.read (Elt F) X11 = rsV x)
    (G6 : BufTy.Contents (Elt F) arg6.view.ty) (n : ℕ) (hn : n ≤ 12) :
    ∀ y : S1x384x4096.Idx, (y 1).val < 32 * n → arg6.view.read (Elt F) (arg6.view.writes (Elt F) G6 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 v1 v12 v36 v37 X2 X10 X11 n).1) y = codesV v1 v12 v36 v37 x y := by
  induction n with
  | zero => exact fun y h => absurd h (by omega)
  | succ n ih =>
    have hk : n < k0_t2_loop.trips := by rw [trips2]; omega
    have hs := congrArg Prod.fst (pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 v1 v12 v36 v37 X2 X10 X11 ⟨n, hk⟩)
    have ht := trip2_6 c i arg1 harg1 arg2 harg2 arg3 harg3 arg4 harg4 arg5 harg5 arg6 harg6 arg7 harg7 arg8 harg8 arg9 harg9 arg10 harg10 arg11 harg11 arg12 harg12 arg13 harg13 v1 v12 v36 v37 x X2 X10 X11 h2 h10 h11 ⟨n, hk⟩ (by show n < 12; omega)
    intro y hy
    refine (congrArg (fun L => arg6.view.read (Elt F) (arg6.view.writes (Elt F) G6 L) y) (hs.trans (congrArg (· ++ _) ht))).trans ?_
    exact next6 arg6 (codesV v1 v12 v36 v37 x) G6 ⟨n, hk⟩ (by show n < 12; omega) _ _ (fun y e => codesV_strip v1 v12 v36 v37 x n (by omega) y e) (ih (by omega)) y hy

/-- and the scales. -/
theorem loop2_7 (v1 : Elt F .i32) (v12 v36 v37 : FVec F S1x4096 .f32) (x : Vec F S1x384x4096 .bf16) (X2 : BufTy.Contents (Elt F) arg2.view.ty) (X10 : BufTy.Contents (Elt F) arg10.view.ty) (X11 : BufTy.Contents (Elt F) arg11.view.ty)
    (h2 : arg2.view.read (Elt F) X2 = x) (h10 : arg10.view.read (Elt F) X10 = muV x) (h11 : arg11.view.read (Elt F) X11 = rsV x)
    (G7 : BufTy.Contents (Elt F) arg7.view.ty) (n : ℕ) (hn : n ≤ 12) :
    ∀ y : S1x384x1.Idx, (y 1).val < 32 * n → arg7.view.read (Elt F) (arg7.view.writes (Elt F) G7 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 v1 v12 v36 v37 X2 X10 X11 n).2) y = scalesV v1 v12 v36 v37 x y := by
  induction n with
  | zero => exact fun y h => absurd h (by omega)
  | succ n ih =>
    have hk : n < k0_t2_loop.trips := by rw [trips2]; omega
    have hs := congrArg Prod.snd (pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 v1 v12 v36 v37 X2 X10 X11 ⟨n, hk⟩)
    have ht := trip2_7 c i arg1 harg1 arg2 harg2 arg3 harg3 arg4 harg4 arg5 harg5 arg6 harg6 arg7 harg7 arg8 harg8 arg9 harg9 arg10 harg10 arg11 harg11 arg12 harg12 arg13 harg13 v1 v12 v36 v37 x X2 X10 X11 h2 h10 h11 ⟨n, hk⟩ (by show n < 12; omega)
    intro y hy
    refine (congrArg (fun L => arg7.view.read (Elt F) (arg7.view.writes (Elt F) G7 L) y) (hs.trans (congrArg (· ++ _) ht))).trans ?_
    exact next7 arg7 (scalesV v1 v12 v36 v37 x) G7 ⟨n, hk⟩ (by show n < 12; omega) _ _ (fun y e => scalesV_strip v1 v12 v36 v37 x n (by omega) y e) (ih (by omega)) y hy

end Trips

end Cert.KernelIdeal.Region0

end
-- ==== Proof.Region0Outs.lean ====
/- One run of the first kernel's body: what it is called with, what it leaves, as functions of the input blocks. -/
module

public import proofs.«01_k».proof.Proof.Region0Loops

@[expose] public section

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The length of the sequence that grid point `i` works on: its word of the table. -/
def len0 (c : Dev nD) (i : grid0.Coords) (xt0 : TbBuf0 (F := F) c tbM0_0) : Elt F .i32 :=
  View.readAt (Elt F) tbM0_0.view (Rect.unit (s := S3) (k0_off1 i) S1.size (k0_off1_inb i)).toLoadRect xt0 (Shape.Idx.first (Nat.one_pos))

/-- The pooled gradient before the division by the length. -/
def dp0 (v1 : Elt F .i32) (x0 : Vec F S1x384x4096 .bf16) (x1 x2 : Vec F S1x4096 .f32) (x3 : Vec F S1x1x4096 .f32) : FVec F S1x4096 .f32 :=
  k0_pay26 v1 (acc v1 x0 12) x1 x2 x3

/-- The four outputs: codes, -/
def codes0 (v1 : Elt F .i32) (x0 : Vec F S1x384x4096 .bf16) (x1 x2 : Vec F S1x4096 .f32) (x3 : Vec F S1x1x4096 .f32) : Vec F S1x384x4096 .fp8e5m2 :=
  codesV v1 (k0_pay25 x1) (dp0 v1 x0 x1 x2 x3) (k0_pay27 v1) x0
/-- scales, -/
def scales0 (v1 : Elt F .i32) (x0 : Vec F S1x384x4096 .bf16) (x1 x2 : Vec F S1x4096 .f32) (x3 : Vec F S1x1x4096 .f32) : Vec F S1x384x1 .f32 :=
  scalesV v1 (k0_pay25 x1) (dp0 v1 x0 x1 x2 x3) (k0_pay27 v1) x0
/-- the scale's gradient added to what was there, -/
def dgamma0 (v1 : Elt F .i32) (x0 : Vec F S1x384x4096 .bf16) (x1 x2 : Vec F S1x4096 .f32) (x3 : Vec F S1x1x4096 .f32) (old : Vec F S1x4096 .f32) : Vec F S1x4096 .f32 :=
  k0_pay6 (k0_pay24 (acc v1 x0 12)) (dp0 v1 x0 x1 x2 x3) (k0_pay27 v1) old
/-- the shift's gradient added to what was there. -/
def dbeta0 (v1 : Elt F .i32) (x0 : Vec F S1x384x4096 .bf16) (x1 x2 : Vec F S1x4096 .f32) (x3 : Vec F S1x1x4096 .f32) (old : Vec F S1x4096 .f32) : Vec F S1x4096 .f32 :=
  k0_pay7 (k0_pay20 v1) (dp0 v1 x0 x1 x2 x3) (k0_pay27 v1) old

/-- A store over a whole row, read back. -/
theorem read_row (arg8 : Memref sig .tc .vmem S1x4096 .f32) (f : BufTy.Contents (Elt F) arg8.view.ty) (w : S1x4096.Idx → Elt F .f32) (L : List (View.Piece (Elt F) S1x4096 .f32)) :
    arg8.view.read (Elt F) (arg8.view.writes (Elt F) f (⟨(Rect.unit (s := S1x4096) ![0, 0] S1x4096.size inb_S1x4096_S1x4096_0_0), w⟩ :: L)) = w :=
  View.read_writes_full _ _ _ _ _

/-- A load of a whole row just stored. -/
theorem cov_row (arg8 : Memref sig .tc .vmem S1x4096 .f32) (w : S1x4096.Idx → Elt F .f32) (L : List (View.Piece (Elt F) S1x4096 .f32)) :
    arg8.view.readCov (⟨(Rect.unit (s := S1x4096) ![0, 0] S1x4096.size inb_S1x4096_S1x4096_0_0), w⟩ :: L) (Rect.unit (s := S1x4096) ![0, 0] S1x4096.size inb_S1x4096_S1x4096_0_0).toLoadRect = w := by
  unfold View.readCov
  exact (View.readAt_full arg8.view _ _).trans (read_row arg8 _ w L)

/-- A load of a whole row. -/
theorem load_row (arg8 : Memref sig .tc .vmem S1x4096 .f32) (h : arg8.IsWhole) (x : Vec F S1x4096 .f32) :
    View.readAt (Elt F) arg8.view (Rect.unit (s := S1x4096) ![0, 0] S1x4096.size inb_S1x4096_S1x4096_0_0).toLoadRect (h.unread x) = x :=
  (View.readAt_full arg8.view _ _).trans (h.read_unread x)
theorem load_row3 (arg8 : Memref sig .tc .vmem S1x1x4096 .f32) (h : arg8.IsWhole) (x : Vec F S1x1x4096 .f32) :
    View.readAt (Elt F) arg8.view (Rect.unit (s := S1x1x4096) ![0, 0, 0] S1x1x4096.size inb_S1x1x4096_S1x1x4096_0_0_0).toLoadRect (h.unread x) = x :=
  (View.readAt_full arg8.view _ _).trans (h.read_unread x)

section Outs

variable (c : Dev nD) (i : grid0.Coords) (arg2 : Memref sig .tc .vmem S1x384x4096 .bf16) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S1x384x4096 .fp8e5m2) (harg6 : arg6.IsWhole) (arg7 : Memref sig .tc .vmem S1x384x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S8x4096 .f32) (harg12 : arg12.IsWhole) (arg13 : Memref sig .tc .vmem S8x4096 .f32) (harg13 : arg13.IsWhole)
variable (v1 : Elt F .i32) (x0 : Vec F S1x384x4096 .bf16) (x1 x2 : Vec F S1x4096 .f32) (x3 : Vec F S1x1x4096 .f32)
variable (fs0 : BufTy.Contents (Elt F) arg10.view.ty) (fs1 : BufTy.Contents (Elt F) arg11.view.ty)

/-- The zeroed running sum. -/
theorem read_zero : arg12.view.read (Elt F) (arg12.view.writes (Elt F) arg12.view.junk [⟨(Rect.unit (s := S8x4096) ![0, 0] S8x4096.size inb_S8x4096_S8x4096_0_0), k0_pay21⟩]) = k0_pay21 :=
  View.read_writes_full _ _ _ _ _

/-- After the first loop: the means, -/
theorem stat10 : arg10.view.read (Elt F) (arg10.view.writes (Elt F) fs0 (pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).1) = muV x0 := by
  funext y
  have h : (y 0).val < 384 := (y 0).isLt
  rw [show Scf.trips k0_t1_loop.lb k0_t1_loop.ub k0_t1_loop.st = 12 from trips1]
  exact (loop1 c i tbM0_0 htbM0_0 arg2 harg2 arg3 harg3 arg4 harg4 arg5 harg5 arg6 harg6 arg7 harg7 arg8 harg8 arg9 harg9 arg10 harg10 arg11 harg11 arg12 harg12 arg13 harg13 v1 x0 _ (harg2.read_unread x0) fs0 fs1 _ (read_zero arg12) 12 le_rfl).1 y h
/-- the inverse deviations, -/
theorem stat11 : arg11.view.read (Elt F) (arg11.view.writes (Elt F) fs1 (pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).2.1) = rsV x0 := by
  funext y
  have h : (y 0).val < 384 := (y 0).isLt
  rw [show Scf.trips k0_t1_loop.lb k0_t1_loop.ub k0_t1_loop.st = 12 from trips1]
  exact (loop1 c i tbM0_0 htbM0_0 arg2 harg2 arg3 harg3 arg4 harg4 arg5 harg5 arg6 harg6 arg7 harg7 arg8 harg8 arg9 harg9 arg10 harg10 arg11 harg11 arg12 harg12 arg13 harg13 v1 x0 _ (harg2.read_unread x0) fs0 fs1 _ (read_zero arg12) 12 le_rfl).2.1 y h
/-- the sum of the normalised rows. -/
theorem stat12 : arg12.view.readCov ((pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).2.2 ++ [⟨(Rect.unit (s := S8x4096) ![0, 0] S8x4096.size inb_S8x4096_S8x4096_0_0), k0_pay21⟩]) (Rect.unit (s := S8x4096) ![0, 0] S8x4096.size inb_S8x4096_S8x4096_0_0).toLoadRect = acc v1 x0 12 := by
  unfold View.readCov
  rw [View.writes_append]
  refine (View.readAt_full arg12.view _ _).trans ?_
  rw [show Scf.trips k0_t1_loop.lb k0_t1_loop.ub k0_t1_loop.st = 12 from trips1]
  exact (loop1 c i tbM0_0 htbM0_0 arg2 harg2 arg3 harg3 arg4 harg4 arg5 harg5 arg6 harg6 arg7 harg7 arg8 harg8 arg9 harg9 arg10 harg10 arg11 harg11 arg12 harg12 arg13 harg13 v1 x0 _ (harg2.read_unread x0) fs0 fs1 _ (read_zero arg12) 12 le_rfl).2.2

/-- The pooled gradient from what the body loads. -/
theorem dp0_eq : k0_pay26 v1 (arg12.view.readCov ((pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).2.2 ++ [⟨(Rect.unit (s := S8x4096) ![0, 0] S8x4096.size inb_S8x4096_S8x4096_0_0), k0_pay21⟩]) (Rect.unit (s := S8x4096) ![0, 0] S8x4096.size inb_S8x4096_S8x4096_0_0).toLoadRect)
      (View.readAt (Elt F) arg3.view (Rect.unit (s := S1x4096) ![0, 0] S1x4096.size inb_S1x4096_S1x4096_0_0).toLoadRect (harg3.unread x1)) (View.readAt (Elt F) arg4.view (Rect.unit (s := S1x4096) ![0, 0] S1x4096.size inb_S1x4096_S1x4096_0_0).toLoadRect (harg4.unread x2))
      (View.readAt (Elt F) arg5.view (Rect.unit (s := S1x1x4096) ![0, 0, 0] S1x1x4096.size inb_S1x1x4096_S1x1x4096_0_0_0).toLoadRect (harg5.unread x3)) = dp0 v1 x0 x1 x2 x3 := by
  rw [stat12, load_row, load_row, load_row3]; rfl

/-- The codes' buffer after the second loop, -/
theorem out4 (v12 v36 v37 : FVec F S1x4096 .f32) (h12 : v12 = k0_pay25 x1) (h36 : v36 = dp0 v1 x0 x1 x2 x3) (h37 : v37 = k0_pay27 v1)
    (G : BufTy.Contents (Elt F) arg6.view.ty) :
    arg6.view.read (Elt F) (arg6.view.writes (Elt F) G (pb_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 v12 v36 v37 (harg2.unread x0)
      (arg10.view.writes (Elt F) fs0 (pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).1) (arg11.view.writes (Elt F) fs1 (pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).2.1) (Scf.trips k0_t2_loop.lb k0_t2_loop.ub k0_t2_loop.st)).1)
      = codes0 v1 x0 x1 x2 x3 := by
  subst h12 h36 h37
  funext y
  have h : (y 1).val < 384 := (y 1).isLt
  rw [show Scf.trips k0_t2_loop.lb k0_t2_loop.ub k0_t2_loop.st = 12 from trips2]
  exact loop2_6 c i tbM0_0 htbM0_0 arg2 harg2 arg3 harg3 arg4 harg4 arg5 harg5 arg6 harg6 arg7 harg7 arg8 harg8 arg9 harg9 arg10 harg10 arg11 harg11 arg12 harg12 arg13 harg13 v1 _ _ _ x0 _ _ _ (harg2.read_unread x0) (stat10 c i arg2 harg2 arg3 harg3 arg4 harg4 arg5 harg5 arg6 harg6 arg7 harg7 arg8 harg8 arg9 harg9 arg10 harg10 arg11 harg11 arg12 harg12 arg13 harg13 v1 x0 fs0 fs1) (stat11 c i arg2 harg2 arg3 harg3 arg4 harg4 arg5 harg5 arg6 harg6 arg7 harg7 arg8 harg8 arg9 harg9 arg10 harg10 arg11 harg11 arg12 harg12 arg13 harg13 v1 x0 fs0 fs1) G 12 le_rfl y h

/-- and the scales'. -/
theorem out5 (v12 v36 v37 : FVec F S1x4096 .f32) (h12 : v12 = k0_pay25 x1) (h36 : v36 = dp0 v1 x0 x1 x2 x3) (h37 : v37 = k0_pay27 v1)
    (G : BufTy.Contents (Elt F) arg7.view.ty) :
    arg7.view.read (Elt F) (arg7.view.writes (Elt F) G (pb_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 v12 v36 v37 (harg2.unread x0)
      (arg10.view.writes (Elt F) fs0 (pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).1) (arg11.view.writes (Elt F) fs1 (pb_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 v1 (harg2.unread x0) fs0 fs1 (arg12.view.writes (Elt F) arg12.view.junk [⟨(Rect.unit (s := S8x4096) ![0, 0] S8x4096.size inb_S8x4096_S8x4096_0_0), k0_pay21⟩]) (Scf.trips k0_t1_loop.lb k0_t1_loop.ub k0_t1_loop.st)).2.1) (Scf.trips k0_t2_loop.lb k0_t2_loop.ub k0_t2_loop.st)).2)
      = scales0 v1 x0 x1 x2 x3 := by
  subst h12 h36 h37
  funext y
  have h : (y 1).val < 384 := (y 1).isLt
  rw [show Scf.trips k0_t2_loop.lb k0_t2_loop.ub k0_t2_loop.st = 12 from trips2]
  exact loop2_7 c i tbM0_0 htbM0_0 arg2 harg2 arg3 harg3 arg4 harg4 arg5 harg5 arg6 harg6 arg7 harg7 arg8 harg8 arg9 harg9 arg10 harg10 arg11 harg11 arg12 harg12 arg13 harg13 v1 _ _ _ x0 _ _ _ (harg2.read_unread x0) (stat10 c i arg2 harg2 arg3 harg3 arg4 harg4 arg5 harg5 arg6 harg6 arg7 harg7 arg8 harg8 arg9 harg9 arg10 harg10 arg11 harg11 arg12 harg12 arg13 harg13 v1 x0 fs0 fs1) (stat11 c i arg2 harg2 arg3 harg3 arg4 harg4 arg5 harg5 arg6 harg6 arg7 harg7 arg8 harg8 arg9 harg9 arg10 harg10 arg11 harg11 arg12 harg12 arg13 harg13 v1 x0 fs0 fs1) G 12 le_rfl y h

end Outs

theorem pay6_congr {a a' b b' d d' : FVec F S1x4096 .f32} {o o' : Vec F S1x4096 .f32} (h1 : a = a') (h2 : b = b') (h3 : d = d') (h4 : o = o') :
    k0_pay6 a b d o = k0_pay6 a' b' d' o' := by subst h1 h2 h3 h4; rfl
theorem pay7_congr {a a' : F .f32} {b b' d d' : FVec F S1x4096 .f32} {o o' : Vec F S1x4096 .f32} (h1 : a = a') (h2 : b = b') (h3 : d = d') (h4 : o = o') :
    k0_pay7 a b d o = k0_pay7 a' b' d' o' := by subst h1 h2 h3 h4; rfl

end Cert.KernelIdeal.Region0

end
-- ==== Proof.Formulas.lean ====
/- The mathematics of one sequence, over the extended reals: rows of 4096 numbers, normalised; the mean over the rows
   inside the sequence's length of what the scale and the shift make of them; that mean's direction; the gradients of the
   direction's product with given numbers; and the quantiser of the rows' gradients. -/
module

public import Idealize.ShloMosaic.Lib.Pointwise
public import Idealize.ShloMosaic.Lib.IdealHost

@[expose] public section

noncomputable section

namespace Cert.Formulas

open Idealize.ShloMosaic

/-- 4096, the number of entries in a row. -/
abbrev width : EReal := Ideal.ofBits .f32 0x45800000#32

variable (X : Fin 384 → Fin 4096 → EReal) (L : BitVec 32) (G B E : Fin 4096 → EReal) (D : Fin 4096 → EReal)

/-- A row less its mean, -/
def cen (t : Fin 384) (q : Fin 4096) : EReal := X t q - Ideal.div (∑ k, X t k) width
/-- its inverse deviation, -/
def dev (t : Fin 384) : EReal :=
  Ideal.rsqrt (Ideal.div (∑ k, cen X t k * cen X t k) width + Ideal.ofBits .f32 0x3727C5AC#32)
/-- the normalised row. -/
def nrm (t : Fin 384) (q : Fin 4096) : EReal := cen X t q * dev X t
/-- One at the rows inside the length, zero beyond. -/
def ins (t : ℕ) : EReal := FloatOps.uitofp (F := Ideal) .f32 (IntOp.cmpi .slt (BitVec.ofNat 32 t) L)
/-- The length as a number. -/
def len : EReal := FloatOps.sitofp (F := Ideal) .f32 L
/-- The mean over the rows inside. -/
def mean (q : Fin 4096) : EReal := Ideal.div (∑ t : Fin 384, ins L t.val * (nrm X t q * G q + B q)) (len L)
/-- A vector's length, -/
def size (P : Fin 4096 → EReal) : EReal := Ideal.sqrt (∑ k, P k * P k)
/-- and the gradient, in the vector, of its direction's product with `E`. -/
def dmean (P : Fin 4096 → EReal) (q : Fin 4096) : EReal :=
  Ideal.div (E q - Ideal.div (P q) (size P) * ∑ k, Ideal.div (P k) (size P) * E k) (size P)
/-- One row's share of that gradient. -/
def share (q : Fin 4096) : EReal := Ideal.div (dmean E (mean X L G B) q) (len L)
/-- The gradient of a normalised row, from one row's share `D`, -/
def dnrm (t : Fin 384) (q : Fin 4096) : EReal := ins L t.val * D q * G q
/-- and of the row. -/
def grad (t : Fin 384) (q : Fin 4096) : EReal :=
  dev X t * (dnrm L G D t q - Ideal.div (∑ k, dnrm L G D t k) width
    - nrm X t q * Ideal.div (∑ k, dnrm L G D t k * nrm X t k) width)
/-- The largest value of a row, -/
def top (R : Fin 4096 → EReal) : EReal :=
  Finset.fold max (Ideal.ofBits .f32 0xFF800000#32) (fun q => FloatOps.absf (F := Ideal) (φ := .f32) (R q)) Finset.univ
/-- over the largest code, -/
def rel (R : Fin 4096 → EReal) : EReal := top R * Ideal.ofBits .f32 0x37924925#32
/-- and the exponent it needs: the largest `k` with `2 ^ (k - 1)` at most `y`, and zero for a `y` below them all. -/
def expo (y : EReal) : BitVec 32 :=
  if y < Ideal.ofBits .f32 0x00800000#32 then 0#32
  else Finset.fold IntOp.maxsi 2147483648#32 (fun j : Fin 254 =>
    if Ideal.pow (Ideal.ofBits .f32 0x40000000#32)
        (FloatOps.sitofp (F := Ideal) .f32 (IntOp.subi (IntOp.addi 4294967171#32 (BitVec.ofNat 32 j.val)) 1#32)) ≤ y
      then IntOp.addi 4294967171#32 (BitVec.ofNat 32 j.val) else 4294967171#32) Finset.univ
/-- The scale of a row, -/
def scale (k : BitVec 32) : EReal := Ideal.pow (Ideal.ofBits .f32 0x40000000#32) (FloatOps.sitofp (F := Ideal) .f32 k)
/-- and its code. -/
def code (d : EReal) (k : BitVec 32) : EReal :=
  min (Ideal.ofBits .f32 0x47600000#32) (max (Ideal.ofBits .f32 0xC7600000#32)
    (d * Ideal.pow (Ideal.ofBits .f32 0x40000000#32) (-(FloatOps.sitofp (F := Ideal) .f32 k : EReal))))

end Cert.Formulas

end
-- ==== Proof.Exponents.lean ====
/- The exponents and scales: a word's exponent field as a power of two, the largest of a family of words, and the
   exponent found by counting powers of two against the largest power below. -/
module

public import proofs.«01_k».proof.Proof.Formulas

@[expose] public section

noncomputable section

namespace Cert.Formulas

open Idealize.ShloMosaic

/-- A word whose only set bits are an exponent field `e` in the normal range is `2 ^ (e - 127)`. -/
theorem ofBits_exp (e : ℕ) (h1 : 1 ≤ e) (h2 : e ≤ 254) :
    Ideal.ofBits .f32 (BitVec.ofNat 32 e <<< 23) = (((2 : ℝ) ^ ((e : ℤ) - 127) : ℝ) : EReal) := by
  have hx : ((BitVec.ofNat 32 e <<< 23).extractLsb' 23 8).toNat = e ∧ ((BitVec.ofNat 32 e <<< 23).extractLsb' 0 23).toNat = 0
      ∧ ((BitVec.ofNat 32 e <<< 23).extractLsb' 31 1 == 1#1) = false := by
    have : ∀ e : Fin 255, ((BitVec.ofNat 32 e.val <<< 23).extractLsb' 23 8).toNat = e.val ∧ ((BitVec.ofNat 32 e.val <<< 23).extractLsb' 0 23).toNat = 0
      ∧ ((BitVec.ofNat 32 e.val <<< 23).extractLsb' 31 1 == 1#1) = false := by decide +kernel
    exact this ⟨e, by omega⟩
  show Ideal.ieee 8 23 _ = _
  unfold Ideal.ieee
  simp only [hx.1, hx.2.1, show 8 + 23 = 31 from rfl, hx.2.2]
  rw [if_neg (by norm_num; omega), if_neg (by omega)]
  norm_num
  rw [show (8388608 : ℝ) = (2 : ℝ) ^ (23 : ℤ) by norm_num, ← EReal.coe_mul, ← zpow_add₀ (by norm_num)]
  congr 2
  ring

/-- A word of the normal range from its fields. -/
theorem ofBits_fields (b : BitVec 32) (e f : ℕ) (h : (b.extractLsb' 23 8).toNat = e ∧ (b.extractLsb' 0 23).toNat = f ∧ (b.extractLsb' 31 1 == 1#1) = false)
    (h1 : 1 ≤ e) (h2 : e ≤ 254) : Ideal.ofBits .f32 b = (((2 : ℝ) ^ ((e : ℤ) - 127) * (1 + (f : ℝ) / 8388608) : ℝ) : EReal) := by
  show Ideal.ieee 8 23 b = _
  unfold Ideal.ieee
  simp only [h.1, h.2.1, show 8 + 23 = 31 from rfl, h.2.2]
  rw [if_neg (by norm_num; omega), if_neg (by omega)]
  refine congrArg Real.toEReal ?_
  push_cast
  rw [show (1 + (f : ℝ) / 8388608) = (8388608 + f) * (2 : ℝ) ^ (-23 : ℤ) by norm_num; ring]
  rw [show ((e : ℤ) - 127 - 23) = ((e : ℤ) - 127) + (-23) by ring, zpow_add₀ (by norm_num)]
  ring

/-- The word zero is zero, -/
theorem ofBits_exp0 : Ideal.ofBits .f32 (BitVec.ofNat 32 0 <<< 23) = 0 := by
  rw [show (BitVec.ofNat 32 0 <<< 23) = 0#32 from by decide]; exact Ideal.ofBits_zero_f32
/-- and the largest exponent field is infinity. -/
theorem ofBits_exp255 : Ideal.ofBits .f32 (BitVec.ofNat 32 255 <<< 23) = ⊤ := by
  rw [show (BitVec.ofNat 32 255 <<< 23) = 0x7F800000#32 from by decide]
  simp [Ideal.ofBits, Ideal.ieee]
/-- The word of two is two; -/
theorem ofBits_two : Ideal.ofBits .f32 0x40000000#32 = ((2 : ℝ) : EReal) := by
  rw [show (0x40000000#32 : BitVec 32) = BitVec.ofNat 32 128 <<< 23 from by decide]
  refine (ofBits_exp 128 (by norm_num) (by norm_num)).trans ?_
  norm_num
/-- so its power at an integer is the power of two. -/
theorem pow_two (k : ℤ) : Ideal.pow (Ideal.ofBits .f32 0x40000000#32) (((k : ℝ) : ℝ) : EReal) = (((2 : ℝ) ^ k : ℝ) : EReal) := by
  rw [ofBits_two]
  show ((Real.rpow 2 (k : ℝ) : ℝ) : EReal) = _
  rw [show Real.rpow 2 (k : ℝ) = (2 : ℝ) ^ (k : ℝ) from rfl, Real.rpow_intCast]

/-- The largest of a family of words is known by a member no other exceeds. -/
theorem fold_maxsi {ι : Type} [DecidableEq ι] (s : Finset ι) (f : ι → BitVec 32) (init v : BitVec 32)
    (h0 : init.toInt ≤ v.toInt) (h : ∀ i ∈ s, (f i).toInt ≤ v.toInt) (hv : ∃ i ∈ s, f i = v) :
    Finset.fold IntOp.maxsi init f s = v := by
  have hm : ∀ x y : BitVec 32, (IntOp.maxsi x y).toInt = max x.toInt y.toInt := fun x y => by
    unfold IntOp.maxsi
    by_cases c : y.slt x
    · rw [if_pos c, max_eq_left]; rw [BitVec.slt_iff_toInt_lt] at c; exact c.le
    · rw [if_neg c, max_eq_right]; rw [BitVec.slt_iff_toInt_lt] at c; omega
  have key : ∀ s : Finset ι, (∀ i ∈ s, (f i).toInt ≤ v.toInt) →
      (Finset.fold IntOp.maxsi init f s).toInt ≤ v.toInt ∧ ∀ i ∈ s, (f i).toInt ≤ (Finset.fold IntOp.maxsi init f s).toInt := by
    intro s
    induction s using Finset.induction_on with
    | empty => intro _; exact ⟨by rw [Finset.fold_empty]; exact h0, fun i hi => absurd hi (Finset.notMem_empty i)⟩
    | insert a s ha ih =>
      intro hs
      obtain ⟨i1, i2⟩ := ih fun i hi => hs i (Finset.mem_insert_of_mem hi)
      rw [Finset.fold_insert ha, hm]
      refine ⟨max_le (hs a (Finset.mem_insert_self a s)) i1, fun i hi => ?_⟩
      rcases Finset.mem_insert.1 hi with rfl | hi
      · exact le_max_left _ _
      · exact (i2 i hi).trans (le_max_right _ _)
  obtain ⟨i, hi, e⟩ := hv
  obtain ⟨k1, k2⟩ := key s h
  exact BitVec.eq_of_toInt_eq (le_antisymm k1 (e ▸ k2 i hi))

/-- For `y` from the smallest normal number on and below `2 ^ 114`, there is a largest `e` with `2 ^ (e - 127) ≤ y`. -/
theorem exists_exp (y : EReal) (h1 : (((2 : ℝ) ^ (-126 : ℤ) : ℝ) : EReal) ≤ y) (h2 : y < (((2 : ℝ) ^ (114 : ℤ) : ℝ) : EReal)) :
    ∃ e : ℕ, 1 ≤ e ∧ e ≤ 240 ∧ ∀ l : ℕ, 1 ≤ l → ((((2 : ℝ) ^ ((l : ℤ) - 127) : ℝ) : EReal) ≤ y ↔ l ≤ e) := by
  classical
  have mono : ∀ a b : ℤ, a ≤ b → (((2 : ℝ) ^ a : ℝ) : EReal) ≤ (((2 : ℝ) ^ b : ℝ) : EReal) := fun a b h =>
    EReal.coe_le_coe_iff.2 (zpow_le_zpow_right₀ (by norm_num) h)
  let P : ℕ → Prop := fun l => (((2 : ℝ) ^ ((l : ℤ) - 127) : ℝ) : EReal) ≤ y
  have hP1 : P 1 := by simpa [P] using h1
  have hle : ∀ l, P l → l ≤ 240 := fun l hl => by
    by_contra c
    have := mono 114 ((l : ℤ) - 127) (by omega)
    exact absurd (this.trans hl) (not_le.2 h2)
  refine ⟨Nat.findGreatest P 240, ?_, Nat.findGreatest_le 240, fun l hl => ⟨fun h => Nat.le_findGreatest (hle l h) h, fun h => ?_⟩⟩
  · exact Nat.le_findGreatest (by norm_num) hP1
  · exact (mono _ _ (by omega)).trans (Nat.findGreatest_spec (P := P) (by norm_num : 1 ≤ 240) hP1)

end Cert.Formulas

end
-- ==== Proof.PayloadAt.lean ====
/- What the first kernel's values are, entry by entry: the formulas of Formulas.lean, with the mean over the rows taken
   from the sum of the normalised rows, and the exponent counted against the powers of two. -/
module

public import proofs.«01_k».proof.Proof.Region0Outs
public import proofs.«01_k».proof.Proof.Exponents

@[expose] public section

set_option maxRecDepth 16384

noncomputable section

namespace Cert.KernelIdeal.Region0

open Idealize.ShloMosaic Idealize.ShloMosaic.TcCoe Idealize.ShloMosaic.Tactic
open Cert.KernelIdeal Cert.KernelIdeal.Gen
open Cert

variable (u v w old : FVec Ideal S1x4096 .f32) (v2 : Ideal .f32) (v1 : Elt Ideal .i32) (s : Vec Ideal S1x32x4096 .bf16) (a8 : Vec Ideal S8x4096 .f32)
  (mu rs : Vec Ideal S32x1 .f32) (k1 : Fin k0_t1_loop.trips) (k2 : Fin k0_t2_loop.trips) (ln : IVec S1x256 32) (mk : IVec S32x256 1) (z : IVec S32x256 32) (d : FVec Ideal S32x4096 .f32)
  (o : Fin 1) (r : Fin 32) (r8 : Fin 8) (q : Fin 4096) (ge : Vec Ideal S1x1x4096 .f32) (x : Vec Ideal S1x384x4096 .bf16)

/-! Each stored value at an entry. -/

theorem pay1_at : k0_pay1 u v (ix2 o q) = Ideal.div (u (ix2 o q)) (v (ix2 o q)) := by
  unfold k0_pay1; pointwise
theorem pay2_at : k0_pay2 u v w (ix2 o q) = k0_pay1 v w (ix2 o q) * u (ix2 o q) := by
  unfold k0_pay2; pointwise
theorem pay3_at : k0_pay3 u v w (ix2 o q) = k0_pay2 u v w (ix2 o q) - (∑ x, k0_pay2 u v w (ix2 0 x)) * Ideal.ofBits FTy.f32 964689920#32 := by
  unfold k0_pay3; pointwise
theorem pay4_at : k0_pay4 (F := Ideal) (ix2 o q) = 0 := by
  unfold k0_pay4; pointwise
theorem pay5_at : k0_pay5 (F := Ideal) (ix2 o q) = 0 := by
  unfold k0_pay5; pointwise
theorem pay6_at : k0_pay6 u v w old (ix2 o q) = old (ix2 o q) + k0_pay1 v w (ix2 o q) * u (ix2 o q) := by
  unfold k0_pay6; pointwise
theorem pay7_at : k0_pay7 v2 v w old (ix2 o q) = old (ix2 o q) + k0_pay1 v w (ix2 o q) * v2 := by
  unfold k0_pay7; pointwise
/-- The largest lane number whose power of two is reached. -/
def maxLane (r : Fin 32) : BitVec 32 :=
  Finset.fold IntOp.maxsi (2147483648#32) (fun x => Scalar.select (mk (ix2 r x)) (z (ix2 r x)) (ln (ix2 0 x))) Finset.univ
theorem pay8_at : k0_pay8 ln mk z (ix2 r o) = Scalar.select (IntOp.cmpi .eq (maxLane ln mk z r) 0#32) (0#32) (IntOp.subi (maxLane ln mk z r) 126#32) := by
  unfold k0_pay8 maxLane; pointwise
theorem pay9_at : k0_pay9 d ln mk z (ix3 o r q) = min (Ideal.ofBits FTy.f32 1197473792#32)
      (max (Ideal.ofBits FTy.f32 3344957440#32)
        (d (ix2 r q) *
          Ideal.ofBits FTy.f32 (IntOp.shli ArithUnit.vector (IntOp.subi (127#32) (k0_pay8 ln mk z (ix2 r 0))) 23#32))) := by
  unfold k0_pay9; pointwise
theorem pay10_at (o' : Fin 1) : k0_pay10 (F := Ideal) ln mk z (ix3 o r o') = Ideal.ofBits FTy.f32 (IntOp.shli ArithUnit.vector (IntOp.addi (k0_pay8 ln mk z (ix2 r 0)) 127#32) 23#32) := by
  unfold k0_pay10; pointwise
theorem pay11_at : k0_pay11 s (ix2 r q) = s (ix3 0 r q) := by
  unfold k0_pay11; pointwise
theorem pay12_at : k0_pay12 s (ix2 r o) = (∑ k, s (ix3 0 r k)) * Ideal.ofBits FTy.f32 964689920#32 := by
  unfold k0_pay12; pointwise; simp only [pay11_at]
theorem pay13_at : k0_pay13 s (ix2 r q) = s (ix3 0 r q) - (∑ k, s (ix3 0 r k)) * Ideal.ofBits FTy.f32 964689920#32 := by
  unfold k0_pay13; pointwise; rw [pay11_at, pay12_at]
theorem pay14_at : k0_pay14 s (ix2 r o) = Ideal.rsqrt
      ((∑ x, k0_pay13 s (ix2 r x) * k0_pay13 s (ix2 r x)) * Ideal.ofBits FTy.f32 964689920#32 +
        Ideal.ofBits FTy.f32 925353388#32) := by
  unfold k0_pay14; pointwise
/-- One masked normalised entry, as the first loop adds it. -/
def term (k : ℕ) (s : Vec Ideal S1x32x4096 .bf16) (r : ℕ) (hr : r < 32) (q : Fin 4096) : EReal :=
  Scalar.select (IntOp.cmpi CmpIPredicate.slt (IntOp.addi (Scalar.muli (Scf.iv 0#32 1#32 k) 32#32) (BitVec.ofNat 32 r)) v1)
    (k0_pay13 s (ix2 ⟨r, hr⟩ q) * k0_pay14 s (ix2 ⟨r, hr⟩ 0)) (0 : EReal)
theorem pay15_at : k0_pay15 v1 0#32 1#32 k1 s a8 (ix2 r8 q) = a8 (ix2 r8 q) +
    (term v1 k1.val s r8.val (by omega) q + term v1 k1.val s (8 + r8.val) (by omega) q + term v1 k1.val s (16 + r8.val) (by omega) q
      + term v1 k1.val s (24 + r8.val) (by omega) q) := by
  unfold k0_pay15; pointwise; rfl
theorem pay16_at (l : Fin 128) : k0_pay22 (k0_pay16 s) (ix2 r l) = (∑ k, s (ix3 0 r k)) * Ideal.ofBits FTy.f32 964689920#32 := by
  unfold k0_pay22 k0_pay16; pointwise; exact pay12_at s 0 r
theorem pay23_at (mu : FVec Ideal S32x1 .f32) (l : Fin 128) : k0_pay23 mu (ix2 r l) = mu (ix2 r 0) := by
  unfold k0_pay23; pointwise
theorem pay17_at : k0_pay17 v1 u v 0#32 1#32 k2 mu rs s (ix2 r q) = Scalar.select
      (IntOp.cmpi CmpIPredicate.slt (IntOp.addi (Scalar.muli (Scf.iv 0#32 1#32 k2.val) 32#32) (BitVec.ofNat 32 r.val)) v1)
      (rs (ix2 r 0) *
        (v (ix2 0 q) -
          (s (ix3 0 r q) - mu (ix2 r 0)) * rs (ix2 r 0) *
            ((∑ x, (s (ix3 0 r x) - mu (ix2 r 0)) * rs (ix2 r 0) * u (ix2 0 x)) * Ideal.ofBits FTy.f32 964689920#32)))
      (0 : EReal) := by
  unfold k0_pay17; pointwise
theorem pay18_at (l : Fin 256) : k0_pay18 v1 u v 0#32 1#32 k2 mu rs s (ix2 r l) = BitVec.ofBool
      (decide (Formulas.rel (fun q => k0_pay17 v1 u v (0#32) (1#32) k2 mu rs s (ix2 r q)) <
          Ideal.ofBits FTy.f32 (IntOp.shli ArithUnit.vector (BitVec.ofNat 32 l.val) 23#32))) := by
  unfold k0_pay18 Formulas.rel Formulas.top; pointwise
theorem pay19_at (l : Fin 256) : k0_pay19 (ix2 r l) = 0#32 := by
  unfold k0_pay19; pointwise
theorem pay21_at : k0_pay21 (F := Ideal) (ix2 r8 q) = 0 := by
  unfold k0_pay21; pointwise
theorem pay24_at : k0_pay24 a8 (ix2 o q) = ∑ x, a8 (ix2 x q) := by
  unfold k0_pay24; pointwise
theorem pay25_at (u : Vec Ideal S1x4096 .f32) : k0_pay25 u (ix2 o q) = u (ix2 o q) := by
  unfold k0_pay25; pointwise
/-- The mean over the rows, from their sum `a8`. -/
def meanK (u v : Vec Ideal S1x4096 .f32) (q : Fin 4096) : EReal :=
  Ideal.div (u (ix2 0 q) * ∑ r, a8 (ix2 r q) + v (ix2 0 q) * Formulas.len v1) (Formulas.len v1)
theorem pay26_at (u v : Vec Ideal S1x4096 .f32) : k0_pay26 v1 a8 u v ge (ix2 0 q) = Formulas.dmean (fun q => ge (ix3 0 0 q)) (meanK v1 a8 u v) q := by
  unfold k0_pay26 Formulas.dmean Formulas.size meanK; pointwise; simp only [pay25_at, pay24_at]; rfl
theorem pay27_at : k0_pay27 (F := Ideal) v1 (ix2 o q) = Formulas.len v1 := by
  unfold k0_pay27; pointwise; rfl
theorem lanes_at (l : Fin 256) : lanes (ix2 o l) = BitVec.ofNat 32 l.val := by
  unfold lanes; pointwise

end Cert.KernelIdeal.Region0

end
-- ==== Proof.Reals.lean ====
/- Where the numbers are real: the normalised rows always are, a length in range counts the rows inside it, the mean over
   the rows inside is a real scale times the mean of the normalised rows plus the shift, and a share common to the rows
   inside comes out of a sum over them. -/
module

public import proofs.«01_k».proof.Proof.Exponents

@[expose] public section

noncomputable section

namespace Cert.Formulas

open Idealize.ShloMosaic

/-- A real number, neither infinity. -/
def IsReal (x : EReal) : Prop := ∃ r : ℝ, x = (r : EReal)

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- The sum of real numbers, taken among the extended reals, is their sum. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]
theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩
/-- A quotient by a nonzero real number. -/
theorem div_coe (a b : ℝ) (hb : b ≠ 0) : Ideal.div (a : EReal) (b : EReal) = ((a * b⁻¹ : ℝ) : EReal) := by
  unfold Ideal.div
  rw [if_neg (by exact_mod_cast hb), EReal.coe_mul, EReal.coe_inv]
theorem IsReal.div {x : EReal} (hx : IsReal x) (b : ℝ) (hb : b ≠ 0) : IsReal (Ideal.div x (b : EReal)) := by
  obtain ⟨a, rfl⟩ := hx; exact ⟨_, div_coe a b hb⟩

theorem width_eq : width = ((4096 : ℝ) : EReal) := by
  show Ideal.ofBits .f32 0x45800000#32 = _
  rw [show (0x45800000#32 : BitVec 32) = BitVec.ofNat 32 139 <<< 23 from by decide]
  refine (ofBits_exp 139 (by norm_num) (by norm_num)).trans ?_
  norm_num
theorem inv_width_eq : Ideal.ofBits .f32 964689920#32 = (((4096 : ℝ)⁻¹ : ℝ) : EReal) := by
  rw [show (964689920#32 : BitVec 32) = BitVec.ofNat 32 115 <<< 23 from by decide]
  refine (ofBits_exp 115 (by norm_num) (by norm_num)).trans ?_
  norm_num
/-- A product with `2 ^ (-12)` is a quotient by 4096. -/
theorem mul_inv_width (x : EReal) : x * Ideal.ofBits .f32 964689920#32 = Ideal.div x width := by
  rw [width_eq, inv_width_eq]
  unfold Ideal.div
  rw [if_neg (by exact_mod_cast (by norm_num : (4096 : ℝ) ≠ 0)), EReal.coe_inv]

/-- The number added under the root is positive. -/
theorem eps_pos : ∃ e : ℝ, 0 < e ∧ Ideal.ofBits .f32 0x3727C5AC#32 = (e : EReal) := by
  refine ⟨_, ?_, ofBits_fields _ 110 2606508 (by decide) (by norm_num) (by norm_num)⟩
  positivity

variable {X : Fin 384 → Fin 4096 → EReal} {L : BitVec 32} {G B E : Fin 4096 → EReal}

/-- A sum with an infinity in it is an infinity: the lower one if it is there, -/
theorem sum_bot {ι : Type} [DecidableEq ι] (s : Finset ι) (f : ι → EReal) {i : ι} (hi : i ∈ s) (h : f i = ⊥) : ∑ j ∈ s, f j = ⊥ := by
  rw [← Finset.add_sum_erase s f hi, h, EReal.bot_add]
/-- and otherwise the upper one. -/
theorem sum_ne_bot {ι : Type} [DecidableEq ι] (s : Finset ι) (f : ι → EReal) (h : ∀ j, f j ≠ ⊥) : ∑ j ∈ s, f j ≠ ⊥ := by
  induction s using Finset.induction_on with
  | empty => simp
  | insert a s ha ih => rw [Finset.sum_insert ha]; exact EReal.add_ne_bot_iff.2 ⟨h a, ih⟩
theorem sum_top {ι : Type} [DecidableEq ι] (s : Finset ι) (f : ι → EReal) (h : ∀ j, f j ≠ ⊥) {i : ι} (hi : i ∈ s) (ht : f i = ⊤) :
    ∑ j ∈ s, f j = ⊤ := by
  rw [← Finset.add_sum_erase s f hi, ht]
  exact EReal.top_add_of_ne_bot (sum_ne_bot _ f h)
theorem div_top : Ideal.div ⊤ width = ⊤ := by
  rw [← mul_inv_width, inv_width_eq]
  exact EReal.top_mul_coe_of_pos (by norm_num)
theorem div_bot : Ideal.div ⊥ width = ⊥ := by
  rw [← mul_inv_width, inv_width_eq]
  exact EReal.bot_mul_coe_of_pos (by norm_num)

theorem cen_real (t : Fin 384) (hX : ∀ q, IsReal (X t q)) (q : Fin 4096) : IsReal (cen X t q) := by
  unfold cen
  rw [width_eq]
  exact (hX q).sub ((IsReal.sum _ _ fun k => hX k).div 4096 (by norm_num))

theorem dev_real_of (t : Fin 384) (hX : ∀ q, IsReal (X t q)) : IsReal (dev X t) := by
  choose f hf using cen_real t hX
  obtain ⟨e, he, heq⟩ := eps_pos
  unfold dev
  rw [width_eq, heq]
  have : ∑ k, cen X t k * cen X t k = ((∑ k, f k * f k : ℝ) : EReal) := by
    rw [coe_sum]; exact Finset.sum_congr rfl fun k _ => by rw [hf k, EReal.coe_mul]
  rw [this, div_coe _ _ (by norm_num), ← EReal.coe_add]
  have hp : 0 < (∑ k, f k * f k) * (4096 : ℝ)⁻¹ + e := by
    have : 0 ≤ ∑ k, f k * f k := Finset.sum_nonneg fun k _ => mul_self_nonneg _
    positivity
  show IsReal (if _ < (0 : ℝ) then (⊥ : EReal) else if _ = (0 : ℝ) then ⊤ else _)
  rw [if_neg (not_lt.2 hp.le), if_neg hp.ne']
  exact ⟨_, rfl⟩

/-- A row with an infinity in it is, less its mean, infinite everywhere, -/
theorem cen_inf (t : Fin 384) (q0 : Fin 4096) (h : ¬ IsReal (X t q0)) (q : Fin 4096) : cen X t q = ⊤ ∨ cen X t q = ⊥ := by
  unfold cen
  by_cases hb : ∃ k, X t k = ⊥
  · obtain ⟨k, hk⟩ := hb
    rw [sum_bot Finset.univ _ (Finset.mem_univ k) hk, div_bot]
    by_cases hq : X t q = ⊥
    · right; rw [hq]; rfl
    · left; rw [sub_eq_add_neg, EReal.neg_bot]; exact EReal.add_top_of_ne_bot hq
  · have hb : ∀ k, X t k ≠ ⊥ := fun k hk => hb ⟨k, hk⟩
    have ht : X t q0 = ⊤ := by
      have hv := hb q0
      generalize X t q0 = v at h hv
      induction v using EReal.rec with
      | bot => exact absurd rfl hv
      | coe r => exact absurd ⟨r, rfl⟩ h
      | top => rfl
    rw [sum_top Finset.univ _ hb (Finset.mem_univ q0) ht, div_top]
    right; rw [sub_eq_add_neg, EReal.neg_top]; exact EReal.add_bot _

/-- so that its inverse deviation is zero. -/
theorem dev_inf (t : Fin 384) (q0 : Fin 4096) (h : ¬ IsReal (X t q0)) : dev X t = 0 := by
  have hs : ∀ k, cen X t k * cen X t k = ⊤ := fun k => by
    rcases cen_inf t q0 h k with e | e <;> rw [e] <;> rfl
  obtain ⟨e, _, heq⟩ := eps_pos
  unfold dev
  rw [sum_top Finset.univ _ (fun k => by rw [hs k]; exact bot_ne_top.symm) (Finset.mem_univ q0) (hs q0), div_top, heq, EReal.top_add_coe]
  rfl

/-- The normalised rows are real, whatever the rows. -/
theorem nrm_real (t : Fin 384) (q : Fin 4096) : IsReal (nrm X t q) := by
  by_cases hX : ∀ k, IsReal (X t k)
  · exact (cen_real t hX q).mul (dev_real_of t hX)
  · obtain ⟨q0, h⟩ := not_forall.1 hX
    unfold nrm
    rw [dev_inf t q0 h, mul_zero]
    exact ⟨0, by simp⟩

/-- Whether a row is inside, as a real number. -/
def insR (L : BitVec 32) (t : ℕ) : ℝ := if (t : ℤ) < L.toInt then 1 else 0

theorem toInt_small (t : ℕ) (h : t < 384) : (BitVec.ofNat 32 t).toInt = (t : ℤ) := by
  exact (by decide +kernel : ∀ t : Fin 384, (BitVec.ofNat 32 t.val).toInt = (t.val : ℤ)) ⟨t, h⟩

theorem ins_eq (t : ℕ) (h : t < 384) : ins L t = ((insR L t : ℝ) : EReal) := by
  show (((IntOp.cmpi .slt (BitVec.ofNat 32 t) L).toNat : ℝ) : EReal) = _
  unfold insR
  have : IntOp.cmpi .slt (BitVec.ofNat 32 t) L = BitVec.ofBool ((BitVec.ofNat 32 t).slt L) := rfl
  rw [this]
  have e : (BitVec.ofNat 32 t).slt L = decide ((t : ℤ) < L.toInt) := by rw [BitVec.slt, toInt_small t h]
  rw [e]
  by_cases c : (t : ℤ) < L.toInt
  · simp [c]
  · simp [c]

theorem len_eq : len L = ((L.toInt : ℝ) : EReal) := rfl

theorem insR_nonneg (t : ℕ) : 0 ≤ insR L t := by unfold insR; split <;> norm_num

/-- The rows inside a length in range number that length. -/
theorem sum_ins (h1 : 0 ≤ L.toInt) (h2 : L.toInt ≤ 384) : ∑ t : Fin 384, insR L t.val = (L.toInt : ℝ) := by
  obtain ⟨n, hn⟩ := Int.eq_ofNat_of_zero_le h1
  unfold insR
  rw [hn, Fin.sum_univ_eq_sum_range (fun t => if (t : ℤ) < (n : ℤ) then (1 : ℝ) else 0) 384, Finset.sum_boole]
  have : (Finset.range 384).filter (fun t : ℕ => (t : ℤ) < (n : ℤ)) = Finset.range n := by
    ext t; simp only [Finset.mem_filter, Finset.mem_range]; omega
  rw [this, Finset.card_range]; simp

/-- A number, infinite or not, taken nonnegatively often in each term of a sum is taken that often altogether. -/
theorem sum_mul {ι : Type} [DecidableEq ι] (s : Finset ι) (f : ι → ℝ) (h : ∀ i, 0 ≤ f i) (c : EReal) :
    ∑ i ∈ s, ((f i : ℝ) : EReal) * c = ((∑ i ∈ s, f i : ℝ) : EReal) * c := by
  induction s using Finset.induction_on with
  | empty => simp
  | insert a s ha ih =>
    rw [Finset.sum_insert ha, Finset.sum_insert ha, ih, EReal.coe_add, EReal.right_distrib_of_nonneg]
    · exact_mod_cast h a
    · exact_mod_cast Finset.sum_nonneg fun i _ => h i

/-- What is common to the rows inside, and alone, is summed to its product with the length. -/
theorem sum_share_one (D : EReal) (h1 : 0 ≤ L.toInt) (h2 : L.toInt ≤ 384) :
    ∑ t : Fin 384, ins L t.val * D = D * len L := by
  rw [len_eq, mul_comm D, ← sum_ins h1 h2, ← sum_mul Finset.univ (fun t : Fin 384 => insR L t.val) (fun t => insR_nonneg t.val)]
  exact Finset.sum_congr rfl fun t _ => by rw [ins_eq _ t.isLt]

/-- A real share comes out of the sum over the rows inside. -/
theorem sum_real {D : EReal} (hD : IsReal D) (q : Fin 4096) :
    ∑ t : Fin 384, ins L t.val * D * nrm X t q = D * ∑ t : Fin 384, ins L t.val * nrm X t q := by
  choose n hn using fun t => nrm_real (X := X) t q
  obtain ⟨d, rfl⟩ := hD
  have e1 : ∑ t : Fin 384, ins L t.val * nrm X t q = ((∑ t : Fin 384, insR L t.val * n t : ℝ) : EReal) := by
    rw [coe_sum]; exact Finset.sum_congr rfl fun t _ => by rw [hn t, ins_eq _ t.isLt, EReal.coe_mul]
  have e2 : ∑ t : Fin 384, ins L t.val * (d : EReal) * nrm X t q = ((∑ t : Fin 384, insR L t.val * d * n t : ℝ) : EReal) := by
    rw [coe_sum]; exact Finset.sum_congr rfl fun t _ => by rw [hn t, ins_eq _ t.isLt, EReal.coe_mul, EReal.coe_mul]
  rw [e1, e2, ← EReal.coe_mul]
  congr 1
  rw [Finset.mul_sum]
  exact Finset.sum_congr rfl fun t _ => by ring

/-- The mean of the scaled and shifted rows from the sum of the normalised rows. -/
theorem mean_eq (hG : ∀ q, IsReal (G q)) (h1 : 0 ≤ L.toInt) (h2 : L.toInt ≤ 384) (q : Fin 4096) :
    Ideal.div (G q * ∑ t : Fin 384, ins L t.val * nrm X t q + B q * len L) (len L) = mean X L G B q := by
  unfold mean
  congr 1
  rw [← sum_real (hG q), ← sum_share_one (B q) h1 h2, ← Finset.sum_add_distrib]
  refine Finset.sum_congr rfl fun t _ => ?_
  rw [ins_eq _ t.isLt, mul_assoc, mul_comm (G q)]
  unfold insR
  split <;> simp

/-- No row is inside a length that is not positive. -/
theorem ins_zero (h : L.toInt ≤ 0) (t : Fin 384) : ins L t.val = 0 := by
  rw [ins_eq _ t.isLt]
  unfold insR
  rw [if_neg (by omega)]
  simp

/-- A share comes out of the sum over the rows inside: it is real when the gradient of the mean is, or there are none. -/
theorem sum_share (h1 : 0 ≤ L.toInt) (q : Fin 4096) (h : IsReal (dmean E (mean X L G B) q)) :
    ∑ t : Fin 384, ins L t.val * share X L G B E q * nrm X t q = share X L G B E q * ∑ t : Fin 384, ins L t.val * nrm X t q := by
  by_cases h0 : L.toInt = 0
  · simp only [ins_zero h0.le, zero_mul, Finset.sum_const_zero, mul_zero]
  · refine sum_real ?_ q
    unfold share
    rw [len_eq]
    exact h.div _ (by exact_mod_cast h0)

/-- A quotient by zero is not real. -/
theorem div_zero (x : EReal) : ¬ IsReal (Ideal.div x 0) := by
  rintro ⟨r, hr⟩
  unfold Ideal.div at hr
  rw [if_pos rfl] at hr
  by_cases hx : 0 < x
  · rw [if_pos hx] at hr; exact EReal.coe_ne_top r hr.symm
  · rw [if_neg hx] at hr; exact EReal.coe_ne_bot r hr.symm

/-- Where the gradient of the mean is real, the length is not negative: below zero the mean is zero, and its size divides. -/
theorem len_nonneg (q : Fin 4096) (h : IsReal (dmean E (mean X L G B) q)) : 0 ≤ L.toInt := by
  by_contra hn
  have hl : L.toInt < 0 := not_le.1 hn
  have hm : mean X L G B = fun _ => 0 := by
    funext q
    unfold mean
    simp only [ins_zero hl.le, zero_mul, Finset.sum_const_zero]
    rw [len_eq]
    unfold Ideal.div
    rw [if_neg (by exact_mod_cast hl.ne), zero_mul]
  have hs : size (mean X L G B) = 0 := by
    rw [hm]
    unfold size
    simp only [mul_zero, Finset.sum_const_zero]
    show (if (0 : ℝ) < 0 then (⊥ : EReal) else ((Real.sqrt 0 : ℝ) : EReal)) = 0
    simp
  unfold dmean at h
  rw [hs] at h
  exact div_zero _ h

end Cert.Formulas

end
-- ==== Proof.Lanes.lean ====
/- The exponent counted against the powers of two, lane by lane, is the reference's exponent, and the scale and its
   inverse made from its exponent field are powers of two. -/
module

public import proofs.«01_k».proof.Proof.Exponents

@[expose] public section

noncomputable section

namespace Cert.Formulas

open Idealize.ShloMosaic

/-- The powers of two, by lane: zero, then `2 ^ (l - 127)`, then infinity. -/
def power (l : ℕ) : EReal := Ideal.ofBits FTy.f32 (IntOp.shli ArithUnit.vector (BitVec.ofNat 32 l) 23#32)
/-- The largest lane whose power is reached, -/
def lane (y : EReal) : BitVec 32 :=
  Finset.fold IntOp.maxsi (2147483648#32) (fun x : Fin 256 =>
    Scalar.select (BitVec.ofBool (decide (y < power x.val))) (0#32) (BitVec.ofNat 32 x.val)) Finset.univ
/-- and the exponent. -/
def expoL (y : EReal) : BitVec 32 := Scalar.select (IntOp.cmpi .eq (lane y) 0#32) (0#32) (IntOp.subi (lane y) 126#32)

theorem shli_eq (x : BitVec 32) : IntOp.shli ArithUnit.vector x 23#32 = x <<< 23 := rfl

theorem power_eq (l : ℕ) (h1 : 1 ≤ l) (h2 : l ≤ 254) : power l = (((2 : ℝ) ^ ((l : ℤ) - 127) : ℝ) : EReal) := by
  unfold power; rw [shli_eq]; exact ofBits_exp l h1 h2

theorem toInt_lane (l : ℕ) (h : l < 256) : (BitVec.ofNat 32 l).toInt = (l : ℤ) := by
  exact (by decide +kernel : ∀ t : Fin 256, (BitVec.ofNat 32 t.val).toInt = (t.val : ℤ)) ⟨l, h⟩

theorem select_true (a b : BitVec 32) : Scalar.select (BitVec.ofBool true) a b = a := rfl
theorem select_false (a b : BitVec 32) : Scalar.select (BitVec.ofBool false) a b = b := rfl

/-- Below the smallest normal number only lane 0 can be reached. -/
theorem lane_small (y : EReal) (h : y < (((2 : ℝ) ^ (-126 : ℤ) : ℝ) : EReal)) : lane y = 0#32 := by
  have mono : ∀ a b : ℤ, a ≤ b → (((2 : ℝ) ^ a : ℝ) : EReal) ≤ (((2 : ℝ) ^ b : ℝ) : EReal) := fun a b h =>
    EReal.coe_le_coe_iff.2 (zpow_le_zpow_right₀ (by norm_num) h)
  have hz : ∀ x : Fin 256, Scalar.select (BitVec.ofBool (decide (y < power x.val))) (0#32) (BitVec.ofNat 32 x.val) = 0#32 := by
    intro x
    by_cases h0 : x.val = 0
    · rw [h0]; cases (decide (y < power 0)) <;> rfl
    · have : y < power x.val := by
        by_cases h5 : x.val = 255
        · rw [h5]; unfold power; rw [shli_eq, ofBits_exp255]; exact h.trans (EReal.coe_lt_top _)
        · rw [power_eq _ (by omega) (by omega)]; exact h.trans_le (mono _ _ (by omega))
      rw [decide_eq_true this, select_true]
  exact fold_maxsi _ _ _ _ (by decide) (fun x _ => by rw [hz x]) ⟨0, Finset.mem_univ _, hz 0⟩

/-- From there on it is the lane of the largest power not above `y`. -/
theorem lane_large (y : EReal) (e : ℕ) (he1 : 1 ≤ e) (he2 : e ≤ 240) (h2 : y < (((2 : ℝ) ^ (114 : ℤ) : ℝ) : EReal))
    (he : ∀ l : ℕ, 1 ≤ l → ((((2 : ℝ) ^ ((l : ℤ) - 127) : ℝ) : EReal) ≤ y ↔ l ≤ e)) : lane y = BitVec.ofNat 32 e := by
  refine fold_maxsi _ _ _ _ (by rw [toInt_lane e (by omega)]; have : (2147483648#32 : BitVec 32).toInt = -2147483648 := by decide
                                omega) (fun x _ => ?_) ⟨⟨e, by omega⟩, Finset.mem_univ _, ?_⟩
  · rw [toInt_lane e (by omega)]
    by_cases c : y < power x.val
    · rw [decide_eq_true c, select_true]; have : (0#32 : BitVec 32).toInt = 0 := by decide
      omega
    · rw [decide_eq_false c, select_false, toInt_lane _ x.isLt]
      by_cases h0 : x.val = 0
      · omega
      by_cases h5 : x.val = 255
      · exfalso; apply c; rw [h5]; unfold power; rw [shli_eq, ofBits_exp255]; exact h2.trans (EReal.coe_lt_top _)
      · rw [power_eq _ (by omega) (by omega), not_lt, he _ (by omega)] at c; omega
  · have : ¬ y < power e := by rw [power_eq _ he1 (by omega), not_lt, he _ he1]
    show Scalar.select (BitVec.ofBool (decide (y < power e))) _ _ = _
    rw [decide_eq_false this, select_false]

theorem toInt_expo (j : ℕ) (h : j < 254) : (IntOp.addi 4294967171#32 (BitVec.ofNat 32 j)).toInt = (j : ℤ) - 125
    ∧ (IntOp.subi (IntOp.addi 4294967171#32 (BitVec.ofNat 32 j)) 1#32).toInt = (j : ℤ) - 126 := by
  have : ∀ j : Fin 254, (IntOp.addi 4294967171#32 (BitVec.ofNat 32 j.val)).toInt = (j.val : ℤ) - 125
    ∧ (IntOp.subi (IntOp.addi 4294967171#32 (BitVec.ofNat 32 j.val)) 1#32).toInt = (j.val : ℤ) - 126 := by decide +kernel
  exact this ⟨j, h⟩

theorem pow_word (k : BitVec 32) : Ideal.pow (Ideal.ofBits .f32 0x40000000#32) (FloatOps.sitofp (F := Ideal) .f32 k) = (((2 : ℝ) ^ k.toInt : ℝ) : EReal) :=
  pow_two k.toInt

/-- The reference's exponent there. -/
theorem expo_large (y : EReal) (e : ℕ) (he1 : 1 ≤ e) (he2 : e ≤ 240) (h1 : (((2 : ℝ) ^ (-126 : ℤ) : ℝ) : EReal) ≤ y)
    (he : ∀ l : ℕ, 1 ≤ l → ((((2 : ℝ) ^ ((l : ℤ) - 127) : ℝ) : EReal) ≤ y ↔ l ≤ e)) :
    expo y = IntOp.subi (BitVec.ofNat 32 e) 126#32 := by
  have hs : Ideal.ofBits .f32 0x00800000#32 = (((2 : ℝ) ^ (-126 : ℤ) : ℝ) : EReal) := by
    rw [show (0x00800000#32 : BitVec 32) = BitVec.ofNat 32 1 <<< 23 from by decide]
    exact (ofBits_exp 1 (by norm_num) (by norm_num)).trans (by norm_num)
  have hv : IntOp.subi (BitVec.ofNat 32 e) 126#32 = IntOp.addi 4294967171#32 (BitVec.ofNat 32 (e - 1)) := by
    have : ∀ e : Fin 254, IntOp.subi (BitVec.ofNat 32 (e.val + 1)) 126#32 = IntOp.addi 4294967171#32 (BitVec.ofNat 32 e.val) := by decide +kernel
    have := this ⟨e - 1, by omega⟩
    rwa [show (⟨e - 1, by omega⟩ : Fin 254).val + 1 = e from by show e - 1 + 1 = e; omega] at this
  have ht : (IntOp.subi (BitVec.ofNat 32 e) 126#32).toInt = (e : ℤ) - 126 := by
    rw [hv, (toInt_expo (e - 1) (by omega)).1]; omega
  have hiff : ∀ j : Fin 254, Ideal.pow (Ideal.ofBits .f32 0x40000000#32)
        (FloatOps.sitofp (F := Ideal) .f32 (IntOp.subi (IntOp.addi 4294967171#32 (BitVec.ofNat 32 j.val)) 1#32)) ≤ y ↔ j.val + 1 ≤ e := by
    intro j
    rw [pow_word, (toInt_expo j.val j.isLt).2, ← he (j.val + 1) (by omega)]
    rw [show ((j.val + 1 : ℕ) : ℤ) - 127 = (j.val : ℤ) - 126 from by omega]
  unfold expo
  rw [hs, if_neg (not_lt.2 h1)]
  refine fold_maxsi _ _ _ _ (by rw [ht]; have : (2147483648#32 : BitVec 32).toInt = -2147483648 := by decide
                                omega) (fun j _ => ?_) ⟨⟨e - 1, by omega⟩, Finset.mem_univ _, ?_⟩
  · rw [ht]
    by_cases c : j.val + 1 ≤ e
    · rw [if_pos ((hiff j).2 c), (toInt_expo j.val j.isLt).1]; omega
    · rw [if_neg (fun h => c ((hiff j).1 h))]; have : (4294967171#32 : BitVec 32).toInt = -125 := by decide
      omega
  · rw [if_pos ((hiff ⟨e - 1, by omega⟩).2 (by show e - 1 + 1 ≤ e; omega)), hv]

/-- The two exponents agree below `2 ^ 114`, and lie between -125 and 114. -/
theorem expoL_eq (y : EReal) (h2 : y < (((2 : ℝ) ^ (114 : ℤ) : ℝ) : EReal)) :
    expoL y = expo y ∧ ∃ e : ℕ, 1 ≤ e ∧ e ≤ 240 ∧ expo y = IntOp.subi (BitVec.ofNat 32 e) 126#32 := by
  by_cases h1 : (((2 : ℝ) ^ (-126 : ℤ) : ℝ) : EReal) ≤ y
  · obtain ⟨e, he1, he2, he⟩ := exists_exp y h1 h2
    have hx := expo_large y e he1 he2 h1 he
    refine ⟨?_, e, he1, he2, hx⟩
    rw [hx]
    unfold expoL
    rw [lane_large y e he1 he2 h2 he]
    have : ∀ e : Fin 240, Scalar.select (IntOp.cmpi .eq (BitVec.ofNat 32 (e.val + 1)) 0#32) (0#32) (IntOp.subi (BitVec.ofNat 32 (e.val + 1)) 126#32)
      = IntOp.subi (BitVec.ofNat 32 (e.val + 1)) 126#32 := by decide +kernel
    have := this ⟨e - 1, by omega⟩
    rwa [show (⟨e - 1, by omega⟩ : Fin 240).val + 1 = e from by show e - 1 + 1 = e; omega] at this
  · have hs : Ideal.ofBits .f32 0x00800000#32 = (((2 : ℝ) ^ (-126 : ℤ) : ℝ) : EReal) := by
      rw [show (0x00800000#32 : BitVec 32) = BitVec.ofNat 32 1 <<< 23 from by decide]
      exact (ofBits_exp 1 (by norm_num) (by norm_num)).trans (by norm_num)
    have hx : expo y = 0#32 := by unfold expo; rw [hs, if_pos (not_le.1 h1)]
    refine ⟨?_, 126, by norm_num, by norm_num, by rw [hx]; decide⟩
    rw [hx]
    unfold expoL
    rw [lane_small y (not_le.1 h1)]
    decide

/-- The scale's word is a power of two, -/
theorem scale_eq (e : ℕ) (h1 : 1 ≤ e) (h2 : e ≤ 240) :
    Ideal.ofBits FTy.f32 (IntOp.shli ArithUnit.vector (IntOp.addi (IntOp.subi (BitVec.ofNat 32 e) 126#32) 127#32) 23#32)
      = scale (IntOp.subi (BitVec.ofNat 32 e) 126#32) := by
  have hd : ∀ e : Fin 241, IntOp.addi (IntOp.subi (BitVec.ofNat 32 e.val) 126#32) 127#32 = BitVec.ofNat 32 (e.val + 1)
      ∧ (IntOp.subi (BitVec.ofNat 32 e.val) 126#32).toInt = (e.val : ℤ) - 126 := by decide +kernel
  have := hd ⟨e, by omega⟩
  unfold scale
  rw [pow_word, shli_eq, this.1, this.2, ofBits_exp (e + 1) (by omega) (by omega)]
  rw [show ((e + 1 : ℕ) : ℤ) - 127 = (e : ℤ) - 126 from by omega]

/-- and so is its inverse's. -/
theorem code_eq (d : EReal) (e : ℕ) (h1 : 1 ≤ e) (h2 : e ≤ 240) :
    min (Ideal.ofBits FTy.f32 1197473792#32) (max (Ideal.ofBits FTy.f32 3344957440#32)
        (d * Ideal.ofBits FTy.f32 (IntOp.shli ArithUnit.vector (IntOp.subi (127#32) (IntOp.subi (BitVec.ofNat 32 e) 126#32)) 23#32)))
      = code d (IntOp.subi (BitVec.ofNat 32 e) 126#32) := by
  have hd : ∀ e : Fin 241, IntOp.subi (127#32) (IntOp.subi (BitVec.ofNat 32 e.val) 126#32) = BitVec.ofNat 32 (253 - e.val)
      ∧ (IntOp.subi (BitVec.ofNat 32 e.val) 126#32).toInt = (e.val : ℤ) - 126 := by decide +kernel
  have := hd ⟨e, by omega⟩
  unfold code
  have hp : Ideal.pow (Ideal.ofBits .f32 0x40000000#32) (-(FloatOps.sitofp (F := Ideal) .f32 (IntOp.subi (BitVec.ofNat 32 e) 126#32) : EReal))
      = (((2 : ℝ) ^ (126 - (e : ℤ)) : ℝ) : EReal) := by
    rw [show (-(FloatOps.sitofp (F := Ideal) .f32 (IntOp.subi (BitVec.ofNat 32 e) 126#32) : EReal)) = (((126 - (e : ℤ) : ℤ) : ℝ) : EReal) from by
      show -(((IntOp.subi (BitVec.ofNat 32 e) 126#32).toInt : ℝ) : EReal) = _
      rw [this.2, ← EReal.coe_neg]; congr 1; push_cast; ring]
    exact pow_two _
  rw [hp, shli_eq, this.1, ofBits_exp (253 - e) (by omega) (by omega)]
  rw [show ((253 - e : ℕ) : ℤ) - 127 = 126 - (e : ℤ) from by omega]

/-- A largest value up to the largest finite one is below `2 ^ 114` after the division by the largest code. -/
theorem rel_lt (R : Fin 4096 → EReal) (h : top R ≤ Ideal.ofBits .f32 0x7F7FFFFF#32) : rel R < (((2 : ℝ) ^ (114 : ℤ) : ℝ) : EReal) := by
  have hc := ofBits_fields 0x37924925#32 111 1198373 (by decide) (by norm_num) (by norm_num)
  have hm := ofBits_fields 0x7F7FFFFF#32 254 8388607 (by decide) (by norm_num) (by norm_num)
  unfold rel
  rw [hm] at h
  rw [hc]
  refine (mul_le_mul_of_nonneg_right h (by exact_mod_cast (by positivity))).trans_lt ?_
  rw [← EReal.coe_mul]
  refine EReal.coe_lt_coe_iff.2 ?_
  norm_num

end Cert.Formulas

end
-- ==== Proof.KernelAt.lean ====
/- The first kernel's block values as the formulas: its strips' statistics are the rows', its running sum is the sum over
   the rows inside, and its outputs are the gradients, codes and scales of Formulas.lean. -/
module

public import proofs.«01_k».proof.Proof.PayloadAt
public import proofs.«01_k».proof.Proof.Reals
public import proofs.«01_k».proof.Proof.Lanes

@[expose] public section

set_option maxRecDepth 16384

noncomputable section

namespace Cert.KernelIdeal.Region0

open Idealize.ShloMosaic Idealize.ShloMosaic.TcCoe Idealize.ShloMosaic.Tactic
open Cert.KernelIdeal Cert.KernelIdeal.Gen
open Cert

/-- A block's rows, -/
def seqB (x : Vec Ideal S1x384x4096 .bf16) (t : Fin 384) (q : Fin 4096) : EReal := x (ix3 0 t q)
/-- a row vector's entries, -/
def vecB (v : Vec Ideal S1x4096 .f32) (q : Fin 4096) : EReal := v (ix2 0 q)
/-- and those of a row in a block of one. -/
def rowB (v : Vec Ideal S1x1x4096 .f32) (q : Fin 4096) : EReal := v (ix3 0 0 q)

/-- Row `r` of strip `k`. -/
def row (k : ℕ) (hk : k < 12) (r : Fin 32) : Fin 384 := ⟨32 * k + r.val, by omega⟩

variable (x : Vec Ideal S1x384x4096 .bf16) (v1 : Elt Ideal .i32) (k : ℕ) (hk : k < 12) (r : Fin 32) (q : Fin 4096)

theorem strip_at (o : Fin 1) : strip x k hk (ix3 o r q) = seqB x (row k hk r) q := by
  have : o = 0 := Subsingleton.elim _ _
  subst this; rfl

/-- The strip's deviations are the rows', -/
theorem cen_strip : k0_pay13 (strip x k hk) (ix2 r q) = Formulas.cen (seqB x) (row k hk r) q := by
  rw [pay13_at, Formulas.mul_inv_width]
  unfold Formulas.cen
  simp only [strip_at]
/-- and so are the inverse deviations. -/
theorem dev_strip (o : Fin 1) : k0_pay14 (strip x k hk) (ix2 r o) = Formulas.dev (seqB x) (row k hk r) := by
  rw [pay14_at, Formulas.mul_inv_width]
  unfold Formulas.dev
  simp only [cen_strip]

theorem row_divmod (t : Fin 384) (h1 : t.val / 32 < 12) (h2 : t.val % 32 < 32) : row (t.val / 32) h1 ⟨t.val % 32, h2⟩ = t :=
  Fin.ext (by show 32 * (t.val / 32) + t.val % 32 = t.val; omega)

theorem muV_at (t : Fin 384) (l : Fin 128) : muV x (ix2 t l) = Ideal.div (∑ j, seqB x t j) Formulas.width := by
  have h1 : t.val / 32 < 12 := by omega
  have h2 : t.val % 32 < 32 := by omega
  show k0_pay22 (k0_pay16 (strip x (t.val / 32) h1)) (ix2 ⟨t.val % 32, h2⟩ l) = _
  rw [pay16_at, Formulas.mul_inv_width]
  simp only [strip_at, row_divmod]
theorem rsV_at (t : Fin 384) (l : Fin 128) : rsV x (ix2 t l) = Formulas.dev (seqB x) t := by
  have h1 : t.val / 32 < 12 := by omega
  have h2 : t.val % 32 < 32 := by omega
  show k0_pay23 (k0_pay14 (strip x (t.val / 32) h1)) (ix2 ⟨t.val % 32, h2⟩ l) = _
  rw [pay23_at, dev_strip, row_divmod]
theorem colMu (o : Fin 1) : col (muV x) k hk (ix2 r o) = Ideal.div (∑ j, seqB x (row k hk r) j) Formulas.width :=
  muV_at x (row k hk r) _
theorem colRs (o : Fin 1) : col (rsV x) k hk (ix2 r o) = Formulas.dev (seqB x) (row k hk r) :=
  rsV_at x (row k hk r) _

include hk in
/-- The row number the loops count to. -/
theorem rowNo : IntOp.addi (Scalar.muli (Scf.iv 0#32 1#32 k) 32#32) (BitVec.ofNat 32 r.val) = BitVec.ofNat 32 (32 * k + r.val) :=
  (by decide +kernel : ∀ k : Fin 12, ∀ r : Fin 32, IntOp.addi (Scalar.muli (Scf.iv 0#32 1#32 k.val) 32#32) (BitVec.ofNat 32 r.val) = BitVec.ofNat 32 (32 * k.val + r.val)) ⟨k, hk⟩ r

/-- Choosing a value or zero by whether a row is inside is multiplying by that row's one or zero. -/
theorem select_ins (L : BitVec 32) (t : ℕ) (z : EReal) :
    Scalar.select (IntOp.cmpi .slt (BitVec.ofNat 32 t) L) z (0 : EReal) = Formulas.ins L t * z := by
  unfold Formulas.ins
  show Scalar.select (BitVec.ofBool _) z 0 = (((BitVec.ofBool _).toNat : ℝ) : EReal) * z
  cases (BitVec.ofNat 32 t).slt L
  · show (0 : EReal) = (((0 : ℕ) : ℝ) : EReal) * z
    simp
  · show z = (((1 : ℕ) : ℝ) : EReal) * z
    simp

/-- One masked normalised row entry, zero beyond the block. -/
def inside (t : ℕ) : EReal := if h : t < 384 then Formulas.ins v1 t * Formulas.nrm (seqB x) ⟨t, h⟩ q else 0

theorem term_at (n : ℕ) (hr : n < 32) : term v1 k (strip x k hk) n hr q = inside x v1 q (32 * k + n) := by
  unfold term inside
  rw [dif_pos (by omega : 32 * k + n < 384)]
  have := rowNo k hk ⟨n, hr⟩
  dsimp only at this
  rw [this, select_ins, cen_strip, dev_strip]
  rfl

/-- The running sum's total is the sum over the rows so far. -/
theorem acc_sum (n : ℕ) (hn : n ≤ 12) : ∑ r : Fin 8, acc v1 x n (ix2 r q) = ∑ t ∈ Finset.range (32 * n), inside x v1 q t := by
  induction n with
  | zero =>
    unfold acc
    simp only [pay21_at]
    simp
  | succ n ih =>
    unfold acc
    rw [dif_pos (by rw [trips1]; omega)]
    simp only [pay15_at, term_at]
    rw [Finset.sum_add_distrib, ih (by omega), show 32 * (n + 1) = 32 * n + 32 from by ring, Finset.sum_range_add]
    congr 1
    simp only [Fin.sum_univ_eight, Finset.sum_range_succ, Finset.sum_range_zero, zero_add]
    simp only [Fin.val_zero, Fin.val_one, show (2 : Fin 8).val = 2 from rfl, show (3 : Fin 8).val = 3 from rfl, show (4 : Fin 8).val = 4 from rfl,
      show (5 : Fin 8).val = 5 from rfl, show (6 : Fin 8).val = 6 from rfl, show (7 : Fin 8).val = 7 from rfl]
    simp only [Nat.reduceAdd]
    abel

theorem acc_total : ∑ r : Fin 8, acc v1 x 12 (ix2 r q) = ∑ t : Fin 384, Formulas.ins v1 t.val * Formulas.nrm (seqB x) t q := by
  rw [acc_sum x v1 q 12 le_rfl, show 32 * 12 = 384 from rfl, ← Fin.sum_univ_eq_sum_range (inside x v1 q) 384]
  refine Finset.sum_congr rfl fun t _ => ?_
  unfold inside
  rw [dif_pos t.isLt]

variable (x1 x2 : Vec Ideal S1x4096 .f32) (x3 : Vec Ideal S1x1x4096 .f32)

/-- What the inputs are where the claim is made: the scale is real, and the length between zero and the number of rows. -/
structure Fine : Prop where
  gamma : ∀ q, Formulas.IsReal (vecB x1 q)
  pos : 0 ≤ v1.toInt
  len : v1.toInt ≤ 384

variable {x v1 x1 x2}

/-- The mean over the rows inside. -/
theorem meanK_eq (h : Fine v1 x1) : meanK v1 (acc v1 x 12) x1 x2 = Formulas.mean (seqB x) v1 (vecB x1) (vecB x2) := by
  funext q
  unfold meanK
  rw [acc_total]
  exact Formulas.mean_eq (X := seqB x) (B := vecB x2) h.gamma h.pos h.len q

theorem dp0_at (h : Fine v1 x1) (o : Fin 1) : dp0 v1 x x1 x2 x3 (ix2 o q) = Formulas.dmean (rowB x3) (Formulas.mean (seqB x) v1 (vecB x1) (vecB x2)) q := by
  have : o = 0 := Subsingleton.elim _ _
  subst this
  unfold dp0
  rw [pay26_at, meanK_eq h]
  rfl

/-- Each row's share. -/
theorem share_at (h : Fine v1 x1) (o : Fin 1) :
    k0_pay1 (dp0 v1 x x1 x2 x3) (k0_pay27 v1) (ix2 o q) = Formulas.share (seqB x) v1 (vecB x1) (vecB x2) (rowB x3) q := by
  rw [pay1_at, dp0_at q x3 h, pay27_at]
  rfl

/-- The gradient of a strip's rows. -/
theorem dhS_at (h : Fine v1 x1) :
    dhS v1 (k0_pay25 x1) (dp0 v1 x x1 x2 x3) (k0_pay27 v1) x k hk (ix2 r q)
      = Formulas.grad (seqB x) v1 (vecB x1) (Formulas.share (seqB x) v1 (vecB x1) (vecB x2) (rowB x3)) (row k hk r) q := by
  have e2 : ∀ (o : Fin 1) (j : Fin 4096), k0_pay2 (k0_pay25 x1) (dp0 v1 x x1 x2 x3) (k0_pay27 v1) (ix2 o j)
      = Formulas.share (seqB x) v1 (vecB x1) (vecB x2) (rowB x3) j * vecB x1 j := by
    intro o j
    rw [pay2_at, share_at j x3 h, pay25_at]
    have : o = 0 := Subsingleton.elim _ _
    subst this; rfl
  unfold dhS
  rw [pay17_at, pay3_at]
  simp only [e2, colMu, colRs, strip_at, Formulas.mul_inv_width]
  generalize Formulas.share (seqB x) v1 (vecB x1) (vecB x2) (rowB x3) = D
  rw [rowNo k hk r]
  unfold Formulas.grad Formulas.dnrm
  show Scalar.select (BitVec.ofBool _) _ (0 : EReal) = _
  have hi : Formulas.ins v1 (row k hk r).val = (((BitVec.ofBool ((BitVec.ofNat 32 (32 * k + r.val)).slt v1)).toNat : ℝ) : EReal) := rfl
  rw [hi]
  cases (BitVec.ofNat 32 (32 * k + r.val)).slt v1
  · show (0 : EReal) = _
    simp [Formulas.width_eq, Ideal.div]
  · show Formulas.dev (seqB x) (row k hk r) * _ = _
    have h1 : (((BitVec.ofBool true).toNat : ℝ) : EReal) = 1 := by simp
    rw [h1]
    simp only [one_mul]
    simp only [mul_comm (D _ * vecB x1 _) (Formulas.nrm _ _ _)]
    rfl

theorem grad_fun (h : Fine v1 x1) : (fun q => dhS v1 (k0_pay25 x1) (dp0 v1 x x1 x2 x3) (k0_pay27 v1) x k hk (ix2 r q))
    = Formulas.grad (seqB x) v1 (vecB x1) (Formulas.share (seqB x) v1 (vecB x1) (vecB x2) (rowB x3)) (row k hk r) :=
  funext fun q => dhS_at k hk r q x3 h

/-- Which powers of two a row's largest value stays below. -/
theorem mkS_at (h : Fine v1 x1) (l : Fin 256) :
    mkS v1 (k0_pay25 x1) (dp0 v1 x x1 x2 x3) (k0_pay27 v1) x k hk (ix2 r l)
      = BitVec.ofBool (decide (Formulas.rel (Formulas.grad (seqB x) v1 (vecB x1) (Formulas.share (seqB x) v1 (vecB x1) (vecB x2) (rowB x3)) (row k hk r)) < Formulas.power l.val)) := by
  rw [← grad_fun k hk r x3 h]
  exact pay18_at _ _ _ _ _ _ _ _ _

/-- A row's exponent, as the kernel counts it. -/
theorem expo_strip (h : Fine v1 x1) (o : Fin 1) :
    k0_pay8 lanes (mkS v1 (k0_pay25 x1) (dp0 v1 x x1 x2 x3) (k0_pay27 v1) x k hk) k0_pay19 (ix2 r o)
      = Formulas.expoL (Formulas.rel (Formulas.grad (seqB x) v1 (vecB x1) (Formulas.share (seqB x) v1 (vecB x1) (vecB x2) (rowB x3)) (row k hk r))) := by
  have : maxLane lanes (mkS v1 (k0_pay25 x1) (dp0 v1 x x1 x2 x3) (k0_pay27 v1) x k hk) k0_pay19 r
      = Formulas.lane (Formulas.rel (Formulas.grad (seqB x) v1 (vecB x1) (Formulas.share (seqB x) v1 (vecB x1) (vecB x2) (rowB x3)) (row k hk r))) := by
    unfold maxLane Formulas.lane
    simp only [mkS_at k hk r x3 h, pay19_at, lanes_at]
  rw [pay8_at, this]
  rfl

/-- The scales of a block, -/
theorem scales0_at (h : Fine v1 x1) (t : Fin 384) (o : Fin 1)
    (ht : Formulas.top (Formulas.grad (seqB x) v1 (vecB x1) (Formulas.share (seqB x) v1 (vecB x1) (vecB x2) (rowB x3)) t) ≤ Ideal.ofBits .f32 0x7F7FFFFF#32) :
    scales0 v1 x x1 x2 x3 (ix3 0 t o) = Formulas.scale (Formulas.expo (Formulas.rel (Formulas.grad (seqB x) v1 (vecB x1) (Formulas.share (seqB x) v1 (vecB x1) (vecB x2) (rowB x3)) t))) := by
  have h1 : t.val / 32 < 12 := by omega
  have h2 : t.val % 32 < 32 := by omega
  show k0_pay10 lanes (mkS v1 (k0_pay25 x1) (dp0 v1 x x1 x2 x3) (k0_pay27 v1) x (t.val / 32) h1) k0_pay19 (ix3 0 ⟨t.val % 32, h2⟩ o) = _
  rw [pay10_at, expo_strip _ h1 _ x3 h, row_divmod]
  obtain ⟨e0, e, he1, he2, he⟩ := Formulas.expoL_eq _ (Formulas.rel_lt _ ht)
  rw [e0, he]
  exact Formulas.scale_eq e he1 he2

/-- and its codes. -/
theorem codes0_at (h : Fine v1 x1) (t : Fin 384)
    (ht : Formulas.top (Formulas.grad (seqB x) v1 (vecB x1) (Formulas.share (seqB x) v1 (vecB x1) (vecB x2) (rowB x3)) t) ≤ Ideal.ofBits .f32 0x7F7FFFFF#32) :
    codes0 v1 x x1 x2 x3 (ix3 0 t q) = Formulas.code (Formulas.grad (seqB x) v1 (vecB x1) (Formulas.share (seqB x) v1 (vecB x1) (vecB x2) (rowB x3)) t q)
      (Formulas.expo (Formulas.rel (Formulas.grad (seqB x) v1 (vecB x1) (Formulas.share (seqB x) v1 (vecB x1) (vecB x2) (rowB x3)) t))) := by
  have h1 : t.val / 32 < 12 := by omega
  have h2 : t.val % 32 < 32 := by omega
  show k0_pay9 (dhS v1 (k0_pay25 x1) (dp0 v1 x x1 x2 x3) (k0_pay27 v1) x (t.val / 32) h1) lanes (mkS v1 (k0_pay25 x1) (dp0 v1 x x1 x2 x3) (k0_pay27 v1) x (t.val / 32) h1) k0_pay19 (ix3 0 ⟨t.val % 32, h2⟩ q) = _
  rw [pay9_at, expo_strip _ h1 _ x3 h, dhS_at _ h1 _ _ x3 h, row_divmod]
  obtain ⟨e0, e, he1, he2, he⟩ := Formulas.expoL_eq _ (Formulas.rel_lt _ ht)
  rw [e0, he]
  exact Formulas.code_eq _ e he1 he2

/-- The scale's gradient grows by the sequence's, -/
theorem dgamma0_at (h : Fine v1 x1) (old : Vec Ideal S1x4096 .f32)
    (hd : Formulas.IsReal (Formulas.dmean (rowB x3) (Formulas.mean (seqB x) v1 (vecB x1) (vecB x2)) q)) :
    dgamma0 v1 x x1 x2 x3 old (ix2 0 q) = old (ix2 0 q) + ∑ t : Fin 384, Formulas.ins v1 t.val * Formulas.share (seqB x) v1 (vecB x1) (vecB x2) (rowB x3) q * Formulas.nrm (seqB x) t q := by
  unfold dgamma0
  rw [pay6_at, share_at q x3 h, pay24_at, acc_total, Formulas.sum_share h.pos q hd]

/-- and so does the shift's. -/
theorem dbeta0_at (h : Fine v1 x1) (old : Vec Ideal S1x4096 .f32) :
    dbeta0 v1 x x1 x2 x3 old (ix2 0 q) = old (ix2 0 q) + ∑ t : Fin 384, Formulas.ins v1 t.val * Formulas.share (seqB x) v1 (vecB x1) (vecB x2) (rowB x3) q := by
  unfold dbeta0
  rw [pay7_at, share_at q x3 h, Formulas.sum_share_one _ h.pos h.len]
  rfl

end Cert.KernelIdeal.Region0

end
-- ==== Proof.Region1Body.lean ====
/- The second pipeline (the product): what its body leaves at each tile, from whatever its arrays hold at entry (`Wv`). -/
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (Wv : (c : Dev nD) → (b : Ref sig .tc) → Buf (Elt F) ((c : Thread nD τ).loc b))

/-! ## The windows' blocks -/

/-- Window `w`'s block at point `t`, read off its array as the region finds it (`Wv`). -/
def iblk (c : Dev nD) (w : Fin cfg1.W) (t : Fin cfg1.N) : ((cfg1.win w).xblock (cfg1.grid.coords t)).Idx → Elt F (cfg1.win w).elt :=
  ((cfg1.win w).blk t).view.read (Elt F) (Wv c (Pipeline.arrRef spec1 w))

/-- Input window 0's current staging buffer holds its block at every point, fetched there or not, for ANY proof
    data whose array is `Wv`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = Wv c (Pipeline.arrRef spec1 0))
    (hafter : ∀ t, dat.after 0 t = iblk Wv c 0 t) (t : Fin cfg1.N) (d) : dat.before 0 t d = iblk Wv c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `Wv`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = Wv c (Pipeline.arrRef spec1 1))
    (hafter : ∀ t, dat.after 1 t = iblk Wv c 1 t) (t : Fin cfg1.N) (d) : dat.before 1 t d = iblk Wv c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `Wv`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = Wv c (Pipeline.arrRef spec1 2))
    (hafter : ∀ t, dat.after 2 t = iblk Wv c 2 t) (t : Fin cfg1.N) (d) : dat.before 2 t d = iblk Wv c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `Wv`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = Wv c (Pipeline.arrRef spec1 3))
    (hafter : ∀ t, dat.after 3 t = iblk Wv c 3 t) (t : Fin cfg1.N) (d) : dat.before 3 t d = iblk Wv c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S1152x4096 := Rect.unit (s := S1152x4096) ![0, 0] S1152x4096.size inb_S1152x4096_S1152x4096_0_0
abbrev r1_1 : Rect S1024x4096 := Rect.unit (s := S1024x4096) ![0, 0] S1024x4096.size inb_S1024x4096_S1024x4096_0_0
abbrev r1_2 : Rect S1152x1 := Rect.unit (s := S1152x1) ![0, 0] S1152x1.size inb_S1152x1_S1152x1_0_0
abbrev r1_3 : Rect S1x1024 := Rect.unit (s := S1x1024) ![0, 0] S1x1024.size inb_S1x1024_S1x1024_0_0
abbrev r1_4 : Rect S1152x1024 := Rect.unit (s := S1152x1024) ![0, 0] S1152x1024.size inb_S1152x1024_S1152x1024_0_0

/-! ## What the body leaves in each output window's buffer -/

/-- Window 4's staging buffer after the body, from the input windows' blocks: its 1 store as pieces, LAST
    FIRST (Lib/Pipeline/FrameBody.lean `View.canon`; the payloads are the skeleton's). -/
def out1_4 (x0 : Vec F S1152x4096 .fp8e5m2) (x1 : Vec F S1152x1 .f32) (x2 : Vec F S1024x4096 .fp8e4m3) (x3 : Vec F S1x1024 .f32) : Vec F S1152x1024 .bf16 :=
  View.canon [⟨r1_4, k1_pay1 (View.ld x0 r1_0) (View.ld x2 r1_1) (View.ld x1 r1_2) (View.ld x3 r1_3)⟩]

/-- Its stores tile the buffer (checked by evaluation), so they cover it. -/
theorem cover1_4 (p0 : Vec F S1152x1024 .bf16) (y : S1152x1024.Idx) :
    ∃ pc ∈ ([⟨r1_4, p0⟩] : List (View.Piece (Elt F) S1152x1024 .bf16)), y ∈ pc.1.set :=
  View.cover_of_tiled [⟨r1_4, p0⟩] S1152x1024.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel (c : Dev nD) (E : Set ℕ) (i : grid1.Coords) (arg1 : Memref sig .tc .vmem S1152x4096 .fp8e5m2) (harg1 : arg1.IsWhole) (arg2 : Memref sig .tc .vmem S1152x1 .f32) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S1152x1024 .bf16) (harg5 : arg5.IsWhole)
    (x0 : Vec F S1152x4096 .fp8e5m2) (x1 : Vec F S1152x1 .f32) (x2 : Vec F S1024x4096 .fp8e4m3) (x3 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_down_dgrad i arg1 harg1 arg2 harg2 arg3 harg3 arg4 harg4 arg5 harg5) K := by
  simp only [cc1_down_dgrad_eq_skeleton]; unfold cc1_down_dgrad_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the one pipeline on core `c`: the arrays as the region finds them (`Wv`); after the body at
    point `t` each input's buffer at its block and each output's at `out1_W` of the input blocks; the invariant the
    class's (Lib/Pipeline/Frame.lean `ΦA`: the scoped rest and the generator register, untouched); nothing owed;
    full shares. -/
def dats (c : Dev nD) : Dat τ (Elt F) Unit ℕ (UR sig nD τ) ℕ cfg1 c where
  A w := Wv c (Pipeline.arrRef spec1 w)
  after w t := match w with
    | ⟨0, _⟩ => iblk Wv c 0 t
    | ⟨1, _⟩ => iblk Wv c 1 t
    | ⟨2, _⟩ => iblk Wv c 2 t
    | ⟨3, _⟩ => iblk Wv c 3 t
    | ⟨4, _⟩ => out1_4 (iblk Wv c 0 t) (iblk Wv c 1 t) (iblk Wv c 2 t) (iblk Wv c 3 t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dats Wv c).A w = Wv c (Pipeline.arrRef spec1 w) := by
  dsimp only [dats]

/-- What the body leaves, window by window (the proof data's `match` reduced by `dsimp`, never `rfl`: Lib/Pipeline.lean `Dat`). -/
theorem after1_0 (c : Dev nD) (t : Fin cfg1.N) : (dats Wv c).after 0 t = iblk Wv c 0 t := by dsimp only [dats]
theorem after1_1 (c : Dev nD) (t : Fin cfg1.N) : (dats Wv c).after 1 t = iblk Wv c 1 t := by dsimp only [dats]
theorem after1_2 (c : Dev nD) (t : Fin cfg1.N) : (dats Wv c).after 2 t = iblk Wv c 2 t := by dsimp only [dats]
theorem after1_3 (c : Dev nD) (t : Fin cfg1.N) : (dats Wv c).after 3 t = iblk Wv c 3 t := by dsimp only [dats]
theorem after1_4 (c : Dev nD) (t : Fin cfg1.N) : (dats Wv c).after 4 t = out1_4 (iblk Wv c 0 t) (iblk Wv c 1 t) (iblk Wv c 2 t) (iblk Wv c 3 t) := by dsimp only [dats]

/-- Each input's current staging buffer holds its block at every point, fetched there or not (`beforeK_W_of`). -/
theorem before1_0 (c : Dev nD) (t : Fin cfg1.N) (d) : (dats Wv c).before 0 t d = iblk Wv c 0 t :=
  before1_0_of Wv (dats Wv c) (A_eq Wv c 0) (after1_0 Wv c) t d
theorem before1_1 (c : Dev nD) (t : Fin cfg1.N) (d) : (dats Wv c).before 1 t d = iblk Wv c 1 t :=
  before1_1_of Wv (dats Wv c) (A_eq Wv c 1) (after1_1 Wv c) t d
theorem before1_2 (c : Dev nD) (t : Fin cfg1.N) (d) : (dats Wv c).before 2 t d = iblk Wv c 2 t :=
  before1_2_of Wv (dats Wv c) (A_eq Wv c 2) (after1_2 Wv c) t d
theorem before1_3 (c : Dev nD) (t : Fin cfg1.N) (d) : (dats Wv c).before 3 t d = iblk Wv c 3 t :=
  before1_3_of Wv (dats Wv c) (A_eq Wv c 3) (after1_3 Wv c) t d

/-! ## The body obligation, at a generic point -/

/-- What the body is called with at point `t` (Lib/Pipeline.lean `BodyObligation`'s precondition, the windows one by one), -/
def bodyPre (c : Dev nD) (t : Fin cfg1.N) : sProp 𝕄 :=
  iprop((dats Wv c).Φ t.castSucc ∗ (dats Wv c).owesAt () t.castSucc
    ∗ (∃ d, owns (c : Thread nD τ) (st1_0 t) fullShare ((dats Wv c).before 0 t d))
    ∗ (∃ d, owns (c : Thread nD τ) (st1_1 t) fullShare ((dats Wv c).before 1 t d))
    ∗ (∃ d, owns (c : Thread nD τ) (st1_2 t) fullShare ((dats Wv c).before 2 t d))
    ∗ (∃ d, owns (c : Thread nD τ) (st1_3 t) fullShare ((dats Wv c).before 3 t d))
    ∗ (∃ d, owns (c : Thread nD τ) (st1_4 t) fullShare ((dats Wv c).before 4 t d)))

/-- and what it returns. -/
def bodyPost (c : Dev nD) (t : Fin cfg1.N) : sProp 𝕄 :=
  iprop((dats Wv c).Φ t.succ ∗ (dats Wv c).owesAt () t.succ
    ∗ owns (c : Thread nD τ) (st1_0 t) fullShare ((dats Wv c).after 0 t)
    ∗ owns (c : Thread nD τ) (st1_1 t) fullShare ((dats Wv c).after 1 t)
    ∗ owns (c : Thread nD τ) (st1_2 t) fullShare ((dats Wv c).after 2 t)
    ∗ owns (c : Thread nD τ) (st1_3 t) fullShare ((dats Wv c).after 3 t)
    ∗ owns (c : Thread nD τ) (st1_4 t) fullShare ((dats Wv c).after 4 t))

/-- The body at any point: the inputs' memrefs hold their blocks (`before1_W`), so `sound_kernel` applies; the invariant and
    the core's `owes` pass through unread. -/
theorem sound_body (c : Dev nD) (t : Fin cfg1.N) :
    bodyPre Wv c t ⊢ wp frame (wpE (defs₀ (F := F)) Variants.none c none) Set.univ (bodyAt1 t) (fun _ => bodyPost Wv c t) := by
  unfold bodyPre bodyPost bodyAt1
  simp only [before1_0, before1_1, before1_2, before1_3]
  rw [show (dats Wv c).Φ t.succ = (dats Wv c).Φ t.castSucc from rfl,
    show (dats Wv c).owesAt () t.succ = (dats Wv c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (iblk Wv c 0 t) (iblk Wv c 1 t) (iblk Wv c 2 t) (iblk Wv c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dats (F := F) Wv c) (defs₀ (F := F)) Variants.none () Set.univ := fun t => by
  rw [bigSep_W1, bigSep_W1, defs₀_row]
  exact triple_restated (sound_body Wv c t) rfl .rfl fun _ => .rfl

end Cert.KernelIdeal.Region1

end
-- ==== Proof.Run.lean ====
/- The whole run: @main is host reshapes, the first kernel, host reshapes, the second kernel, host reshapes. Given what the first
   kernel's body leaves (proof data `D0` meeting its body obligation), every execution terminates with every counter at zero and
   every unscoped buffer at a closed term. -/
module

public import proofs.«01_k».proof.Proof.Region0Kit
public import proofs.«01_k».proof.Proof.Region1Body
public import Idealize.ShloMosaic.Lib.Pipeline.RegionArraysTS
public import Idealize.ShloMosaic.Lib.Pipeline.RegionArraysS
public import Idealize.ShloMosaic.Lib.Pipeline.FrameTail

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first kernel's side needs: proof data over the arrays as the host operations left them, the table and the generator
    register in the invariant, nothing owed, full shares, and the body's obligation. -/
structure First where
  hO : Region0.Ok (F := F) m
  dat : (c : Dev nD) → Dat τ (Elt F) Unit ℕ (UR sig nD τ) ℕ (Region0.cfgM m hO) c
  hA : ∀ c w, (dat c).A w = Region0.V m c (Pipeline.arrRef spec0 w)
  hΦ : ∀ c t, (dat c).Φ t = iprop(Pipeline.ΦA spec0 c ∗ Pipeline.prefHeld pre0 c (fun _ => fullShare) (Region0.tbl m))
  hq : ∀ c w, (dat c).q w = fullShare
  howed : ∀ c t, (dat c).owed t = 0
  hrec : ∀ c, (dat c).recorded 0 = Set.univ
  hbody : ∀ c, BodyObligation (dat c) (defs₀ (F := F)) Variants.none () Set.univ

variable (D : First (F := F) m)

/-- The unscoped buffers after the first host stretch, -/
def W1 (c : Dev nD) : Valuation τ sig (Elt F) := StableHlo.after hostOps0 (fun b => m (c, b))
/-- after the first kernel, -/
def W2 (c : Dev nD) : Valuation τ sig (Elt F) := Pipeline.afterRegion (D.dat c) (W1 m c)
/-- after the second host stretch, -/
def W3 (c : Dev nD) : Valuation τ sig (Elt F) := StableHlo.after hostOps1 (W2 m D c)
/-- the second kernel's proof data, -/
abbrev dat1 (c : Dev nD) : Dat τ (Elt F) Unit ℕ (UR sig nD τ) ℕ cfg1 c := Region1.dats (fun c b => W3 m D c (Proc.devRef .tc b)) c
/-- after the second kernel, -/
def W4 (c : Dev nD) : Valuation τ sig (Elt F) := Pipeline.afterRegion (dat1 m D c) (W3 m D c)
/-- and at the end. -/
def W5 (c : Dev nD) : Valuation τ sig (Elt F) := StableHlo.after hostOps2 (W4 m D c)

/-- The tables' contents, pipeline by pipeline: the second has none. -/
def adms : (p : Fin 2) → (pcfgs (F := F) p).Adm
  | ⟨0, _⟩ => Region0.adm m D.hO
  | ⟨1, _⟩ => cfg1.toPCfg_adm

/-- The proof data of both pipelines. -/
def pdats : (p : Fin 2) → (c : Dev nD) → Dat τ (Elt F) Unit ℕ (UR sig nD τ) ℕ (Pipeline.pin (pcfgs (F := F)) (adms m D) p) c
  | ⟨0, _⟩ => fun c => D.dat c
  | ⟨1, _⟩ => fun c => dat1 m D c

/-- No wait is levelled: the cores owe nothing. -/
abbrev L : GSem nD τ sig → Finset Unit := fun g => if g.1.2 = .tc then Finset.univ else ∅
abbrev lv : GSem nD τ sig → Unit → ℕ := fun _ _ => 0

theorem cut (p : Fin 2) : Pipeline.LevelCut (pcfgs (F := F)) (adms m D) () L lv p (fun _ => 0) (fun _ => 0) where
  hι c w s := by simp [L]
  hιb c w s := le_refl _
  hD c g i h := absurd h (by simp)

/-- The generator register at some state, what rides beside the buffers with the core owing nothing. -/
abbrev gen (c : Dev nD) : sProp 𝕄 := iprop(∃ r, prngReg c r)
abbrev rest (c : Dev nD) : sProp 𝕄 := iprop((∃ Wd, owes (c : Thread nD τ) (0 : CellTallies nD τ sig Unit) Wd) ∗ gen c ∗ emp)

/-- The first kernel's region. -/
def reg0 : RegionSeg (pcfgs (F := F)) (adms m D) (pdats m D) () defs₀ Variants.none L lv 0 :=
  RegionSeg.ofHeldInT (pcfgs (F := F)) (adms m D) (pdats m D) () defs₀ Variants.none L lv 0 (fun _ => 0) (Pipeline.ucRefs τ sig) gen gen launch0
    (fun c => (D.hbody c).loose) (fun c t => D.howed c t) (fun c => D.hrec c)
    (fun c w => (D.dat c).share_full (D.hq c) w)
    (fun c => by
      rw [show (pdats m D 0 c).Φ 0 = _ from D.hΦ c 0]
      exact .rfl)
    (fun c => by
      rw [show (pdats m D 0 c).Φ (Fin.last _) = _ from D.hΦ c (Fin.last _)]
      exact .rfl)
    (fun _ => 0) (cut m D 0) (fun _ => iprop(emp)) (W1 m)
    (fun c w => D.hA c w)
    (fun c k => (Region0.V_pre m c k).symm)

/-- The second kernel's region. -/
def reg1 : RegionSeg (pcfgs (F := F)) (adms m D) (pdats m D) () defs₀ Variants.none L lv 1 :=
  RegionSeg.ofHeldIn (pcfgs (F := F)) (adms m D) (pdats m D) () defs₀ Variants.none L lv 1 (fun _ => 0) (Pipeline.ucRefs τ sig) gen gen launch1 rfl
    (fun c => (Region1.body_obligation _ c).loose) (fun c t => rfl) (fun c => rfl)
    (fun c w => (dat1 m D c).share_full (fun _ => rfl) w)
    (fun c => .rfl) (fun c => .rfl)
    (fun _ => 0) (cut m D 1) (fun _ => iprop(emp)) (W3 m D)
    (fun c w => Region1.A_eq (fun c b => W3 m D c (Proc.devRef .tc b)) c w)

/-- The host stretches, each over the unscoped buffers. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) rest
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m D) rest
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m D) rest

/-- @main's items as segments. -/
abbrev segs : List (Seg (pcfgs (F := F)) (adms m D) (pdats m D) () defs₀ Variants.none L lv) :=
  [.host (host0 m), .region (reg0 m D), .host (host1 m D), .region (reg1 m D), .host (host2 m D)]

theorem unscoped0 : ∀ w : Fin 8, (Pipeline.arrRef spec0 w).isScoped = false := by decide
theorem unscoped1 : ∀ w : Fin 5, (Pipeline.arrRef spec1 w).isScoped = false := by decide
theorem unscopedT : ∀ k : Fin 1, (pre0.ref k).isScoped = false := by decide

/-- Each region's links to the host stretches around it. -/
theorem pre0 (c : Dev nD) : iprop(StableHlo.held (c.tc : Thread nD τ) (Pipeline.ucRefs τ sig) (W1 m c) ∗ rest c) ⊢ (reg0 m D).pre c := by
  have hS : Pipeline.arrRefs (τ := τ) (pcfgs (F := F) 0).spec ⊆ Pipeline.ucRefs τ sig := Pipeline.arrRefs_sub_ucRefs _ unscoped0
  have hS' : Pipeline.tblRefs (τ := τ) (pcfgs (F := F) 0).pre ⊆ Pipeline.ucRefs τ sig := Pipeline.tblRefs_sub_ucRefs _ unscopedT
  unfold reg0
  refine BI.Entails.trans ?_ (RegionSeg.ofHeldInT_pre hS hS' c)
  exact BI.Entails.refl _

theorem post0 (c : Dev nD) : (reg0 m D).post c ⊢ iprop(StableHlo.held (c.tc : Thread nD τ) (Pipeline.ucRefs τ sig) (W2 m D c) ∗ rest c) := by
  have hS : Pipeline.arrRefs (τ := τ) (pcfgs (F := F) 0).spec ⊆ Pipeline.ucRefs τ sig := Pipeline.arrRefs_sub_ucRefs _ unscoped0
  have hS' : Pipeline.tblRefs (τ := τ) (pcfgs (F := F) 0).pre ⊆ Pipeline.ucRefs τ sig := Pipeline.tblRefs_sub_ucRefs _ unscopedT
  unfold reg0
  rw [show W2 m D c = Pipeline.afterRegion (pdats m D 0 c) (W1 m c) from rfl]
  exact RegionSeg.ofHeldInT_post hS hS' c

theorem pre1 (c : Dev nD) : iprop(StableHlo.held (c.tc : Thread nD τ) (Pipeline.ucRefs τ sig) (W3 m D c) ∗ rest c) ⊢ (reg1 m D).pre c := by
  have hS : Pipeline.arrRefs (τ := τ) (pcfgs (F := F) 1).spec ⊆ Pipeline.ucRefs τ sig := Pipeline.arrRefs_sub_ucRefs _ unscoped1
  unfold reg1
  refine BI.Entails.trans ?_ (RegionSeg.ofHeldIn_pre hS c)
  exact BI.Entails.refl _

theorem post1 (c : Dev nD) : (reg1 m D).post c ⊢ iprop(StableHlo.held (c.tc : Thread nD τ) (Pipeline.ucRefs τ sig) (W4 m D c) ∗ rest c) := by
  have hS : Pipeline.arrRefs (τ := τ) (pcfgs (F := F) 1).spec ⊆ Pipeline.ucRefs τ sig := Pipeline.arrRefs_sub_ucRefs _ unscoped1
  unfold reg1
  rw [show W4 m D c = Pipeline.afterRegion (pdats m D 1 c) (W3 m D c) from rfl]
  exact RegionSeg.ofHeldIn_post hS c

set_option backward.isDefEq.respectTransparency.types false in
/-- Every weakly fair execution of @main terminates; at the end every unscoped buffer holds `W5` and every counter is zero. -/
theorem run : θ_run defs (onTc (τ := τ) (main (F := F))) ⟨m, fun _ => 0, ρ⟩ (fun r =>
    (∀ (c : Dev nD) (b : Ref sig .tc), b.isScoped = false → r.2.mem ((c.tc : Thread nD τ).loc b) = W5 m D c (Proc.devRef .tc b))
      ∧ r.2.sem = fun _ => 0) := by
  refine Pipeline.θ_run_regions_kit_sems (pcfgs (F := F)) (adms m D) (pdats m D) () (cellOf_inj (adms m D)) emb₁ defs₀ Variants.none L lv m ρ main
    (segs m D)
    (fun c Q => by
      rewrite [main_chain c, Seg.run_eq_chain,
        show (segs m D).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (by simp only [segs, Seg.pipes_host, Seg.pipes_region, Seg.pipes_nil]; decide)
    (O₀ := 0) (hL := fun g h => if_neg h)
    (G := fun _ => iprop(emp)) (u₀ := initOf (Pipeline.cells (Pipeline.pin (pcfgs (F := F)) (adms m D)) (cellOf_inj (adms m D))) (Pipeline.launchToks (Pipeline.pin (pcfgs (F := F)) (adms m D)) (cellOf_inj (adms m D))))
    (hu₀ := by
      iintro Hu; imodintro
      isplitl [Hu]
      · iapply (show (ownU _ : sProp 𝕄) ⊢ BI.own (emb₁ (initOf (Pipeline.cells (Pipeline.pin (pcfgs (F := F)) (adms m D)) (cellOf_inj (adms m D))) (Pipeline.launchToks (Pipeline.pin (pcfgs (F := F)) (adms m D)) (cellOf_inj (adms m D))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (fun b => m (c, b)) ∗ rest c))
    (Tₙ := fun c => StableHlo.held (c.tc : Thread nD τ) (Pipeline.ucRefs τ sig) (W5 m D c))
    (hch := ⟨fun _ => .rfl,
      pre0 m D, post0 m D, pre1 m D, post1 m D,
      fun c => (show iprop(StableHlo.held (c.tc : Thread nD τ) (Pipeline.ucRefs τ sig) (W5 m D c)
          ∗ (∃ Wd, owes (c : Thread nD τ) (0 : CellTallies nD τ sig Unit) Wd) ∗ gen c ∗ emp) ⊢ (_ : sProp 𝕄) from by
        iintro ⟨Hh, HO, -, -⟩
        isplitl [Hh] <;> iassumption)⟩)
    (hinit := by
      refine Pipeline.initEach L lv fun c => ?_
      rw [show unscopedBufs c (fun b => m ((c.tc : Thread nD τ).loc b)) = StableHlo.held (c.tc : Thread nD τ) (Pipeline.ucRefs τ sig) (fun b => m (c, b))
          from Pipeline.unscopedBufs_held (Ix := Unit) (Name := ℕ) (U := UR sig nD τ) (Lvl := ℕ) c (fun b => m (c, b))]
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c.tc : Thread nD τ).1, b) = W5 m D c b)
    (hfin := fun c s' => by
      unfold StableHlo.held
      iintro ⟨Hh, HSI⟩
      ihave Hr := (pointsTo_read_all (Pipeline.ucRefs τ sig) (fun b => ((c.tc : Thread nD τ).1, b)) (W5 m D c) s') $$ [Hh HSI]
      · isplitl [Hh] <;> iassumption
      imodintro; iexact Hr)
    (hQ := fun _ h hz => ⟨fun c b hb => h c (Proc.devRef .tc b) (Pipeline.devRef_mem_ucRefs hb), funext fun g => hz g (.inr (regions_no_unscoped g.2))⟩)

end Cert.KernelIdeal.Run

end
-- ==== Proof.Region0First.lean ====
/- One run of the first kernel's body: what it is called with, what it leaves, as functions of the input blocks. -/
module

public import proofs.«01_k».proof.Proof.Region0Outs

@[expose] public section

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body's triple at the first grid point: on whole staging memrefs — the inputs' at their contents, the scratch at anything, every output at anything — it leaves the codes, the scales and the two gradients as above. -/
theorem runA (c : Dev nD) (i : grid0.Coords) (arg2 : Memref sig .tc .vmem S1x384x4096 .bf16) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S1x384x4096 .fp8e5m2) (harg6 : arg6.IsWhole) (arg7 : Memref sig .tc .vmem S1x384x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S8x4096 .f32) (harg12 : arg12.IsWhole) (arg13 : Memref sig .tc .vmem S8x4096 .f32) (harg13 : arg13.IsWhole) (hc0 : cond0_0 i)
    (x0 : Vec F S1x384x4096 .bf16) (x1 : Vec F S1x4096 .f32) (x2 : Vec F S1x4096 .f32) (x3 : Vec F S1x1x4096 .f32) (xt0 : TbBuf0 (F := F) c tbM0_0)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (codes0 (len0 c i xt0) x0 x1 x2 x3) ∗ owns (c : Thread nD τ) arg7 fullShare (scales0 (len0 c i xt0) x0 x1 x2 x3) ∗ owns (c : Thread nD τ) arg8 fullShare (dgamma0 (len0 c i xt0) x0 x1 x2 x3 k0_pay4) ∗ owns (c : Thread nD τ) arg9 fullShare (dbeta0 (len0 c i xt0) x0 x1 x2 x3 k0_pay5) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
      ⊢ wp frame (wpE (defs₀ (F := F)) Variants.none c none) E (cc0_ln_backward_quantise i tbM0_0 htbM0_0 arg2 harg2 arg3 harg3 arg4 harg4 arg5 harg5 arg6 harg6 arg7 harg7 arg8 harg8 arg9 harg9 arg10 harg10 arg11 harg11 arg12 harg12 arg13 harg13) K := by
  simp only [cc0_ln_backward_quantise_eq_skeleton]; unfold cc0_ln_backward_quantise_skel
  simp only [k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, HT0, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro; exact out4 c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1 _ _ _ (congrArg k0_pay25 (load_row arg3 harg3 x1)) (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl _
  isplitl [H5]
  · iexists _; isplitr; swap; · iexact H5
    ipureintro; exact out5 c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1 _ _ _ (congrArg k0_pay25 (load_row arg3 harg3 x1)) (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl _
  isplitl [H6]
  · iexists _; isplitr; swap; · iexact H6
    ipureintro; exact (read_row arg8 _ _ _).trans (pay6_congr (congrArg k0_pay24 (stat12 c i arg2 harg2 arg3 harg3 arg4 harg4 arg5 harg5 arg6 harg6 arg7 harg7 arg8 harg8 arg9 harg9 arg10 harg10 arg11 harg11 arg12 harg12 arg13 harg13 (len0 c i xt0) x0 fs0 fs1)) (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl (cov_row arg8 k0_pay4 []))
  isplitl [H7]
  · iexists _; isplitr; swap; · iexact H7
    ipureintro; exact (read_row arg9 _ _ _).trans (pay7_congr rfl (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl (cov_row arg9 k0_pay5 []))
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexact HT0

end Cert.KernelIdeal.Region0

end
-- ==== Proof.Region0Later.lean ====
/- One run of the first kernel's body: what it is called with, what it leaves, as functions of the input blocks. -/
module

public import proofs.«01_k».proof.Proof.Region0Outs

@[expose] public section

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body's triple at a later grid point: on whole staging memrefs — the inputs' at their contents, the scratch at anything, the gradients at the sums so far — it leaves the codes, the scales and the two gradients as above. -/
theorem runB (c : Dev nD) (i : grid0.Coords) (arg2 : Memref sig .tc .vmem S1x384x4096 .bf16) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S1x384x4096 .fp8e5m2) (harg6 : arg6.IsWhole) (arg7 : Memref sig .tc .vmem S1x384x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S8x4096 .f32) (harg12 : arg12.IsWhole) (arg13 : Memref sig .tc .vmem S8x4096 .f32) (harg13 : arg13.IsWhole) (hc0 : ¬cond0_0 i)
    (x0 : Vec F S1x384x4096 .bf16) (x1 : Vec F S1x4096 .f32) (x2 : Vec F S1x4096 .f32) (x3 : Vec F S1x1x4096 .f32) (xt0 : TbBuf0 (F := F) c tbM0_0) (xo6 xo7 : Vec F S1x4096 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xo6 ∗ owns (c : Thread nD τ) arg9 fullShare xo7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (codes0 (len0 c i xt0) x0 x1 x2 x3) ∗ owns (c : Thread nD τ) arg7 fullShare (scales0 (len0 c i xt0) x0 x1 x2 x3) ∗ owns (c : Thread nD τ) arg8 fullShare (dgamma0 (len0 c i xt0) x0 x1 x2 x3 xo6) ∗ owns (c : Thread nD τ) arg9 fullShare (dbeta0 (len0 c i xt0) x0 x1 x2 x3 xo7) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
      ⊢ wp frame (wpE (defs₀ (F := F)) Variants.none c none) E (cc0_ln_backward_quantise i tbM0_0 htbM0_0 arg2 harg2 arg3 harg3 arg4 harg4 arg5 harg5 arg6 harg6 arg7 harg7 arg8 harg8 arg9 harg9 arg10 harg10 arg11 harg11 arg12 harg12 arg13 harg13) K := by
  simp only [cc0_ln_backward_quantise_eq_skeleton]; unfold cc0_ln_backward_quantise_skel
  simp only [k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, HT0, Hk⟩
  obtain rfl := harg2.eq_unread hf0; obtain rfl := harg3.eq_unread hf1; obtain rfl := harg4.eq_unread hf2; obtain rfl := harg5.eq_unread hf3
  obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro; exact out4 c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1 _ _ _ (congrArg k0_pay25 (load_row arg3 harg3 x1)) (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl _
  isplitl [H5]
  · iexists _; isplitr; swap; · iexact H5
    ipureintro; exact out5 c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1 _ _ _ (congrArg k0_pay25 (load_row arg3 harg3 x1)) (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl _
  isplitl [H6]
  · iexists _; isplitr; swap; · iexact H6
    ipureintro; exact (read_row arg8 _ _ _).trans (pay6_congr (congrArg k0_pay24 (stat12 c i arg2 harg2 arg3 harg3 arg4 harg4 arg5 harg5 arg6 harg6 arg7 harg7 arg8 harg8 arg9 harg9 arg10 harg10 arg11 harg11 arg12 harg12 arg13 harg13 (len0 c i xt0) x0 fs0 fs1)) (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl (load_row arg8 harg8 xo6))
  isplitl [H7]
  · iexists _; isplitr; swap; · iexact H7
    ipureintro; exact (read_row arg9 _ _ _).trans (pay7_congr rfl (dp0_eq c i arg2 harg2 arg3 harg3 arg4 harg4 arg5 harg5 arg6 harg6 arg7 harg7 arg8 harg8 arg9 harg9 arg10 harg10 arg11 harg11 arg12 harg12 arg13 harg13 (len0 c i xt0) x0 x1 x2 x3 fs0 fs1) rfl (load_row arg9 harg9 xo7))
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexact HT0

end Cert.KernelIdeal.Region0

end
-- ==== Proof.Region0Body.lean ====
/- What the first kernel's body leaves at each grid point, and that the pipeline may rely on it. -/
module

public import proofs.«01_k».proof.Proof.Region0First
public import proofs.«01_k».proof.Proof.Region0Later
public import Idealize.ShloMosaic.Lib.Quiescent

@[expose] public section

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the four outputs' staging buffers hold after the body at grid point `n`: the codes and the scales of that point's rows,
    and the two gradients' sums so far, begun at zero by the first point. -/
def outsAt0 (hO : Ok m) (c : Dev nD) : (n : ℕ) → n < (cfgM m hO).N → Vec F S1x384x4096 .fp8e5m2 × Vec F S1x384x1 .f32 × Vec F S1x4096 .f32 × Vec F S1x4096 .f32
  | 0, hn => (codes0 (len0 c (grid0.coords ⟨0, hn⟩) (tbl m 0)) (iblk m hO c 0 ⟨0, hn⟩) (iblk m hO c 1 ⟨0, hn⟩) (iblk m hO c 2 ⟨0, hn⟩) (iblk m hO c 3 ⟨0, hn⟩), scales0 (len0 c (grid0.coords ⟨0, hn⟩) (tbl m 0)) (iblk m hO c 0 ⟨0, hn⟩) (iblk m hO c 1 ⟨0, hn⟩) (iblk m hO c 2 ⟨0, hn⟩) (iblk m hO c 3 ⟨0, hn⟩), dgamma0 (len0 c (grid0.coords ⟨0, hn⟩) (tbl m 0)) (iblk m hO c 0 ⟨0, hn⟩) (iblk m hO c 1 ⟨0, hn⟩) (iblk m hO c 2 ⟨0, hn⟩) (iblk m hO c 3 ⟨0, hn⟩) k0_pay4, dbeta0 (len0 c (grid0.coords ⟨0, hn⟩) (tbl m 0)) (iblk m hO c 0 ⟨0, hn⟩) (iblk m hO c 1 ⟨0, hn⟩) (iblk m hO c 2 ⟨0, hn⟩) (iblk m hO c 3 ⟨0, hn⟩) k0_pay5)
  | n + 1, hn =>
    if h0 : (n + 1) % 3 = 0 then
      (codes0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩), scales0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩), dgamma0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩) k0_pay4, dbeta0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩) k0_pay5)
    else
      (codes0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩), scales0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩), dgamma0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩) (outsAt0 hO c n (Nat.lt_of_succ_lt hn)).2.2.1, dbeta0 (len0 c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩) (outsAt0 hO c n (Nat.lt_of_succ_lt hn)).2.2.2)

/-- `outsAt0` at a first point, -/
theorem outsAt0_A (hO : Ok m) (c : Dev nD) (t : Fin (cfgM m hO).N) (h0 : t.val % 3 = 0) :
    outsAt0 m hO c t.val t.isLt = (codes0 (len0 c (grid0.coords t) (tbl m 0)) (iblk m hO c 0 t) (iblk m hO c 1 t) (iblk m hO c 2 t) (iblk m hO c 3 t), scales0 (len0 c (grid0.coords t) (tbl m 0)) (iblk m hO c 0 t) (iblk m hO c 1 t) (iblk m hO c 2 t) (iblk m hO c 3 t), dgamma0 (len0 c (grid0.coords t) (tbl m 0)) (iblk m hO c 0 t) (iblk m hO c 1 t) (iblk m hO c 2 t) (iblk m hO c 3 t) k0_pay4, dbeta0 (len0 c (grid0.coords t) (tbl m 0)) (iblk m hO c 0 t) (iblk m hO c 1 t) (iblk m hO c 2 t) (iblk m hO c 3 t) k0_pay5) := by
  obtain ⟨n, hn⟩ := t
  cases n with
  | zero => exact rfl
  | succ n => exact (dif_pos h0).trans rfl

/-- and at a later one, over what the point before left. -/
theorem outsAt0_B (hO : Ok m) (c : Dev nD) (t : Fin (cfgM m hO).N) (h0 : ¬t.val % 3 = 0) :
    outsAt0 m hO c t.val t.isLt = (codes0 (len0 c (grid0.coords t) (tbl m 0)) (iblk m hO c 0 t) (iblk m hO c 1 t) (iblk m hO c 2 t) (iblk m hO c 3 t), scales0 (len0 c (grid0.coords t) (tbl m 0)) (iblk m hO c 0 t) (iblk m hO c 1 t) (iblk m hO c 2 t) (iblk m hO c 3 t), dgamma0 (len0 c (grid0.coords t) (tbl m 0)) (iblk m hO c 0 t) (iblk m hO c 1 t) (iblk m hO c 2 t) (iblk m hO c 3 t) (outsAt0 m hO c (t.val - 1) (Nat.lt_of_le_of_lt (Nat.sub_le _ _) t.isLt)).2.2.1, dbeta0 (len0 c (grid0.coords t) (tbl m 0)) (iblk m hO c 0 t) (iblk m hO c 1 t) (iblk m hO c 2 t) (iblk m hO c 3 t) (outsAt0 m hO c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
    | ⟨5, _⟩ => (outsAt0 m hO c t.val t.isLt).2.1
    | ⟨6, _⟩ => (outsAt0 m hO c t.val t.isLt).2.2.1
    | ⟨7, _⟩ => (outsAt0 m hO c t.val t.isLt).2.2.2
  Φ _ := iprop(Pipeline.ΦA spec0 c ∗ Pipeline.prefHeld pre0 c (fun _ => fullShare) (tbl m))
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl
theorem after0_5 (hO : Ok m) (c : Dev nD) (t : Fin (cfgM m hO).N) : (dats m hO 0 c).after 5 t = (outsAt0 m hO c t.val t.isLt).2.1 := by dsimp only [dats]; try rfl
theorem after0_6 (hO : Ok m) (c : Dev nD) (t : Fin (cfgM m hO).N) : (dats m hO 0 c).after 6 t = (outsAt0 m hO c t.val t.isLt).2.2.1 := by dsimp only [dats]; try rfl
theorem after0_7 (hO : Ok m) (c : Dev nD) (t : Fin (cfgM m hO).N) : (dats m hO 0 c).after 7 t = (outsAt0 m hO c t.val t.isLt).2.2.2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- At a point of case B output 6's current staging buffer holds what the body left at the point before: the point is
    not the first, the buffer was not written back between (`flush0_6`), the window is live and uncut (Lib/Pipeline/Frame.lean
    `Dat.before_out_kept`). -/
theorem before0_6_B (hO : Ok m) (c : Dev nD) (t : Fin (cfgM m hO).N) (h0 : ¬t.val % 3 = 0) (d) :
    (dats m hO 0 c).before 6 t d = (outsAt0 m hO c (t.val - 1) (Nat.lt_of_le_of_lt (Nat.sub_le _ _) t.isLt)).2.2.1 := by
  have hN : t.val < 3 := lt_of_lt_of_eq t.isLt (show (cfgM m hO).N = 3 from N_0)
  rw [Dat.before_out_kept _ 6 rfl t (by omega) (Bool.eq_false_iff.mpr fun h => by have := (flush0_6 (adm m hO) _).mp h; dsimp only at this; omega)
    (fun _ => rfl) (fun _ _ => rfl)]
  dsimp only [dats]
  try rfl
/-- At a point of case B output 7's current staging buffer holds what the body left at the point before: the point is
    not the first, the buffer was not written back between (`flush0_7`), the window is live and uncut (Lib/Pipeline/Frame.lean
    `Dat.before_out_kept`). -/
theorem before0_7_B (hO : Ok m) (c : Dev nD) (t : Fin (cfgM m hO).N) (h0 : ¬t.val % 3 = 0) (d) :
    (dats m hO 0 c).before 7 t d = (outsAt0 m hO c (t.val - 1) (Nat.lt_of_le_of_lt (Nat.sub_le _ _) t.isLt)).2.2.2 := by
  have hN : t.val < 3 := lt_of_lt_of_eq t.isLt (show (cfgM m hO).N = 3 from N_0)
  rw [Dat.before_out_kept _ 7 rfl t (by omega) (Bool.eq_false_iff.mpr fun h => by have := (flush0_7 (adm m hO) _).mp h; dsimp only at this; omega)
    (fun _ => rfl) (fun _ _ => rfl)]
  dsimp only [dats]
  try rfl

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.prefHeld pre0 c (fun _ => fullShare) (tbl m)) from rfl, PhiT0_eq, PhiA0_eq]
  have hN : t.val < 3 := lt_of_lt_of_eq t.isLt (show (cfgM m hO).N = 3 from N_0)
  by_cases h0 : t.val % 3 = 0
  · rw [outsAt0_A m hO c t h0]
    iintro ⟨⟨⟨⟨HS0, HS1, HS2, HS3, HR⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ _ _ _ _ _ _ _ _ ((hcond0_0 t).mpr h0) (iblk m hO c 0 t) (iblk m hO c 1 t) (iblk m hO c 2 t) (iblk m hO c 3 t) (tbl m 0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, H7, HS0, HS1, HS2, HS3, HT0⟩
    isplitl [HS0 HS1 HS2 HS3 HR Hg HT0]
    · isplitl [HS0 HS1 HS2 HS3 HR Hg]
      · isplitl [HS0 HS1 HS2 HS3 HR]
        · isplitl [HS0]
          · iexact HS0
          isplitl [HS1]
          · iexact HS1
          isplitl [HS2]
          · iexact HS2
          isplitl [HS3]
          · iexact HS3
          iexact HR
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAt0_B m hO c t h0]
    simp only [before0_6_B m hO c t h0, before0_7_B m hO c t h0]
    iintro ⟨⟨⟨⟨HS0, HS1, HS2, HS3, HR⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (grid0.coords t) _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (tbl m 0) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, H7, HS0, HS1, HS2, HS3, HT0⟩
    isplitl [HS0 HS1 HS2 HS3 HR Hg HT0]
    · isplitl [HS0 HS1 HS2 HS3 HR Hg]
      · isplitl [HS0 HS1 HS2 HS3 HR]
        · isplitl [HS0]
          · iexact HS0
          isplitl [HS1]
          · iexact HS1
          isplitl [HS2]
          · iexact HS2
          isplitl [HS3]
          · iexact HS3
          iexact HR
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

end Cert.KernelIdeal.Region0

end
-- ==== Proof.Whole.lean ====
/- The whole run with the first kernel's side filled in: the arguments end unchanged, and each result is a closed term of the
   two kernels' arrays. -/
module

public import proofs.«01_k».proof.Proof.Run
public import proofs.«01_k».proof.Proof.Region0Body

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal.Gen

variable {F : FTy → Type} [FloatOps F]
variable (m : (ℓ : Loc nD τ sig) → Buf (Elt F) ℓ) (ρ : Dev nD → PrngReg)

/-- The first kernel's tables meet their side condition (there is none). -/
theorem ok : Region0.Ok (F := F) m := trivial

/-- The first kernel's proof data. -/
def first : First (F := F) m where
  hO := ok m
  dat := Region0.dats m (ok m) 0
  hA c w := Region0.A_eq m (ok m) c w
  hΦ c t := rfl
  hq c w := rfl
  howed c t := rfl
  hrec c := rfl
  hbody c := Region0.body_obligation m (ok m) c

/-- A buffer the last host stretch does not write. -/
theorem W5_of (c : Dev nD) (r : Ref sig .tc) (h : r ∉ hostOps2_W) : W5 m (first m) c (Proc.devRef .tc r) = W4 m (first m) c (Proc.devRef .tc r) :=
  StableHlo.after_of_writes_sub hostOps2 _ hostOps2_writes h
/-- A buffer the second kernel does not write. -/
theorem W4_of (c : Dev nD) (r : Ref sig .tc) (h : ∀ w : Fin 5, Pipeline.arrRef spec1 w = r → (spec1 w).isOut = false) :
    W4 m (first m) c (Proc.devRef .tc r) = W3 m (first m) c (Proc.devRef .tc r) :=
  Pipeline.afterRegion_keeps (dat1 m (first m) c) (W3 m (first m) c) (launch1 (F := F)).win.arr_inj (fun w => Region1.A_eq _ c w) r h
/-- A buffer the second host stretch does not write. -/
theorem W3_of (c : Dev nD) (r : Ref sig .tc) (h : r ∉ hostOps1_W) : W3 m (first m) c (Proc.devRef .tc r) = W2 m (first m) c (Proc.devRef .tc r) :=
  StableHlo.after_of_writes_sub hostOps1 _ hostOps1_writes h
/-- A buffer the first kernel does not write. -/
theorem W2_of (c : Dev nD) (r : Ref sig .tc) (h : ∀ w : Fin 8, Pipeline.arrRef spec0 w = r → (spec0 w).isOut = false) :
    W2 m (first m) c (Proc.devRef .tc r) = W1 m c (Proc.devRef .tc r) :=
  Pipeline.afterRegion_keeps (Region0.dats m (ok m) 0 c) (W1 m c) (launch0 (F := F)).win.arr_inj (fun w => Region0.A_eq m (ok m) c w) r h
/-- A buffer the first host stretch does not write. -/
theorem W1_of (c : Dev nD) (r : Ref sig .tc) (h : r ∉ hostOps0_W) : W1 m c (Proc.devRef .tc r) = m (c, Proc.devRef .tc r) :=
  StableHlo.after_of_writes_sub hostOps0 _ hostOps0_writes h

/-- A buffer nothing writes ends as it began. -/
theorem W5_kept (c : Dev nD) (r : Ref sig .tc) (h5 : r ∉ hostOps2_W) (h4 : ∀ w : Fin 5, Pipeline.arrRef spec1 w = r → (spec1 w).isOut = false)
    (h3 : r ∉ hostOps1_W) (h2 : ∀ w : Fin 8, Pipeline.arrRef spec0 w = r → (spec0 w).isOut = false) (h1 : r ∉ hostOps0_W) :
    W5 m (first m) c (Proc.devRef .tc r) = m ((c.tc : Thread nD τ).loc r) :=
  (W5_of m c r h5).trans ((W4_of m c r h4).trans ((W3_of m c r h3).trans ((W2_of m c r h2).trans (W1_of m c r h1))))

/-- The arguments end unchanged. -/
theorem args (c : Dev nD) :
    W5 m (first m) c (Proc.devRef .tc main_arg0) = m ((c.tc : Thread nD τ).loc main_arg0)
    ∧ W5 m (first m) c (Proc.devRef .tc main_arg1) = m ((c.tc : Thread nD τ).loc main_arg1)
    ∧ W5 m (first m) c (Proc.devRef .tc main_arg2) = m ((c.tc : Thread nD τ).loc main_arg2)
    ∧ W5 m (first m) c (Proc.devRef .tc main_arg3) = m ((c.tc : Thread nD τ).loc main_arg3)
    ∧ W5 m (first m) c (Proc.devRef .tc main_arg4) = m ((c.tc : Thread nD τ).loc main_arg4)
    ∧ W5 m (first m) c (Proc.devRef .tc main_arg5) = m ((c.tc : Thread nD τ).loc main_arg5)
    ∧ W5 m (first m) c (Proc.devRef .tc main_arg6) = m ((c.tc : Thread nD τ).loc main_arg6) :=
  ⟨W5_kept m c _ (by decide) (by decide) (by decide) (by decide) (by decide), W5_kept m c _ (by decide) (by decide) (by decide) (by decide) (by decide),
    W5_kept m c _ (by decide) (by decide) (by decide) (by decide) (by decide), W5_kept m c _ (by decide) (by decide) (by decide) (by decide) (by decide),
    W5_kept m c _ (by decide) (by decide) (by decide) (by decide) (by decide), W5_kept m c _ (by decide) (by decide) (by decide) (by decide) (by decide),
    W5_kept m c _ (by decide) (by decide) (by decide) (by decide) (by decide)⟩

/-- Every execution terminates, the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run _ _ _).mono (fun r h => ⟨fun c => ?_, h.2⟩) (run m ρ (first m))
  obtain ⟨a0, a1, a2, a3, a4, a5, a6⟩ := args m c
  exact ⟨(h.1 c _ rfl).trans a0, (h.1 c _ rfl).trans a1, (h.1 c _ rfl).trans a2, (h.1 c _ rfl).trans a3, (h.1 c _ rfl).trans a4,
    (h.1 c _ rfl).trans a5, (h.1 c _ rfl).trans a6⟩

end Cert.KernelIdeal.Run

end
-- ==== Proof.KernelHost.lean ====
/- What the kernel's host reshapes leave, entry by entry. -/
module

public import proofs.«01_k».proof.Proof.Gen.KernelIdeal.Launch
public import Idealize.ShloMosaic.Lib.Pointwise
public import Idealize.ShloMosaic.Lib.StableHlo.RunRead

@[expose] public section

set_option maxRecDepth 16384

noncomputable section

namespace Cert.KernelIdeal.Host

open Idealize.ShloMosaic Idealize.ShloMosaic.TcCoe Idealize.ShloMosaic.Tactic
open Idealize.ShloMosaic.StableHlo
open Cert.KernelIdeal Cert.KernelIdeal.Gen

variable (W : Valuation τ sig (Elt Ideal))

theorem r0 : StableHlo.after hostOps0 W (main_v0 : DevRef τ sig) = shapeCast S1x4096 (W (main_arg1 : DevRef τ sig) : Vec Ideal S4096 .f32) shapeCasts_S4096_S1x4096 := by
  after_reads_simp; rfl
theorem r1 : StableHlo.after hostOps0 W (main_v1 : DevRef τ sig) = shapeCast S1x4096 (W (main_arg2 : DevRef τ sig) : Vec Ideal S4096 .f32) shapeCasts_S4096_S1x4096 := by
  after_reads_simp; rfl
theorem r2 : StableHlo.after hostOps0 W (main_v2 : DevRef τ sig) = shapeCast S3x1x4096 (W (main_arg4 : DevRef τ sig) : Vec Ideal S3x4096 .f32) shapeCasts_S3x4096_S3x1x4096 := by
  after_reads_simp; rfl
theorem r4 : StableHlo.after hostOps1 W (main_v4 : DevRef τ sig) = shapeCast S1152x4096 (W (main_v3_0 : DevRef τ sig) : Vec Ideal S3x384x4096 .fp8e5m2) shapeCasts_S3x384x4096_S1152x4096 := by
  after_reads_simp; rfl
theorem r5 : StableHlo.after hostOps1 W (main_v5 : DevRef τ sig) = shapeCast S1152x1 (W (main_v3_1 : DevRef τ sig) : Vec Ideal S3x384x1 .f32) shapeCasts_S3x384x1_S1152x1 := by
  after_reads_simp; rfl
theorem r6 : StableHlo.after hostOps1 W (main_v6 : DevRef τ sig) = shapeCast S1x14336 (W (main_arg6 : DevRef τ sig) : Vec Ideal S14336 .f32) shapeCasts_S14336_S1x14336 := by
  after_reads_simp; rfl
theorem r8 : StableHlo.after hostOps2 W (main_v8 : DevRef τ sig) = shapeCast S3x384x14336 (W (main_v7 : DevRef τ sig) : Vec Ideal S1152x14336 .bf16) shapeCasts_S1152x14336_S3x384x14336 := by
  after_reads_simp; rfl
theorem r9 : StableHlo.after hostOps2 W (main_v9 : DevRef τ sig) = shapeCast S4096 (W (main_v3_2 : DevRef τ sig) : Vec Ideal S1x4096 .f32) shapeCasts_S1x4096_S4096 := by
  after_reads_simp; rfl
theorem r10 : StableHlo.after hostOps2 W (main_v10 : DevRef τ sig) = shapeCast S4096 (W (main_v3_3 : DevRef τ sig) : Vec Ideal S1x4096 .f32) shapeCasts_S1x4096_S4096 := by
  after_reads_simp; rfl
theorem r11 : StableHlo.after hostOps2 W (main_v11 : DevRef τ sig) = shapeCast S3x384 (W (main_v3_1 : DevRef τ sig) : Vec Ideal S3x384x1 .f32) shapeCasts_S3x384x1_S3x384 := by
  after_reads_simp; rfl

theorem row_at (v : Vec Ideal S4096 .f32) (o : Fin 1) (q : Fin 4096) : shapeCast S1x4096 v shapeCasts_S4096_S1x4096 (ix2 o q) = v (ix1 q) := by pointwise
theorem rows_at (v : Vec Ideal S3x4096 .f32) (b : Fin 3) (o : Fin 1) (q : Fin 4096) : shapeCast S3x1x4096 v shapeCasts_S3x4096_S3x1x4096 (ix3 b o q) = v (ix2 b q) := by pointwise
theorem wide_at (v : Vec Ideal S14336 .f32) (o : Fin 1) (q : Fin 14336) : shapeCast S1x14336 v shapeCasts_S14336_S1x14336 (ix2 o q) = v (ix1 q) := by pointwise
theorem vec_at (v : Vec Ideal S1x4096 .f32) (q : Fin 4096) : shapeCast S4096 v shapeCasts_S1x4096_S4096 (ix1 q) = v (ix2 0 q) := by pointwise
theorem flat_at (v : Vec Ideal S3x384x1 .f32) (b : Fin 3) (t : Fin 384) : shapeCast S3x384 v shapeCasts_S3x384x1_S3x384 (ix2 b t) = v (ix3 b t 0) := by pointwise
/-- Row `t` of sequence `b` among all rows. -/
def seqRow (b : Fin 3) (t : Fin 384) : Fin 1152 := ⟨384 * b.val + t.val, by omega⟩
theorem row_div (b : Fin 3) (t : Fin 384) : (seqRow b t).val / 384 = b.val := by
  show (384 * b.val + t.val) / 384 = b.val; omega
theorem row_mod (b : Fin 3) (t : Fin 384) : (seqRow b t).val % 384 = t.val := by
  show (384 * b.val + t.val) % 384 = t.val; omega
theorem codes_at (v : Vec Ideal S3x384x4096 .fp8e5m2) (b : Fin 3) (t : Fin 384) (k : Fin 4096) : shapeCast S1152x4096 v shapeCasts_S3x384x4096_S1152x4096 (ix2 (seqRow b t) k) = v (ix3 b t k) := by
  pointwise
  exact congrArg₂ (fun i j => v (ix3 i j k)) (Fin.ext (row_div b t)) (Fin.ext (row_mod b t))
theorem scales_at (v : Vec Ideal S3x384x1 .f32) (b : Fin 3) (t : Fin 384) (o : Fin 1) : shapeCast S1152x1 v shapeCasts_S3x384x1_S1152x1 (ix2 (seqRow b t) o) = v (ix3 b t 0) := by
  pointwise
  exact congrArg₂ (fun i j => v (ix3 i j 0)) (Fin.ext (row_div b t)) (Fin.ext (row_mod b t))
theorem out_at (v : Vec Ideal S1152x14336 .bf16) (b : Fin 3) (t : Fin 384) (j : Fin 14336) : shapeCast S3x384x14336 v shapeCasts_S1152x14336_S3x384x14336 (ix3 b t j) = v (ix2 (seqRow b t) j) := by
  pointwise
  exact congrArg (fun i => v (ix2 i j)) (Fin.ext (by show b.val * 384 + t.val = 384 * b.val + t.val; omega))

end Cert.KernelIdeal.Host

end
-- ==== Proof.Region0Final.lean ====
/- What the first kernel leaves in its four result arrays, from the arguments: each sequence's codes and scales, and the
   gradients of the scale and the shift summed over the three sequences. -/
module

public import proofs.«01_k».proof.Proof.Region0Body
public import proofs.«01_k».proof.Proof.KernelHost
public import Idealize.ShloMosaic.Lib.Pointwise
public import Idealize.ShloMosaic.Lib.StableHlo.RunRead

@[expose] public section

set_option maxRecDepth 16384

noncomputable section

namespace Cert.KernelIdeal.Region0

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal.Gen

variable (m : (ℓ : Loc nD τ sig) → Buf (Elt Ideal) ℓ) (hO : Ok m) (c : Dev nD)

/-! The arguments as the body's blocks. -/

/-- Sequence `b`, -/
def xB (b : Fin 3) : Vec Ideal S1x384x4096 .bf16 := fun j => (m ((c : Thread nD τ).loc main_arg0) : Vec Ideal S3x384x4096 .bf16) (ix3 b (j 1) (j 2))
/-- the scale, -/
def gB : Vec Ideal S1x4096 .f32 := fun j => (m ((c : Thread nD τ).loc main_arg1) : Vec Ideal S4096 .f32) (ix1 (j 1))
/-- the shift, -/
def bB : Vec Ideal S1x4096 .f32 := fun j => (m ((c : Thread nD τ).loc main_arg2) : Vec Ideal S4096 .f32) (ix1 (j 1))
/-- sequence `b`'s length -/
def lB (b : Fin 3) : Elt Ideal .i32 := (m ((c : Thread nD τ).loc main_arg3) : Vec Ideal S3 .i32) (ix1 b)
/-- and its numbers. -/
def eB (b : Fin 3) : Vec Ideal S1x1x4096 .f32 := fun j => (m ((c : Thread nD τ).loc main_arg4) : Vec Ideal S3x4096 .f32) (ix2 b (j 2))

/-! What the host operations before leave. -/

theorem V_arg0 : V m c main_arg0 = m ((c : Thread nD τ).loc main_arg0) := StableHlo.after_of_writes_sub hostOps0 _ hostOps0_writes (by decide)
theorem V_arg3 : V m c main_arg3 = m ((c : Thread nD τ).loc main_arg3) := StableHlo.after_of_writes_sub hostOps0 _ hostOps0_writes (by decide)
theorem V_v0 (o : Fin 1) (q : Fin 4096) : (V m c main_v0 : Vec Ideal S1x4096 .f32) (ix2 o q) = (m ((c : Thread nD τ).loc main_arg1) : Vec Ideal S4096 .f32) (ix1 q) :=
  (congrFun (Host.r0 _) (ix2 o q)).trans (Host.row_at _ o q)
theorem V_v1 (o : Fin 1) (q : Fin 4096) : (V m c main_v1 : Vec Ideal S1x4096 .f32) (ix2 o q) = (m ((c : Thread nD τ).loc main_arg2) : Vec Ideal S4096 .f32) (ix1 q) :=
  (congrFun (Host.r1 _) (ix2 o q)).trans (Host.row_at _ o q)
theorem V_v2 (b : Fin 3) (o : Fin 1) (q : Fin 4096) : (V m c main_v2 : Vec Ideal S3x1x4096 .f32) (ix3 b o q) = (m ((c : Thread nD τ).loc main_arg4) : Vec Ideal S3x4096 .f32) (ix2 b q) :=
  (congrFun (Host.r2 _) (ix3 b o q)).trans (Host.rows_at _ b o q)

/-! The blocks each point reads and writes. -/

/-- The point's sequence. -/
def pt (t : Fin (cfgM m hO).N) : Fin 3 := ⟨t.val, by have := t.isLt; have : (cfgM m hO).N = 3 := N_0; omega⟩

theorem offs (t : Fin grid0.N) :
    cc0_transform_0 (grid0.coords t) = ![t.val, 0, 0] ∧ cc0_transform_1 (grid0.coords t) = ![0, 0] ∧ cc0_transform_2 (grid0.coords t) = ![0, 0]
    ∧ cc0_transform_3 (grid0.coords t) = ![t.val, 0, 0] ∧ cc0_transform_4 (grid0.coords t) = ![t.val, 0, 0] ∧ cc0_transform_5 (grid0.coords t) = ![t.val, 0, 0]
    ∧ cc0_transform_6 (grid0.coords t) = ![0, 0] ∧ cc0_transform_7 (grid0.coords t) = ![0, 0] ∧ k0_off1 (grid0.coords t) = ![t.val] :=
  (by decide +kernel : ∀ t : Fin grid0.N, cc0_transform_0 (grid0.coords t) = ![t.val, 0, 0] ∧ cc0_transform_1 (grid0.coords t) = ![0, 0] ∧ cc0_transform_2 (grid0.coords t) = ![0, 0]
    ∧ cc0_transform_3 (grid0.coords t) = ![t.val, 0, 0] ∧ cc0_transform_4 (grid0.coords t) = ![t.val, 0, 0] ∧ cc0_transform_5 (grid0.coords t) = ![t.val, 0, 0]
    ∧ cc0_transform_6 (grid0.coords t) = ![0, 0] ∧ cc0_transform_7 (grid0.coords t) = ![0, 0] ∧ k0_off1 (grid0.coords t) = ![t.val]) t

theorem blk0 (t : Fin (cfgM m hO).N) : iblk m hO c 0 t = xB m c (pt m hO t) := by
  refine funext fun (j : S1x384x4096.Idx) => ?_
  have h := (offs t).1
  have h0 : cc0_transform_0 (grid0.coords t) 0 = t.val := congrFun h 0
  have h1 : cc0_transform_0 (grid0.coords t) 1 = 0 := congrFun h 1
  have h2 : cc0_transform_0 (grid0.coords t) 2 = 0 := congrFun h 2
  have hj : (j 0).val < 1 := (j 0).isLt
  show V m c main_arg0 _ = _
  rw [V_arg0]
  refine congrArg (m ((c : Thread nD τ).loc main_arg0)) (funext fun x => Fin.ext ?_)
  match x with
  | ⟨0, _⟩ => show cc0_transform_0 (grid0.coords t) 0 * 1 + 1 * (j 0).val = t.val; omega
  | ⟨1, _⟩ => show cc0_transform_0 (grid0.coords t) 1 * 384 + 1 * (j 1).val = (j 1).val; omega
  | ⟨2, _⟩ => show cc0_transform_0 (grid0.coords t) 2 * 4096 + 1 * (j 2).val = (j 2).val; omega

theorem blk1 (t : Fin (cfgM m hO).N) : iblk m hO c 1 t = gB m c := by
  refine funext fun (j : S1x4096.Idx) => ?_
  have h := (offs t).2.1
  have h0 : cc0_transform_1 (grid0.coords t) 0 = 0 := congrFun h 0
  have h1 : cc0_transform_1 (grid0.coords t) 1 = 0 := congrFun h 1
  have hj : (j 0).val < 1 := (j 0).isLt
  refine Eq.trans ?_ (V_v0 m c 0 (j 1))
  refine congrArg (V m c main_v0) (funext fun x => Fin.ext ?_)
  match x with
  | ⟨0, _⟩ => show cc0_transform_1 (grid0.coords t) 0 * 1 + 1 * (j 0).val = 0; omega
  | ⟨1, _⟩ => show cc0_transform_1 (grid0.coords t) 1 * 4096 + 1 * (j 1).val = (j 1).val; omega

theorem blk2 (t : Fin (cfgM m hO).N) : iblk m hO c 2 t = bB m c := by
  refine funext fun (j : S1x4096.Idx) => ?_
  have h := (offs t).2.2.1
  have h0 : cc0_transform_2 (grid0.coords t) 0 = 0 := congrFun h 0
  have h1 : cc0_transform_2 (grid0.coords t) 1 = 0 := congrFun h 1
  have hj : (j 0).val < 1 := (j 0).isLt
  refine Eq.trans ?_ (V_v1 m c 0 (j 1))
  refine congrArg (V m c main_v1) (funext fun x => Fin.ext ?_)
  match x with
  | ⟨0, _⟩ => show cc0_transform_2 (grid0.coords t) 0 * 1 + 1 * (j 0).val = 0; omega
  | ⟨1, _⟩ => show cc0_transform_2 (grid0.coords t) 1 * 4096 + 1 * (j 1).val = (j 1).val; omega

theorem blk3 (t : Fin (cfgM m hO).N) : iblk m hO c 3 t = eB m c (pt m hO t) := by
  refine funext fun (j : S1x1x4096.Idx) => ?_
  have h := (offs t).2.2.2.1
  have h0 : cc0_transform_3 (grid0.coords t) 0 = t.val := congrFun h 0
  have h1 : cc0_transform_3 (grid0.coords t) 1 = 0 := congrFun h 1
  have h2 : cc0_transform_3 (grid0.coords t) 2 = 0 := congrFun h 2
  have hj : (j 0).val < 1 := (j 0).isLt
  have hj1 : (j 1).val < 1 := (j 1).isLt
  refine Eq.trans ?_ (V_v2 m c (pt m hO t) 0 (j 2))
  refine congrArg (V m c main_v2) (funext fun x => Fin.ext ?_)
  match x with
  | ⟨0, _⟩ => show cc0_transform_3 (grid0.coords t) 0 * 1 + 1 * (j 0).val = t.val; omega
  | ⟨1, _⟩ => show cc0_transform_3 (grid0.coords t) 1 * 1 + 1 * (j 1).val = 0; omega
  | ⟨2, _⟩ => show cc0_transform_3 (grid0.coords t) 2 * 4096 + 1 * (j 2).val = (j 2).val; omega

/-- The point's length. -/
theorem len_pt (t : Fin (cfgM m hO).N) : len0 c (grid0.coords t) (tbl m 0) = lB m c (pt m hO t) := by
  have hc : c = 0 := Subsingleton.elim _ _
  subst hc
  have h := (offs t).2.2.2.2.2.2.2.2
  have h0 : k0_off1 (grid0.coords t) 0 = t.val := congrFun h 0
  show V m 0 main_arg3 _ = _
  rw [V_arg3]
  refine congrArg (m (((0 : Dev nD) : Thread nD τ).loc main_arg3)) (funext fun x => Fin.ext ?_)
  match x with
  | ⟨0, _⟩ => show k0_off1 (grid0.coords t) 0 + 1 * 0 = t.val; omega

/-! The result arrays. -/

/-- The codes, -/
def codesR : Buf (Elt Ideal) ((c : Thread nD τ).loc main_v3_0) := fun (y : S3x384x4096.Idx) =>
  codes0 (lB m c (y 0)) (xB m c (y 0)) (gB m c) (bB m c) (eB m c (y 0)) (ix3 0 (y 1) (y 2))
/-- the scales, -/
def scalesR : Buf (Elt Ideal) ((c : Thread nD τ).loc main_v3_1) := fun (y : S3x384x1.Idx) =>
  scales0 (lB m c (y 0)) (xB m c (y 0)) (gB m c) (bB m c) (eB m c (y 0)) (ix3 0 (y 1) (y 2))
/-- the scale's gradient after the first `n + 1` sequences, -/
def dgammaN : (n : ℕ) → n < 3 → Vec Ideal S1x4096 .f32
  | 0, h => dgamma0 (lB m c ⟨0, h⟩) (xB m c ⟨0, h⟩) (gB m c) (bB m c) (eB m c ⟨0, h⟩) (k0_pay4 (F := Ideal))
  | n + 1, h => dgamma0 (lB m c ⟨n + 1, h⟩) (xB m c ⟨n + 1, h⟩) (gB m c) (bB m c) (eB m c ⟨n + 1, h⟩) (dgammaN n (by omega))
/-- and the shift's. -/
def dbetaN : (n : ℕ) → n < 3 → Vec Ideal S1x4096 .f32
  | 0, h => dbeta0 (lB m c ⟨0, h⟩) (xB m c ⟨0, h⟩) (gB m c) (bB m c) (eB m c ⟨0, h⟩) (k0_pay5 (F := Ideal))
  | n + 1, h => dbeta0 (lB m c ⟨n + 1, h⟩) (xB m c ⟨n + 1, h⟩) (gB m c) (bB m c) (eB m c ⟨n + 1, h⟩) (dbetaN n (by omega))

theorem outs_point (t : Fin (cfgM m hO).N) :
    (outsAt0 m hO c t.val t.isLt).1 = codes0 (lB m c (pt m hO t)) (xB m c (pt m hO t)) (gB m c) (bB m c) (eB m c (pt m hO t))
    ∧ (outsAt0 m hO c t.val t.isLt).2.1 = scales0 (lB m c (pt m hO t)) (xB m c (pt m hO t)) (gB m c) (bB m c) (eB m c (pt m hO t)) := by
  by_cases h : t.val % 3 = 0
  · rw [outsAt0_A m hO c t h]; dsimp only; rw [blk0, blk1, blk2, blk3, len_pt]; exact ⟨rfl, rfl⟩
  · rw [outsAt0_B m hO c t h]; dsimp only; rw [blk0, blk1, blk2, blk3, len_pt]; exact ⟨rfl, rfl⟩

theorem outs_sum (n : ℕ) (hn : n < 3) (hn' : n < (cfgM m hO).N) :
    (outsAt0 m hO c n hn').2.2.1 = dgammaN m c n hn ∧ (outsAt0 m hO c n hn').2.2.2 = dbetaN m c n hn := by
  induction n with
  | zero =>
    have := outsAt0_A m hO c ⟨0, hn'⟩ rfl
    dsimp only at this
    rw [this]; dsimp only; rw [blk0, blk1, blk2, blk3, len_pt]; exact ⟨rfl, rfl⟩
  | succ n ih =>
    obtain ⟨i1, i2⟩ := ih (by omega) (by omega)
    have := outsAt0_B m hO c ⟨n + 1, hn'⟩ (by show ¬(n + 1) % 3 = 0; omega)
    dsimp only [Nat.add_sub_cancel] at this
    have i1' : (outsAt0 m hO c (n + 1 - 1) (by omega)).2.2.1 = dgammaN m c n (by omega) := i1
    have i2' : (outsAt0 m hO c (n + 1 - 1) (by omega)).2.2.2 = dbetaN m c n (by omega) := i2
    rw [this]; dsimp only; rw [i1', i2', blk0, blk1, blk2, blk3, len_pt]; exact ⟨rfl, rfl⟩

theorem flushed4 (t : Fin (cfgM m hO).N) :
    (dats m hO 0 c).flushed 4 t = (((cfgM m hO).win 4).blk t).view.read (Elt Ideal) (codesR m c) := by
  have e : (dats m hO 0 c).flushed 4 t = ((cfgM m hO).win 4).cut ((cfgM m hO).grid.coords t) ((dats m hO 0 c).after 4 t) := rfl
  rw [e, after0_4, (outs_point m hO c t).1]
  refine funext fun (j : S1x384x4096.Idx) => ?_
  have h := (offs t).2.2.2.2.1
  have h0 : cc0_transform_4 (grid0.coords t) 0 = t.val := congrFun h 0
  have h1 : cc0_transform_4 (grid0.coords t) 1 = 0 := congrFun h 1
  have h2 : cc0_transform_4 (grid0.coords t) 2 = 0 := congrFun h 2
  have hj : (j 0).val < 1 := (j 0).isLt
  have hr : (((cfgM m hO).win 4).blk t).view.read (Elt Ideal) (codesR m c) j = codesR m c (ix3 (pt m hO t) (j 1) (j 2)) := by
    refine congrArg (codesR m c) (funext fun x => Fin.ext ?_)
    match x with
    | ⟨0, _⟩ => show cc0_transform_4 (grid0.coords t) 0 * 1 + 1 * (j 0).val = t.val; omega
    | ⟨1, _⟩ => show cc0_transform_4 (grid0.coords t) 1 * 384 + 1 * (j 1).val = (j 1).val; omega
    | ⟨2, _⟩ => show cc0_transform_4 (grid0.coords t) 2 * 4096 + 1 * (j 2).val = (j 2).val; omega
  rw [hr]
  show codes0 _ _ _ _ _ _ = codes0 _ _ _ _ _ _
  refine congrArg _ (funext fun x => Fin.ext ?_)
  match x with
  | ⟨0, _⟩ => show (j 0).val = 0; omega
  | ⟨1, _⟩ => rfl
  | ⟨2, _⟩ => rfl

theorem flushed5 (t : Fin (cfgM m hO).N) :
    (dats m hO 0 c).flushed 5 t = (((cfgM m hO).win 5).blk t).view.read (Elt Ideal) (scalesR m c) := by
  have e : (dats m hO 0 c).flushed 5 t = ((cfgM m hO).win 5).cut ((cfgM m hO).grid.coords t) ((dats m hO 0 c).after 5 t) := rfl
  rw [e, after0_5, (outs_point m hO c t).2]
  refine funext fun (j : S1x384x1.Idx) => ?_
  have h := (offs t).2.2.2.2.2.1
  have h0 : cc0_transform_5 (grid0.coords t) 0 = t.val := congrFun h 0
  have h1 : cc0_transform_5 (grid0.coords t) 1 = 0 := congrFun h 1
  have h2 : cc0_transform_5 (grid0.coords t) 2 = 0 := congrFun h 2
  have hj : (j 0).val < 1 := (j 0).isLt
  have hr : (((cfgM m hO).win 5).blk t).view.read (Elt Ideal) (scalesR m c) j = scalesR m c (ix3 (pt m hO t) (j 1) (j 2)) := by
    refine congrArg (scalesR m c) (funext fun x => Fin.ext ?_)
    match x with
    | ⟨0, _⟩ => show cc0_transform_5 (grid0.coords t) 0 * 1 + 1 * (j 0).val = t.val; omega
    | ⟨1, _⟩ => show cc0_transform_5 (grid0.coords t) 1 * 384 + 1 * (j 1).val = (j 1).val; omega
    | ⟨2, _⟩ => show cc0_transform_5 (grid0.coords t) 2 * 1 + 1 * (j 2).val = (j 2).val; omega
  rw [hr]
  show scales0 _ _ _ _ _ _ = scales0 _ _ _ _ _ _
  refine congrArg _ (funext fun x => Fin.ext ?_)
  match x with
  | ⟨0, _⟩ => show (j 0).val = 0; omega
  | ⟨1, _⟩ => rfl
  | ⟨2, _⟩ => rfl

/-- The gradients' arrays, which the last point writes. -/
def dgammaR : Buf (Elt Ideal) ((c : Thread nD τ).loc main_v3_2) := fun (y : S1x4096.Idx) => dgammaN m c 2 (by omega) y
def dbetaR : Buf (Elt Ideal) ((c : Thread nD τ).loc main_v3_3) := fun (y : S1x4096.Idx) => dbetaN m c 2 (by omega) y

theorem flushed6 (t : Fin (cfgM m hO).N) (ht : ((cfgM m hO).win 6).flush t = true) :
    (dats m hO 0 c).flushed 6 t = (((cfgM m hO).win 6).blk t).view.read (Elt Ideal) (dgammaR m c) := by
  have hN : (cfgM m hO).N = 3 := N_0
  have h2 : t.val = 2 := by have := (flush0_6 (adm m hO) t).mp ht; have := t.isLt; omega
  have e : (dats m hO 0 c).flushed 6 t = ((cfgM m hO).win 6).cut ((cfgM m hO).grid.coords t) ((dats m hO 0 c).after 6 t) := rfl
  have en : ∀ (n : ℕ) (h : n < 3), n = 2 → dgammaN m c n h = dgammaN m c 2 (by omega) := by rintro _ _ rfl; rfl
  rw [e, after0_6, (outs_sum m hO c t.val (by omega) t.isLt).1, en _ _ h2]
  refine funext fun (j : S1x4096.Idx) => ?_
  have h := (offs t).2.2.2.2.2.2.1
  have h0 : cc0_transform_6 (grid0.coords t) 0 = 0 := congrFun h 0
  have h1 : cc0_transform_6 (grid0.coords t) 1 = 0 := congrFun h 1
  refine congrArg (dgammaN m c 2 _) (funext fun x => Fin.ext ?_)
  match x with
  | ⟨0, _⟩ => show (j 0).val = cc0_transform_6 (grid0.coords t) 0 * 1 + 1 * (j 0).val; omega
  | ⟨1, _⟩ => show (j 1).val = cc0_transform_6 (grid0.coords t) 1 * 4096 + 1 * (j 1).val; omega

theorem flushed7 (t : Fin (cfgM m hO).N) (ht : ((cfgM m hO).win 7).flush t = true) :
    (dats m hO 0 c).flushed 7 t = (((cfgM m hO).win 7).blk t).view.read (Elt Ideal) (dbetaR m c) := by
  have hN : (cfgM m hO).N = 3 := N_0
  have h2 : t.val = 2 := by have := (flush0_7 (adm m hO) t).mp ht; have := t.isLt; omega
  have e : (dats m hO 0 c).flushed 7 t = ((cfgM m hO).win 7).cut ((cfgM m hO).grid.coords t) ((dats m hO 0 c).after 7 t) := rfl
  have en : ∀ (n : ℕ) (h : n < 3), n = 2 → dbetaN m c n h = dbetaN m c 2 (by omega) := by rintro _ _ rfl; rfl
  rw [e, after0_7, (outs_sum m hO c t.val (by omega) t.isLt).2, en _ _ h2]
  refine funext fun (j : S1x4096.Idx) => ?_
  have h := (offs t).2.2.2.2.2.2.2.1
  have h0 : cc0_transform_7 (grid0.coords t) 0 = 0 := congrFun h 0
  have h1 : cc0_transform_7 (grid0.coords t) 1 = 0 := congrFun h 1
  refine congrArg (dbetaN m c 2 _) (funext fun x => Fin.ext ?_)
  match x with
  | ⟨0, _⟩ => show (j 0).val = cc0_transform_7 (grid0.coords t) 0 * 1 + 1 * (j 0).val; omega
  | ⟨1, _⟩ => show (j 1).val = cc0_transform_7 (grid0.coords t) 1 * 4096 + 1 * (j 1).val; omega

/-! The points' blocks together are the arrays. -/

theorem mem4 (t : Fin (cfgM m hO).N) (i : S3x384x4096.Idx) (ht : (i 0 : Nat) = t.val) : i ∈ (((cfgM m hO).win 4).blk t).view.set := by
  refine (Finset.ext_iff.1 (View.set_slice_whole main_v3_0 (((cfgM m hO).win 4).rect t)) i).2 ?_
  refine Rect.mem_set_unit.2 ?_
  have h := (offs t).2.2.2.2.1
  have hi0 : (i 0 : Nat) < 3 := (i 0).isLt
  have h0 : cc0_transform_4 (grid0.coords t) 0 = t.val := congrFun h 0
  have hi1 : (i 1 : Nat) < 384 := (i 1).isLt
  have h1 : cc0_transform_4 (grid0.coords t) 1 = 0 := congrFun h 1
  have hi2 : (i 2 : Nat) < 4096 := (i 2).isLt
  have h2 : cc0_transform_4 (grid0.coords t) 2 = 0 := congrFun h 2
  intro a
  match a with
  | ⟨0, _⟩ => show cc0_transform_4 (grid0.coords t) 0 * 1 ≤ (i 0 : Nat) ∧ (i 0 : Nat) < cc0_transform_4 (grid0.coords t) 0 * 1 + 1; omega
  | ⟨1, _⟩ => show cc0_transform_4 (grid0.coords t) 1 * 384 ≤ (i 1 : Nat) ∧ (i 1 : Nat) < cc0_transform_4 (grid0.coords t) 1 * 384 + 384; omega
  | ⟨2, _⟩ => show cc0_transform_4 (grid0.coords t) 2 * 4096 ≤ (i 2 : Nat) ∧ (i 2 : Nat) < cc0_transform_4 (grid0.coords t) 2 * 4096 + 4096; omega

theorem cover4 (i : S3x384x4096.Idx) : ∃ t : Fin (cfgM m hO).N, ((cfgM m hO).win 4).flush t = true ∧ i ∈ (((cfgM m hO).win 4).blk t).view.set := by
  have hN : (cfgM m hO).N = 3 := N_0
  have hi0 : (i 0 : Nat) < 3 := (i 0).isLt
  exact ⟨⟨(i 0 : Nat), by rw [hN]; exact hi0⟩, flush0_4 (adm m hO) _, mem4 m hO _ i rfl⟩

theorem mem5 (t : Fin (cfgM m hO).N) (i : S3x384x1.Idx) (ht : (i 0 : Nat) = t.val) : i ∈ (((cfgM m hO).win 5).blk t).view.set := by
  refine (Finset.ext_iff.1 (View.set_slice_whole main_v3_1 (((cfgM m hO).win 5).rect t)) i).2 ?_
  refine Rect.mem_set_unit.2 ?_
  have h := (offs t).2.2.2.2.2.1
  have hi0 : (i 0 : Nat) < 3 := (i 0).isLt
  have h0 : cc0_transform_5 (grid0.coords t) 0 = t.val := congrFun h 0
  have hi1 : (i 1 : Nat) < 384 := (i 1).isLt
  have h1 : cc0_transform_5 (grid0.coords t) 1 = 0 := congrFun h 1
  have hi2 : (i 2 : Nat) < 1 := (i 2).isLt
  have h2 : cc0_transform_5 (grid0.coords t) 2 = 0 := congrFun h 2
  intro a
  match a with
  | ⟨0, _⟩ => show cc0_transform_5 (grid0.coords t) 0 * 1 ≤ (i 0 : Nat) ∧ (i 0 : Nat) < cc0_transform_5 (grid0.coords t) 0 * 1 + 1; omega
  | ⟨1, _⟩ => show cc0_transform_5 (grid0.coords t) 1 * 384 ≤ (i 1 : Nat) ∧ (i 1 : Nat) < cc0_transform_5 (grid0.coords t) 1 * 384 + 384; omega
  | ⟨2, _⟩ => show cc0_transform_5 (grid0.coords t) 2 * 1 ≤ (i 2 : Nat) ∧ (i 2 : Nat) < cc0_transform_5 (grid0.coords t) 2 * 1 + 1; omega

theorem cover5 (i : S3x384x1.Idx) : ∃ t : Fin (cfgM m hO).N, ((cfgM m hO).win 5).flush t = true ∧ i ∈ (((cfgM m hO).win 5).blk t).view.set := by
  have hN : (cfgM m hO).N = 3 := N_0
  have hi0 : (i 0 : Nat) < 3 := (i 0).isLt
  exact ⟨⟨(i 0 : Nat), by rw [hN]; exact hi0⟩, flush0_5 (adm m hO) _, mem5 m hO _ i rfl⟩

theorem mem6 (t : Fin (cfgM m hO).N) (i : S1x4096.Idx) : i ∈ (((cfgM m hO).win 6).blk t).view.set := by
  refine (Finset.ext_iff.1 (View.set_slice_whole main_v3_2 (((cfgM m hO).win 6).rect t)) i).2 ?_
  refine Rect.mem_set_unit.2 ?_
  have h := (offs t).2.2.2.2.2.2.1
  have hi0 : (i 0 : Nat) < 1 := (i 0).isLt
  have h0 : cc0_transform_6 (grid0.coords t) 0 = 0 := congrFun h 0
  have hi1 : (i 1 : Nat) < 4096 := (i 1).isLt
  have h1 : cc0_transform_6 (grid0.coords t) 1 = 0 := congrFun h 1
  intro a
  match a with
  | ⟨0, _⟩ => show cc0_transform_6 (grid0.coords t) 0 * 1 ≤ (i 0 : Nat) ∧ (i 0 : Nat) < cc0_transform_6 (grid0.coords t) 0 * 1 + 1; omega
  | ⟨1, _⟩ => show cc0_transform_6 (grid0.coords t) 1 * 4096 ≤ (i 1 : Nat) ∧ (i 1 : Nat) < cc0_transform_6 (grid0.coords t) 1 * 4096 + 4096; omega

theorem cover6 (i : S1x4096.Idx) : ∃ t : Fin (cfgM m hO).N, ((cfgM m hO).win 6).flush t = true ∧ i ∈ (((cfgM m hO).win 6).blk t).view.set := by
  have hN : (cfgM m hO).N = 3 := N_0
  exact ⟨⟨2, by rw [hN]; decide⟩, (flush0_6 (adm m hO) _).mpr rfl, mem6 m hO _ i⟩

theorem mem7 (t : Fin (cfgM m hO).N) (i : S1x4096.Idx) : i ∈ (((cfgM m hO).win 7).blk t).view.set := by
  refine (Finset.ext_iff.1 (View.set_slice_whole main_v3_3 (((cfgM m hO).win 7).rect t)) i).2 ?_
  refine Rect.mem_set_unit.2 ?_
  have h := (offs t).2.2.2.2.2.2.2.1
  have hi0 : (i 0 : Nat) < 1 := (i 0).isLt
  have h0 : cc0_transform_7 (grid0.coords t) 0 = 0 := congrFun h 0
  have hi1 : (i 1 : Nat) < 4096 := (i 1).isLt
  have h1 : cc0_transform_7 (grid0.coords t) 1 = 0 := congrFun h 1
  intro a
  match a with
  | ⟨0, _⟩ => show cc0_transform_7 (grid0.coords t) 0 * 1 ≤ (i 0 : Nat) ∧ (i 0 : Nat) < cc0_transform_7 (grid0.coords t) 0 * 1 + 1; omega
  | ⟨1, _⟩ => show cc0_transform_7 (grid0.coords t) 1 * 4096 ≤ (i 1 : Nat) ∧ (i 1 : Nat) < cc0_transform_7 (grid0.coords t) 1 * 4096 + 4096; omega

theorem cover7 (i : S1x4096.Idx) : ∃ t : Fin (cfgM m hO).N, ((cfgM m hO).win 7).flush t = true ∧ i ∈ (((cfgM m hO).win 7).blk t).view.set := by
  have hN : (cfgM m hO).N = 3 := N_0
  exact ⟨⟨2, by rw [hN]; decide⟩, (flush0_7 (adm m hO) _).mpr rfl, mem7 m hO _ i⟩

/-- The result arrays at the end. -/
theorem final4 : (dats m hO 0 c).arrAt 4 (cfgM m hO).N = codesR m c :=
  (dats m hO 0 c).arrAt_eq_of_cover 4 (codesR m c) (fun t _ => flushed4 m hO c t) (cover4 m hO)
theorem final5 : (dats m hO 0 c).arrAt 5 (cfgM m hO).N = scalesR m c :=
  (dats m hO 0 c).arrAt_eq_of_cover 5 (scalesR m c) (fun t _ => flushed5 m hO c t) (cover5 m hO)
theorem final6 : (dats m hO 0 c).arrAt 6 (cfgM m hO).N = dgammaR m c :=
  (dats m hO 0 c).arrAt_eq_of_cover 6 (dgammaR m c) (fun t ht => flushed6 m hO c t ht) (cover6 m hO)
theorem final7 : (dats m hO 0 c).arrAt 7 (cfgM m hO).N = dbetaR m c :=
  (dats m hO 0 c).arrAt_eq_of_cover 7 (dbetaR m c) (fun t ht => flushed7 m hO c t ht) (cover7 m hO)

end Cert.KernelIdeal.Region0

end
-- ==== Proof.Region1Product.lean ====
/-
  What the product kernel's result array holds (hand-written, untrusted): at row `r` and column `j` the sum over `k` of
  `codes r k * weights j k`, times the product of the row's scale and the column's scale, read over the extended reals.
-/
module

public import proofs.«01_k».proof.Proof.Region1Body
public import Idealize.ShloMosaic.Lib.Pointwise

@[expose] public section

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- The scaled product of row codes and column codes, entry by entry. -/
def scaled (codes : Vec Ideal S1152x4096 .fp8e5m2) (s : Vec Ideal S1152x1 .f32) (w : Vec Ideal S14336x4096 .fp8e4m3)
    (ws : Vec Ideal S1x14336 .f32) : Vec Ideal S1152x14336 .bf16 := fun i =>
  ((∑ k : Fin 4096, (codes (ix2 (i 0) k) : EReal) * (w (ix2 (i 1) k) : EReal)) * ((s (ix2 (i 0) 0) : EReal) * (ws (ix2 0 (i 1)) : EReal)) : EReal)

/-- One tile's stored value, entry by entry: the same sum over the tile's own rows of the weights. -/
theorem pay_apply (v0 : Vec Ideal S1152x4096 .fp8e5m2) (v2 : Vec Ideal S1024x4096 .fp8e4m3) (v4 : Vec Ideal S1152x1 .f32) (v6 : Vec Ideal S1x1024 .f32)
    (a : Fin 1152) (b : Fin 1024) :
    k1_pay1 v0 v2 v4 v6 (ix2 a b)
      = ((∑ k : Fin 4096, (v0 (ix2 a k) : EReal) * (v2 (ix2 b k) : EReal)) * ((v4 (ix2 a 0) : EReal) * (v6 (ix2 0 b) : EReal)) : EReal) := by
  unfold k1_pay1
  pointwise

variable (Wv : (c : Dev nD) → (b : Ref sig .tc) → Buf (Elt Ideal) ((c : Thread nD τ).loc b))

theorem hz : (![0, 0] : Fin 2 → Nat) = fun _ => 0 := funext fun a => by fin_cases a <;> rfl

/-- The result array, from the arrays as the tiles find them. -/
abbrev result (c : Dev nD) : Buf (Elt Ideal) ((c : Thread nD τ).loc main_v7) :=
  scaled (Wv c main_v4) (Wv c main_v5) (Wv c main_arg5) (Wv c main_v6)

/-- Where the tiles lie: tile `t` reads the weights' rows and the column scales from `1024 t` on and writes those columns. -/
theorem offs (t : Fin grid1.N) :
    win1_0.index t 0 * win1_0.size 0 = 0 ∧ win1_0.index t 1 * win1_0.size 1 = 0
    ∧ win1_1.index t 0 * win1_1.size 0 = 0 ∧ win1_1.index t 1 * win1_1.size 1 = 0
    ∧ win1_2.index t 0 * win1_2.size 0 = t.val * 1024 ∧ win1_2.index t 1 * win1_2.size 1 = 0
    ∧ win1_3.index t 0 * win1_3.size 0 = 0 ∧ win1_3.index t 1 * win1_3.size 1 = t.val * 1024
    ∧ win1_4.index t 0 * win1_4.size 0 = 0 ∧ win1_4.index t 1 * win1_4.size 1 = t.val * 1024
    ∧ win1_4.xsize (grid1.coords t) 0 = 1152 ∧ win1_4.xsize (grid1.coords t) 1 = 1024 :=
  (by decide +kernel : ∀ t : Fin grid1.N, win1_0.index t 0 * win1_0.size 0 = 0 ∧ win1_0.index t 1 * win1_0.size 1 = 0
    ∧ win1_1.index t 0 * win1_1.size 0 = 0 ∧ win1_1.index t 1 * win1_1.size 1 = 0
    ∧ win1_2.index t 0 * win1_2.size 0 = t.val * 1024 ∧ win1_2.index t 1 * win1_2.size 1 = 0
    ∧ win1_3.index t 0 * win1_3.size 0 = 0 ∧ win1_3.index t 1 * win1_3.size 1 = t.val * 1024
    ∧ win1_4.index t 0 * win1_4.size 0 = 0 ∧ win1_4.index t 1 * win1_4.size 1 = t.val * 1024
    ∧ win1_4.xsize (grid1.coords t) 0 = 1152 ∧ win1_4.xsize (grid1.coords t) 1 = 1024) t

theorem blk_codes (c : Dev nD) (t : Fin cfg1.N) (a : Fin 1152) (k : Fin 4096) :
    iblk Wv c 0 t (ix2 a k) = (Wv c main_v4) (ix2 a k) := by
  have h := offs t
  refine congrArg (Wv c main_v4) (funext fun x => Fin.ext ?_)
  match x with
  | ⟨0, _⟩ => show win1_0.index t 0 * win1_0.size 0 + 1 * a.val = a.val; omega
  | ⟨1, _⟩ => show win1_0.index t 1 * win1_0.size 1 + 1 * k.val = k.val; omega

theorem blk_scales (c : Dev nD) (t : Fin cfg1.N) (a : Fin 1152) :
    iblk Wv c 1 t (ix2 a 0) = (Wv c main_v5) (ix2 a 0) := by
  have h := offs t
  refine congrArg (Wv c main_v5) (funext fun x => Fin.ext ?_)
  match x with
  | ⟨0, _⟩ => show win1_1.index t 0 * win1_1.size 0 + 1 * a.val = a.val; omega
  | ⟨1, _⟩ => show win1_1.index t 1 * win1_1.size 1 + 1 * 0 = 0; omega

/-- Column `b` of tile `t` is column `1024 t + b` of the array. -/
def col (t : Fin cfg1.N) (b : Fin 1024) : Fin 14336 := ⟨t.val * 1024 + b.val, by have := t.isLt; have : cfg1.N = 14 := N_1; omega⟩

theorem blk_weights (c : Dev nD) (t : Fin cfg1.N) (b : Fin 1024) (k : Fin 4096) :
    iblk Wv c 2 t (ix2 b k) = (Wv c main_arg5) (ix2 (col t b) k) := by
  have h := offs t
  refine congrArg (Wv c main_arg5) (funext fun x => Fin.ext ?_)
  match x with
  | ⟨0, _⟩ => show win1_2.index t 0 * win1_2.size 0 + 1 * b.val = t.val * 1024 + b.val; omega
  | ⟨1, _⟩ => show win1_2.index t 1 * win1_2.size 1 + 1 * k.val = k.val; omega

theorem blk_cols (c : Dev nD) (t : Fin cfg1.N) (b : Fin 1024) :
    iblk Wv c 3 t (ix2 0 b) = (Wv c main_v6) (ix2 0 (col t b)) := by
  have h := offs t
  refine congrArg (Wv c main_v6) (funext fun x => Fin.ext ?_)
  match x with
  | ⟨0, _⟩ => show win1_3.index t 0 * win1_3.size 0 + 1 * 0 = 0; omega
  | ⟨1, _⟩ => show win1_3.index t 1 * win1_3.size 1 + 1 * b.val = t.val * 1024 + b.val; omega

theorem blk_out (G : Vec Ideal S1152x14336 .bf16) (t : Fin cfg1.N) (a : Fin 1152) (b : Fin 1024) :
    (win1_4.blk t).view.read (Elt Ideal) G (ix2 a b) = G (ix2 a (col t b)) := by
  have h := offs t
  refine congrArg G (funext fun x => Fin.ext ?_)
  match x with
  | ⟨0, _⟩ => show win1_4.index t 0 * win1_4.size 0 + 1 * a.val = a.val; omega
  | ⟨1, _⟩ => show win1_4.index t 1 * win1_4.size 1 + 1 * b.val = t.val * 1024 + b.val; omega

theorem flushed4 (c : Dev nD) (t : Fin cfg1.N) :
    (dats Wv c).flushed 4 t = (cfg1.win 4).cut (grid1.coords t) (out1_4 (iblk Wv c 0 t) (iblk Wv c 1 t) (iblk Wv c 2 t) (iblk Wv c 3 t)) := by
  show (cfg1.win 4).cut (grid1.coords t) ((dats Wv c).after 4 t) = _
  rw [after1_4]

/-- What tile `t` writes back is its block of the scaled product. -/
theorem flushed_eq (c : Dev nD) (t : Fin cfg1.N) :
    (dats Wv c).flushed 4 t = (win1_4.blk t).view.read (Elt Ideal) (result Wv c) := by
  rw [flushed4]
  unfold out1_4
  rw [View.canon_unit_zero hz, View.ld_unit_zero hz, View.ld_unit_zero hz, View.ld_unit_zero hz, View.ld_unit_zero hz]
  funext j
  idx_vars j
  refine (pay_apply _ _ _ _ j0 j1).trans ?_
  refine Eq.trans ?_ (blk_out (result Wv c) t j0 j1).symm
  simp only [blk_codes, blk_scales, blk_weights, blk_cols]
  rfl

/-- Which columns tile `t` writes. -/
theorem mem_blk (t : Fin cfg1.N) (i : S1152x14336.Idx) :
    i ∈ ((cfg1.win 4).blk t).view.set ↔ t.val * 1024 ≤ (i 1 : Nat) ∧ (i 1 : Nat) < t.val * 1024 + 1024 := by
  show i ∈ ((View.whole main_v7).slice (win1_4.rect t)).set ↔ _
  rw [View.set_slice_whole, Rect.mem_set_unit]
  have h0 : (i 0 : Nat) < 1152 := (i 0).isLt
  have e := offs t
  refine ⟨fun h => ?_, fun h a => ?_⟩
  · have : win1_4.index t 1 * win1_4.size 1 ≤ (i 1 : Nat) ∧ (i 1 : Nat) < win1_4.index t 1 * win1_4.size 1 + win1_4.xsize (grid1.coords t) 1 := h 1
    omega
  · match a with
    | ⟨0, _⟩ => show win1_4.index t 0 * win1_4.size 0 ≤ (i 0 : Nat) ∧ (i 0 : Nat) < win1_4.index t 0 * win1_4.size 0 + win1_4.xsize (grid1.coords t) 0
                omega
    | ⟨1, _⟩ => show win1_4.index t 1 * win1_4.size 1 ≤ (i 1 : Nat) ∧ (i 1 : Nat) < win1_4.index t 1 * win1_4.size 1 + win1_4.xsize (grid1.coords t) 1
                omega

/-- The tiles together are the whole result. -/
theorem cover (i : S1152x14336.Idx) : ∃ t : Fin cfg1.N, (cfg1.win 4).flush t = true ∧ i ∈ ((cfg1.win 4).blk t).view.set := by
  have h1 : (i 1 : Nat) < 14336 := (i 1).isLt
  have hN : cfg1.N = 14 := N_1
  refine ⟨⟨(i 1 : Nat) / 1024, by omega⟩, flush1_4 _, ?_⟩
  rw [mem_blk]
  dsimp only
  omega

/-- The result array is the scaled product of the arrays the tiles read. -/
theorem final (c : Dev nD) : (dats Wv c).arrAt 4 cfg1.N = result Wv c :=
  (dats Wv c).arrAt_eq_of_cover 4 (result Wv c) (fun t _ => flushed_eq Wv c t) cover

end Cert.KernelIdeal.Region1

end
-- ==== Proof.KernelResults.lean ====
/- The kernel's five results at the end of its run, from the two kernels' arrays. -/
module

public import proofs.«01_k».proof.Proof.Whole
public import proofs.«01_k».proof.Proof.Region0Final
public import proofs.«01_k».proof.Proof.Region1Product

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal.Gen

variable (m : (ℓ : Loc nD τ sig) → Buf (Elt Ideal) ℓ) (ρ : Dev nD → PrngReg) (c : Dev nD)

/-! What the first kernel leaves. -/

theorem W2_codes : W2 m (first m) c (main_v3_0 : DevRef τ sig) = Region0.codesR m c :=
  (Pipeline.afterRegion_arr (Region0.dats m (ok m) 0 c) (W1 m c) (launch0 (F := Ideal)).win.arr_inj 4).trans (Region0.final4 m (ok m) c)
theorem W2_scales : W2 m (first m) c (main_v3_1 : DevRef τ sig) = Region0.scalesR m c :=
  (Pipeline.afterRegion_arr (Region0.dats m (ok m) 0 c) (W1 m c) (launch0 (F := Ideal)).win.arr_inj 5).trans (Region0.final5 m (ok m) c)
theorem W2_dgamma : W2 m (first m) c (main_v3_2 : DevRef τ sig) = Region0.dgammaR m c :=
  (Pipeline.afterRegion_arr (Region0.dats m (ok m) 0 c) (W1 m c) (launch0 (F := Ideal)).win.arr_inj 6).trans (Region0.final6 m (ok m) c)
theorem W2_dbeta : W2 m (first m) c (main_v3_3 : DevRef τ sig) = Region0.dbetaR m c :=
  (Pipeline.afterRegion_arr (Region0.dats m (ok m) 0 c) (W1 m c) (launch0 (F := Ideal)).win.arr_inj 7).trans (Region0.final7 m (ok m) c)

/-- Codes, scales and their gradients pass the second kernel unchanged. -/
theorem W4_of_W2 (r : Ref sig .tc) (h4 : ∀ w : Fin 5, Pipeline.arrRef spec1 w = r → (spec1 w).isOut = false) (h3 : r ∉ hostOps1_W) :
    W4 m (first m) c (Proc.devRef .tc r) = W2 m (first m) c (Proc.devRef .tc r) := (W4_of m c r h4).trans (W3_of m c r h3)

theorem W2_kept (r : Ref sig .tc) (h2 : ∀ w : Fin 8, Pipeline.arrRef spec0 w = r → (spec0 w).isOut = false) (h1 : r ∉ hostOps0_W) :
    W2 m (first m) c (Proc.devRef .tc r) = m ((c.tc : Thread nD τ).loc r) := (W2_of m c r h2).trans (W1_of m c r h1)

/-! The results. -/

/-- The codes. -/
theorem codes_end : W5 m (first m) c (main_v3_0 : DevRef τ sig) = Region0.codesR m c :=
  (W5_of m c main_v3_0 (by decide)).trans ((W4_of_W2 m c main_v3_0 (by decide) (by decide)).trans (W2_codes m c))

/-- The scales. -/
theorem scales_end (b : Fin 3) (t : Fin 384) : (W5 m (first m) c (main_v11 : DevRef τ sig) : Vec Ideal S3x384 .f32) (ix2 b t) = Region0.scalesR m c (ix3 b t 0) := by
  refine (congrFun (Host.r11 (W4 m (first m) c)) (ix2 b t)).trans ((Host.flat_at _ b t).trans ?_)
  exact congrFun ((W4_of_W2 m c main_v3_1 (by decide) (by decide)).trans (W2_scales m c)) (ix3 b t 0)

/-- The scale's gradient. -/
theorem dgamma_end (q : Fin 4096) : (W5 m (first m) c (main_v9 : DevRef τ sig) : Vec Ideal S4096 .f32) (ix1 q) = Region0.dgammaR m c (ix2 0 q) := by
  refine (congrFun (Host.r9 (W4 m (first m) c)) (ix1 q)).trans ((Host.vec_at _ q).trans ?_)
  exact congrFun ((W4_of_W2 m c main_v3_2 (by decide) (by decide)).trans (W2_dgamma m c)) (ix2 0 q)

/-- The shift's. -/
theorem dbeta_end (q : Fin 4096) : (W5 m (first m) c (main_v10 : DevRef τ sig) : Vec Ideal S4096 .f32) (ix1 q) = Region0.dbetaR m c (ix2 0 q) := by
  refine (congrFun (Host.r10 (W4 m (first m) c)) (ix1 q)).trans ((Host.vec_at _ q).trans ?_)
  exact congrFun ((W4_of_W2 m c main_v3_3 (by decide) (by decide)).trans (W2_dbeta m c)) (ix2 0 q)

/-! What the second kernel reads. -/

theorem in_codes (b : Fin 3) (t : Fin 384) (k : Fin 4096) :
    (W3 m (first m) c (main_v4 : DevRef τ sig) : Vec Ideal S1152x4096 .fp8e5m2) (ix2 (Host.seqRow b t) k) = Region0.codesR m c (ix3 b t k) :=
  (congrFun (Host.r4 (W2 m (first m) c)) (ix2 (Host.seqRow b t) k)).trans ((Host.codes_at _ b t k).trans (congrFun (W2_codes m c) (ix3 b t k)))
theorem in_scales (b : Fin 3) (t : Fin 384) (o : Fin 1) :
    (W3 m (first m) c (main_v5 : DevRef τ sig) : Vec Ideal S1152x1 .f32) (ix2 (Host.seqRow b t) o) = Region0.scalesR m c (ix3 b t 0) :=
  (congrFun (Host.r5 (W2 m (first m) c)) (ix2 (Host.seqRow b t) o)).trans ((Host.scales_at _ b t o).trans (congrFun (W2_scales m c) (ix3 b t 0)))
theorem in_cols (o : Fin 1) (j : Fin 14336) :
    (W3 m (first m) c (main_v6 : DevRef τ sig) : Vec Ideal S1x14336 .f32) (ix2 o j) = (m ((c.tc : Thread nD τ).loc main_arg6) : Vec Ideal S14336 .f32) (ix1 j) :=
  (congrFun (Host.r6 (W2 m (first m) c)) (ix2 o j)).trans ((Host.wide_at _ o j).trans (congrFun (W2_kept m c main_arg6 (by decide) (by decide)) (ix1 j)))
theorem in_weights : W3 m (first m) c (main_arg5 : DevRef τ sig) = m ((c.tc : Thread nD τ).loc main_arg5) :=
  (W3_of m c main_arg5 (by decide)).trans (W2_kept m c main_arg5 (by decide) (by decide))

/-- The scaled product's entry at sequence `b`, row `t` and column `j`. -/
def entry (codes : Vec Ideal S3x384x4096 .fp8e5m2) (s : Vec Ideal S3x384x1 .f32) (w : Vec Ideal S14336x4096 .fp8e4m3) (ws : Vec Ideal S14336 .f32)
    (b : Fin 3) (t : Fin 384) (j : Fin 14336) : EReal :=
  (∑ k : Fin 4096, (codes (ix3 b t k) : EReal) * (w (ix2 j k) : EReal)) * ((s (ix3 b t 0) : EReal) * (ws (ix1 j) : EReal))

theorem scaled_entry (codes : Vec Ideal S3x384x4096 .fp8e5m2) (s : Vec Ideal S3x384x1 .f32) (w : Vec Ideal S14336x4096 .fp8e4m3) (ws : Vec Ideal S14336 .f32)
    (codes' : Vec Ideal S1152x4096 .fp8e5m2) (s' : Vec Ideal S1152x1 .f32) (w' : Vec Ideal S14336x4096 .fp8e4m3) (ws' : Vec Ideal S1x14336 .f32)
    (b : Fin 3) (t : Fin 384) (j : Fin 14336)
    (hc : ∀ k, codes' (ix2 (Host.seqRow b t) k) = codes (ix3 b t k)) (hs : s' (ix2 (Host.seqRow b t) 0) = s (ix3 b t 0)) (hw : w' = w)
    (hws : ws' (ix2 0 j) = ws (ix1 j)) :
    Region1.scaled codes' s' w' ws' (ix2 (Host.seqRow b t) j) = entry codes s w ws b t j := by
  subst hw
  refine congrArg₂ (fun x y : EReal => x * y) (Finset.sum_congr rfl fun k _ => congrArg (fun x : EReal => x * (w' (ix2 j k) : EReal)) (hc k))
    (congrArg₂ (fun x y : EReal => x * y) hs hws)

/-- The product. -/
theorem da_end (b : Fin 3) (t : Fin 384) (j : Fin 14336) :
    (W5 m (first m) c (main_v8 : DevRef τ sig) : Vec Ideal S3x384x14336 .bf16) (ix3 b t j)
      = entry (Region0.codesR m c) (Region0.scalesR m c) (m ((c.tc : Thread nD τ).loc main_arg5)) (m ((c.tc : Thread nD τ).loc main_arg6)) b t j := by
  refine (congrFun (Host.r8 (W4 m (first m) c)) (ix3 b t j)).trans ((Host.out_at _ b t j).trans ?_)
  have e : W4 m (first m) c (main_v7 : DevRef τ sig) = Region1.result (fun c b => W3 m (first m) c (Proc.devRef .tc b)) c :=
    (Pipeline.afterRegion_arr (dat1 m (first m) c) (W3 m (first m) c) (launch1 (F := Ideal)).win.arr_inj 4).trans (Region1.final _ c)
  refine (congrFun e (ix2 (Host.seqRow b t) j)).trans ?_
  exact scaled_entry _ _ _ _ _ _ _ _ b t j (fun k => in_codes m c b t k) (in_scales m c b t 0) (in_weights m c) (in_cols m c 0 j)

end Cert.KernelIdeal.Run

end
-- ==== Proof.Stages.lean ====
/- What the reference's host operations compute, stage by stage, as functions of the arguments. -/
module

public import proofs.«01_k».proof.Proof.Gen.ReferenceIdeal
public import Idealize.ShloMosaic.Lib.StableHlo.RunRead

@[expose] public section

set_option maxRecDepth 16384

noncomputable section

namespace Cert.ReferenceIdeal.Stage

open Idealize.ShloMosaic Idealize.ShloMosaic.TcCoe Idealize.ShloMosaic.Tactic
open Cert.ReferenceIdeal Cert.ReferenceIdeal.Gen

variable {F : FTy → Type} [FloatOps F]

/-- The rows less their means,  -/
def xc (x : FVec F S3x384x4096 .bf16) : FVec F S3x384x4096 .f32 :=
  let v0 : FVec F S3x384x4096 .f32 := ((extf .f32 · bitsLt_bf16_f32)) x
  let cst : FVec F S_ .f32 := (constant S_ .f32 0x00000000#32)
  let v1 : FVec F S3x384 .f32 := ((fun x v => Host.reduceAdd x v reducesTo_S3x384x4096_S3x384_d2 h_S_)) v0 cst
  let v2 : FVec F S3x384x1 .f32 := (broadcastInDim S3x384x1 ![0, 1] bcast_S3x384_S3x384x1_0_1) v1
  let cst_0 : FVec F S_ .f32 := (constant S_ .f32 0x45800000#32)
  let v3 : FVec F S3x384x1 .f32 := (broadcastInDim S3x384x1 ![] bcast_S_S3x384x1) cst_0
  let v4 : FVec F S3x384x1 .f32 := (Host.divf) v2 v3
  let v5 : FVec F S3x384x4096 .f32 := (broadcastInDim S3x384x4096 ![0, 1, 2] bcast_S3x384x1_S3x384x4096_0_1_2) v4
  (subf) v0 v5

/-- the rows' inverse deviations,  -/
def rstd (c : FVec F S3x384x4096 .f32) : FVec F S3x384x1 .f32 :=
  let v7 : FVec F S3x384x4096 .f32 := (mulf) c c
  let cst_1 : FVec F S_ .f32 := (constant S_ .f32 0x00000000#32)
  let v8 : FVec F S3x384 .f32 := ((fun x v => Host.reduceAdd x v reducesTo_S3x384x4096_S3x384_d2 h_S_)) v7 cst_1
  let v9 : FVec F S3x384x1 .f32 := (broadcastInDim S3x384x1 ![0, 1] bcast_S3x384_S3x384x1_0_1) v8
  let cst_2 : FVec F S_ .f32 := (constant S_ .f32 0x45800000#32)
  let v10 : FVec F S3x384x1 .f32 := (broadcastInDim S3x384x1 ![] bcast_S_S3x384x1) cst_2
  let v11 : FVec F S3x384x1 .f32 := (Host.divf) v9 v10
  let cst_3 : FVec F S_ .f32 := (constant S_ .f32 0x3727C5AC#32)
  let v12 : FVec F S3x384x1 .f32 := (broadcastInDim S3x384x1 ![] bcast_S_S3x384x1) cst_3
  let v13 : FVec F S3x384x1 .f32 := (addf) v11 v12
  (Host.rsqrt) v13

/-- the normalised rows,  -/
def xhat (c : FVec F S3x384x4096 .f32) (r : FVec F S3x384x1 .f32) : FVec F S3x384x4096 .f32 :=
  let v15 : FVec F S3x384x4096 .f32 := (broadcastInDim S3x384x4096 ![0, 1, 2] bcast_S3x384x1_S3x384x4096_0_1_2) r
  (mulf) c v15

/-- one at the rows inside their sequence's length, zero beyond,  -/
def mask (l : IVec S3 32) : FVec F S3x384 .f32 :=
  let v23 : IVec S384 32 := (iotaInDim S384 32 0)
  let v24 : IVec S1x384 32 := (broadcastInDim S1x384 ![1] bcast_S384_S1x384_1) v23
  let v26 : IVec S3x384 32 := (broadcastInDim S3x384 ![0, 1] bcast_S1x384_S3x384_0_1) v24
  let v25 : IVec S3x1 32 := (broadcastInDim S3x1 ![0] bcast_S3_S3x1_0) l
  let v27 : IVec S3x384 32 := (broadcastInDim S3x384 ![0, 1] bcast_S3x1_S3x384_0_1) v25
  let v28 : IVec S3x384 1 := (cmpi .slt) v26 v27
  (uitofp .f32) v28

/-- the lengths as numbers,  -/
def len (l : IVec S3 32) : FVec F S3x1 .f32 :=
  let v30 : FVec F S3 .f32 := (sitofp .f32) l
  (broadcastInDim S3x1 ![0] bcast_S3_S3x1_0) v30

/-- the mean over the rows inside, of the normalised rows scaled and shifted,  -/
def pool (h : FVec F S3x384x4096 .f32) (g : FVec F S4096 .f32) (b : FVec F S4096 .f32) (mk : FVec F S3x384 .f32) (ln : FVec F S3x1 .f32) : FVec F S3x4096 .f32 :=
  let v32 : FVec F S3x384x1 .f32 := (broadcastInDim S3x384x1 ![0, 1] bcast_S3x384_S3x384x1_0_1) mk
  let v33 : FVec F S3x384x4096 .f32 := (broadcastInDim S3x384x4096 ![0, 1, 2] bcast_S3x384x1_S3x384x4096_0_1_2) v32
  let v17 : FVec F S1x1x4096 .f32 := (broadcastInDim S1x1x4096 ![2] bcast_S4096_S1x1x4096_2) g
  let v18 : FVec F S3x384x4096 .f32 := (broadcastInDim S3x384x4096 ![0, 1, 2] bcast_S1x1x4096_S3x384x4096_0_1_2) v17
  let v19 : FVec F S3x384x4096 .f32 := (mulf) h v18
  let v20 : FVec F S1x1x4096 .f32 := (broadcastInDim S1x1x4096 ![2] bcast_S4096_S1x1x4096_2) b
  let v21 : FVec F S3x384x4096 .f32 := (broadcastInDim S3x384x4096 ![0, 1, 2] bcast_S1x1x4096_S3x384x4096_0_1_2) v20
  let v22 : FVec F S3x384x4096 .f32 := (addf) v19 v21
  let v34 : FVec F S3x384x4096 .f32 := (mulf) v33 v22
  let cst_4 : FVec F S_ .f32 := (constant S_ .f32 0x00000000#32)
  let v35 : FVec F S3x4096 .f32 := ((fun x v => Host.reduceAdd x v reducesTo_S3x384x4096_S3x4096_d1 h_S_)) v34 cst_4
  let v36 : FVec F S3x4096 .f32 := (broadcastInDim S3x4096 ![0, 1] bcast_S3x1_S3x4096_0_1) ln
  (Host.divf) v35 v36

/-- its length,  -/
def norm (p : FVec F S3x4096 .f32) : FVec F S3x1 .f32 :=
  let v38 : FVec F S3x4096 .f32 := (mulf) p p
  let cst_5 : FVec F S_ .f32 := (constant S_ .f32 0x00000000#32)
  let v39 : FVec F S3 .f32 := ((fun x v => Host.reduceAdd x v reducesTo_S3x4096_S3_d1 h_S_)) v38 cst_5
  let v40 : FVec F S3x1 .f32 := (broadcastInDim S3x1 ![0] bcast_S3_S3x1_0) v39
  (Host.sqrt) v40

/-- its direction,  -/
def unit (p : FVec F S3x4096 .f32) (n : FVec F S3x1 .f32) : FVec F S3x4096 .f32 :=
  let v42 : FVec F S3x4096 .f32 := (broadcastInDim S3x4096 ![0, 1] bcast_S3x1_S3x4096_0_1) n
  (Host.divf) p v42

/-- the gradient of the mean,  -/
def dpool (n : FVec F S3x1 .f32) (e : FVec F S3x4096 .f32) (ge : FVec F S3x4096 .f32) : FVec F S3x4096 .f32 :=
  let v44 : FVec F S3x4096 .f32 := (mulf) e ge
  let cst_6 : FVec F S_ .f32 := (constant S_ .f32 0x00000000#32)
  let v45 : FVec F S3 .f32 := ((fun x v => Host.reduceAdd x v reducesTo_S3x4096_S3_d1 h_S_)) v44 cst_6
  let v46 : FVec F S3x1 .f32 := (broadcastInDim S3x1 ![0] bcast_S3_S3x1_0) v45
  let v47 : FVec F S3x4096 .f32 := (broadcastInDim S3x4096 ![0, 1] bcast_S3x1_S3x4096_0_1) v46
  let v48 : FVec F S3x4096 .f32 := (mulf) e v47
  let v49 : FVec F S3x4096 .f32 := (subf) ge v48
  let v50 : FVec F S3x4096 .f32 := (broadcastInDim S3x4096 ![0, 1] bcast_S3x1_S3x4096_0_1) n
  (Host.divf) v49 v50

/-- the same over the length,  -/
def dpl (d : FVec F S3x4096 .f32) (ln : FVec F S3x1 .f32) : FVec F S3x4096 .f32 :=
  let v53 : FVec F S3x4096 .f32 := (broadcastInDim S3x4096 ![0, 1] bcast_S3x1_S3x4096_0_1) ln
  (Host.divf) d v53

/-- the gradient of the rows scaled and shifted,  -/
def dy (mk : FVec F S3x384 .f32) (dl : FVec F S3x4096 .f32) : FVec F S3x384x4096 .f32 :=
  let v52 : FVec F S3x384x1 .f32 := (broadcastInDim S3x384x1 ![0, 1] bcast_S3x384_S3x384x1_0_1) mk
  let v56 : FVec F S3x384x4096 .f32 := (broadcastInDim S3x384x4096 ![0, 1, 2] bcast_S3x384x1_S3x384x4096_0_1_2) v52
  let v55 : FVec F S3x1x4096 .f32 := (broadcastInDim S3x1x4096 ![0, 2] bcast_S3x4096_S3x1x4096_0_2) dl
  let v57 : FVec F S3x384x4096 .f32 := (broadcastInDim S3x384x4096 ![0, 1, 2] bcast_S3x1x4096_S3x384x4096_0_1_2) v55
  (mulf) v56 v57

/-- of the scale,  -/
def dgamma (y : FVec F S3x384x4096 .f32) (h : FVec F S3x384x4096 .f32) : FVec F S4096 .f32 :=
  let v59 : FVec F S3x384x4096 .f32 := (mulf) y h
  let cst_7 : FVec F S_ .f32 := (constant S_ .f32 0x00000000#32)
  ((fun x v => Host.reduceAdd x v reducesTo_S3x384x4096_S4096_d0_1 h_S_)) v59 cst_7

/-- of the shift,  -/
def dbeta (y : FVec F S3x384x4096 .f32) : FVec F S4096 .f32 :=
  let cst_8 : FVec F S_ .f32 := (constant S_ .f32 0x00000000#32)
  ((fun x v => Host.reduceAdd x v reducesTo_S3x384x4096_S4096_d0_1 h_S_)) y cst_8

/-- of the normalised rows,  -/
def dxhat (y : FVec F S3x384x4096 .f32) (g : FVec F S4096 .f32) : FVec F S3x384x4096 .f32 :=
  let v62 : FVec F S1x1x4096 .f32 := (broadcastInDim S1x1x4096 ![2] bcast_S4096_S1x1x4096_2) g
  let v63 : FVec F S3x384x4096 .f32 := (broadcastInDim S3x384x4096 ![0, 1, 2] bcast_S1x1x4096_S3x384x4096_0_1_2) v62
  (mulf) y v63

/-- and of the rows;  -/
def dh (z : FVec F S3x384x4096 .f32) (h : FVec F S3x384x4096 .f32) (r : FVec F S3x384x1 .f32) : FVec F S3x384x4096 .f32 :=
  let v79 : FVec F S3x384x4096 .f32 := (broadcastInDim S3x384x4096 ![0, 1, 2] bcast_S3x384x1_S3x384x4096_0_1_2) r
  let cst_9 : FVec F S_ .f32 := (constant S_ .f32 0x00000000#32)
  let v65 : FVec F S3x384 .f32 := ((fun x v => Host.reduceAdd x v reducesTo_S3x384x4096_S3x384_d2 h_S_)) z cst_9
  let v66 : FVec F S3x384x1 .f32 := (broadcastInDim S3x384x1 ![0, 1] bcast_S3x384_S3x384x1_0_1) v65
  let cst_10 : FVec F S_ .f32 := (constant S_ .f32 0x45800000#32)
  let v67 : FVec F S3x384x1 .f32 := (broadcastInDim S3x384x1 ![] bcast_S_S3x384x1) cst_10
  let v68 : FVec F S3x384x1 .f32 := (Host.divf) v66 v67
  let v69 : FVec F S3x384x4096 .f32 := (broadcastInDim S3x384x4096 ![0, 1, 2] bcast_S3x384x1_S3x384x4096_0_1_2) v68
  let v70 : FVec F S3x384x4096 .f32 := (subf) z v69
  let v71 : FVec F S3x384x4096 .f32 := (mulf) z h
  let cst_11 : FVec F S_ .f32 := (constant S_ .f32 0x00000000#32)
  let v72 : FVec F S3x384 .f32 := ((fun x v => Host.reduceAdd x v reducesTo_S3x384x4096_S3x384_d2 h_S_)) v71 cst_11
  let v73 : FVec F S3x384x1 .f32 := (broadcastInDim S3x384x1 ![0, 1] bcast_S3x384_S3x384x1_0_1) v72
  let cst_12 : FVec F S_ .f32 := (constant S_ .f32 0x45800000#32)
  let v74 : FVec F S3x384x1 .f32 := (broadcastInDim S3x384x1 ![] bcast_S_S3x384x1) cst_12
  let v75 : FVec F S3x384x1 .f32 := (Host.divf) v73 v74
  let v76 : FVec F S3x384x4096 .f32 := (broadcastInDim S3x384x4096 ![0, 1, 2] bcast_S3x384x1_S3x384x4096_0_1_2) v75
  let v77 : FVec F S3x384x4096 .f32 := (mulf) h v76
  let v78 : FVec F S3x384x4096 .f32 := (subf) v70 v77
  (mulf) v79 v78

/-- each row's largest value,  -/
def amax (d : FVec F S3x384x4096 .f32) : FVec F S3x384 .f32 :=
  let v81 : FVec F S3x384x4096 .f32 := (Host.absf) d
  let cst_13 : FVec F S_ .f32 := (constant S_ .f32 0xFF800000#32)
  ((fun x v => Host.reduce FloatOps.maximumf x v reducesTo_S3x384x4096_S3x384_d2 h_S_)) v81 cst_13

/-- that over the largest code,  -/
def amaxS (a : FVec F S3x384 .f32) : FVec F S3x384 .f32 :=
  let cst_14 : FVec F S_ .f32 := (constant S_ .f32 0x37924925#32)
  let v83 : FVec F S3x384 .f32 := (broadcastInDim S3x384 ![] bcast_S_S3x384) cst_14
  (mulf) a v83

/-- which powers of two each row reaches,  -/
def above (y : FVec F S3x384 .f32) : IVec S3x384x254 1 :=
  let v88 : FVec F S3x384x1 .f32 := (broadcastInDim S3x384x1 ![0, 1] bcast_S3x384_S3x384x1_0_1) y
  let v95 : FVec F S3x384x254 .f32 := (broadcastInDim S3x384x254 ![0, 1, 2] bcast_S3x384x1_S3x384x254_0_1_2) v88
  let cst_16 : FVec F S_ .f32 := (constant S_ .f32 0x40000000#32)
  let v92 : FVec F S254 .f32 := (broadcastInDim S254 ![] bcast_S_S254) cst_16
  let c : IVec S_ 32 := (constantI S_ 32 4294967171#32)
  let v86 : IVec S254 32 := (broadcastInDim S254 ![] bcast_S_S254) c
  let v85 : IVec S254 32 := (iotaInDim S254 32 0)
  let v87 : IVec S254 32 := (addi) v86 v85
  let c_15 : IVec S_ 32 := (constantI S_ 32 1#32)
  let v89 : IVec S254 32 := (broadcastInDim S254 ![] bcast_S_S254) c_15
  let v90 : IVec S254 32 := (subi) v87 v89
  let v91 : FVec F S254 .f32 := (sitofp .f32) v90
  let v93 : FVec F S254 .f32 := (Host.powf) v92 v91
  let v94 : FVec F S1x1x254 .f32 := (broadcastInDim S1x1x254 ![2] bcast_S254_S1x1x254_2) v93
  let v96 : FVec F S3x384x254 .f32 := (broadcastInDim S3x384x254 ![0, 1, 2] bcast_S1x1x254_S3x384x254_0_1_2) v94
  (cmpf .oge) v95 v96

/-- which rows stay below them all,  -/
def small (y : FVec F S3x384 .f32) : IVec S3x384 1 :=
  let cst_17 : FVec F S_ .f32 := (constant S_ .f32 0x00800000#32)
  let v98 : FVec F S3x384 .f32 := (broadcastInDim S3x384 ![] bcast_S_S3x384) cst_17
  (cmpf .olt) y v98

/-- the powers' exponents,  -/
def powers : IVec S254 32 :=
  let c : IVec S_ 32 := (constantI S_ 32 4294967171#32)
  let v86 : IVec S254 32 := (broadcastInDim S254 ![] bcast_S_S254) c
  let v85 : IVec S254 32 := (iotaInDim S254 32 0)
  (addi) v86 v85

/-- the least of them,  -/
def lowest : IVec S_ 32 :=
  (constantI S_ 32 4294967171#32)

/-- the largest exponent reached, zero where none is,  -/
def choose (ab : IVec S3x384x254 1) (ks : IVec S254 32) (lo : IVec S_ 32) (sm : IVec S3x384 1) : IVec S3x384 32 :=
  let c_20 : IVec S_ 32 := (constantI S_ 32 0#32)
  let w1_v0 : IVec S_ 32 := id c_20
  let w1_v1 : IVec S3x384 32 := (broadcastInDim S3x384 ![] bcast_S_S3x384) w1_v0
  let w0_v1 : IVec S3x384x254 32 := (broadcastInDim S3x384x254 ![2] bcast_S254_S3x384x254_2) ks
  let w0_v0 : IVec S_ 32 := id lo
  let w0_v2 : IVec S3x384x254 32 := (broadcastInDim S3x384x254 ![] bcast_S_S3x384x254) w0_v0
  let v100 : IVec S3x384x254 32 := select ab w0_v1 w0_v2
  let c_19 : IVec S_ 32 := (constantI S_ 32 2147483648#32)
  let v101 : IVec S3x384 32 := ((fun x v => Host.reduce IntOp.maxsi x v reducesTo_S3x384x254_S3x384_d2 h_S_)) v100 c_19
  select sm w1_v1 v101

/-- the exponent that brings the row into the codes' range,  -/
def expo (y : FVec F S3x384 .f32) : IVec S3x384 32 :=
  let cst_17 : FVec F S_ .f32 := (constant S_ .f32 0x00800000#32)
  let v98 : FVec F S3x384 .f32 := (broadcastInDim S3x384 ![] bcast_S_S3x384) cst_17
  let v99 : IVec S3x384 1 := (cmpf .olt) y v98
  let c_20 : IVec S_ 32 := (constantI S_ 32 0#32)
  let w1_v0 : IVec S_ 32 := id c_20
  let w1_v1 : IVec S3x384 32 := (broadcastInDim S3x384 ![] bcast_S_S3x384) w1_v0
  let v88 : FVec F S3x384x1 .f32 := (broadcastInDim S3x384x1 ![0, 1] bcast_S3x384_S3x384x1_0_1) y
  let v95 : FVec F S3x384x254 .f32 := (broadcastInDim S3x384x254 ![0, 1, 2] bcast_S3x384x1_S3x384x254_0_1_2) v88
  let cst_16 : FVec F S_ .f32 := (constant S_ .f32 0x40000000#32)
  let v92 : FVec F S254 .f32 := (broadcastInDim S254 ![] bcast_S_S254) cst_16
  let c : IVec S_ 32 := (constantI S_ 32 4294967171#32)
  let v86 : IVec S254 32 := (broadcastInDim S254 ![] bcast_S_S254) c
  let v85 : IVec S254 32 := (iotaInDim S254 32 0)
  let v87 : IVec S254 32 := (addi) v86 v85
  let c_15 : IVec S_ 32 := (constantI S_ 32 1#32)
  let v89 : IVec S254 32 := (broadcastInDim S254 ![] bcast_S_S254) c_15
  let v90 : IVec S254 32 := (subi) v87 v89
  let v91 : FVec F S254 .f32 := (sitofp .f32) v90
  let v93 : FVec F S254 .f32 := (Host.powf) v92 v91
  let v94 : FVec F S1x1x254 .f32 := (broadcastInDim S1x1x254 ![2] bcast_S254_S1x1x254_2) v93
  let v96 : FVec F S3x384x254 .f32 := (broadcastInDim S3x384x254 ![0, 1, 2] bcast_S1x1x254_S3x384x254_0_1_2) v94
  let v97 : IVec S3x384x254 1 := (cmpf .oge) v95 v96
  let w0_v1 : IVec S3x384x254 32 := (broadcastInDim S3x384x254 ![2] bcast_S254_S3x384x254_2) v87
  let c_18 : IVec S_ 32 := (constantI S_ 32 4294967171#32)
  let w0_v0 : IVec S_ 32 := id c_18
  let w0_v2 : IVec S3x384x254 32 := (broadcastInDim S3x384x254 ![] bcast_S_S3x384x254) w0_v0
  let v100 : IVec S3x384x254 32 := select v97 w0_v1 w0_v2
  let c_19 : IVec S_ 32 := (constantI S_ 32 2147483648#32)
  let v101 : IVec S3x384 32 := ((fun x v => Host.reduce IntOp.maxsi x v reducesTo_S3x384x254_S3x384_d2 h_S_)) v100 c_19
  select v99 w1_v1 v101

/-- as a number,  -/
def expoF (k : IVec S3x384 32) : FVec F S3x384 .f32 :=
  (sitofp .f32) k

/-- the scale, a power of two,  -/
def scales (k : FVec F S3x384 .f32) : FVec F S3x384 .f32 :=
  let cst_21 : FVec F S_ .f32 := (constant S_ .f32 0x40000000#32)
  let v104 : FVec F S3x384 .f32 := (broadcastInDim S3x384 ![] bcast_S_S3x384) cst_21
  (Host.powf) v104 k

/-- and the row over its scale, kept in the codes' range. -/
def clipped (d : FVec F S3x384x4096 .f32) (k : FVec F S3x384 .f32) : FVec F S3x384x4096 .f32 :=
  let cst_24 : FVec F S_ .f32 := (constant S_ .f32 0x47600000#32)
  let w2_v3 : FVec F S_ .f32 := id cst_24
  let w2_v4 : FVec F S3x384x4096 .f32 := (broadcastInDim S3x384x4096 ![] bcast_S_S3x384x4096) w2_v3
  let cst_23 : FVec F S_ .f32 := (constant S_ .f32 0xC7600000#32)
  let w2_v0 : FVec F S_ .f32 := id cst_23
  let w2_v1 : FVec F S3x384x4096 .f32 := (broadcastInDim S3x384x4096 ![] bcast_S_S3x384x4096) w2_v0
  let cst_22 : FVec F S_ .f32 := (constant S_ .f32 0x40000000#32)
  let v107 : FVec F S3x384 .f32 := (broadcastInDim S3x384 ![] bcast_S_S3x384) cst_22
  let v106 : FVec F S3x384 .f32 := (Host.negf) k
  let v108 : FVec F S3x384 .f32 := (Host.powf) v107 v106
  let v109 : FVec F S3x384x1 .f32 := (broadcastInDim S3x384x1 ![0, 1] bcast_S3x384_S3x384x1_0_1) v108
  let v110 : FVec F S3x384x4096 .f32 := (broadcastInDim S3x384x4096 ![0, 1, 2] bcast_S3x384x1_S3x384x4096_0_1_2) v109
  let v111 : FVec F S3x384x4096 .f32 := (mulf) d v110
  let w2_v2 : FVec F S3x384x4096 .f32 := maximumf w2_v1 v111
  minimumf w2_v4 w2_v2

/-! The same, over the arguments. -/

def xcA (x : FVec F S3x384x4096 .bf16) : FVec F S3x384x4096 .f32 := xc x
def rstdA (x : FVec F S3x384x4096 .bf16) : FVec F S3x384x1 .f32 := rstd (xcA x)
def xhatA (x : FVec F S3x384x4096 .bf16) : FVec F S3x384x4096 .f32 := xhat (xcA x) (rstdA x)
def maskA (l : IVec S3 32) : FVec F S3x384 .f32 := mask l
def lenA (l : IVec S3 32) : FVec F S3x1 .f32 := len l
def poolA (x : FVec F S3x384x4096 .bf16) (g : FVec F S4096 .f32) (b : FVec F S4096 .f32) (l : IVec S3 32) : FVec F S3x4096 .f32 := pool (xhatA x) g b (maskA l) (lenA l)
def normA (x : FVec F S3x384x4096 .bf16) (g : FVec F S4096 .f32) (b : FVec F S4096 .f32) (l : IVec S3 32) : FVec F S3x1 .f32 := norm (poolA x g b l)
def unitA (x : FVec F S3x384x4096 .bf16) (g : FVec F S4096 .f32) (b : FVec F S4096 .f32) (l : IVec S3 32) : FVec F S3x4096 .f32 := unit (poolA x g b l) (normA x g b l)
def dpoolA (x : FVec F S3x384x4096 .bf16) (g : FVec F S4096 .f32) (b : FVec F S4096 .f32) (l : IVec S3 32) (ge : FVec F S3x4096 .f32) : FVec F S3x4096 .f32 := dpool (normA x g b l) (unitA x g b l) ge
def dplA (x : FVec F S3x384x4096 .bf16) (g : FVec F S4096 .f32) (b : FVec F S4096 .f32) (l : IVec S3 32) (ge : FVec F S3x4096 .f32) : FVec F S3x4096 .f32 := dpl (dpoolA x g b l ge) (lenA l)
def dyA (x : FVec F S3x384x4096 .bf16) (g : FVec F S4096 .f32) (b : FVec F S4096 .f32) (l : IVec S3 32) (ge : FVec F S3x4096 .f32) : FVec F S3x384x4096 .f32 := dy (maskA l) (dplA x g b l ge)
def dgammaA (x : FVec F S3x384x4096 .bf16) (g : FVec F S4096 .f32) (b : FVec F S4096 .f32) (l : IVec S3 32) (ge : FVec F S3x4096 .f32) : FVec F S4096 .f32 := dgamma (dyA x g b l ge) (xhatA x)
def dbetaA (x : FVec F S3x384x4096 .bf16) (g : FVec F S4096 .f32) (b : FVec F S4096 .f32) (l : IVec S3 32) (ge : FVec F S3x4096 .f32) : FVec F S4096 .f32 := dbeta (dyA x g b l ge)
def dxhatA (x : FVec F S3x384x4096 .bf16) (g : FVec F S4096 .f32) (b : FVec F S4096 .f32) (l : IVec S3 32) (ge : FVec F S3x4096 .f32) : FVec F S3x384x4096 .f32 := dxhat (dyA x g b l ge) g
def dhA (x : FVec F S3x384x4096 .bf16) (g : FVec F S4096 .f32) (b : FVec F S4096 .f32) (l : IVec S3 32) (ge : FVec F S3x4096 .f32) : FVec F S3x384x4096 .f32 := dh (dxhatA x g b l ge) (xhatA x) (rstdA x)
def amaxA (x : FVec F S3x384x4096 .bf16) (g : FVec F S4096 .f32) (b : FVec F S4096 .f32) (l : IVec S3 32) (ge : FVec F S3x4096 .f32) : FVec F S3x384 .f32 := amax (dhA x g b l ge)
def amaxSA (x : FVec F S3x384x4096 .bf16) (g : FVec F S4096 .f32) (b : FVec F S4096 .f32) (l : IVec S3 32) (ge : FVec F S3x4096 .f32) : FVec F S3x384 .f32 := amaxS (amaxA x g b l ge)
def expoA (x : FVec F S3x384x4096 .bf16) (g : FVec F S4096 .f32) (b : FVec F S4096 .f32) (l : IVec S3 32) (ge : FVec F S3x4096 .f32) : IVec S3x384 32 := expo (amaxSA x g b l ge)
def expoFA (x : FVec F S3x384x4096 .bf16) (g : FVec F S4096 .f32) (b : FVec F S4096 .f32) (l : IVec S3 32) (ge : FVec F S3x4096 .f32) : FVec F S3x384 .f32 := expoF (expoA x g b l ge)
def scalesA (x : FVec F S3x384x4096 .bf16) (g : FVec F S4096 .f32) (b : FVec F S4096 .f32) (l : IVec S3 32) (ge : FVec F S3x4096 .f32) : FVec F S3x384 .f32 := scales (expoFA x g b l ge)
def clippedA (x : FVec F S3x384x4096 .bf16) (g : FVec F S4096 .f32) (b : FVec F S4096 .f32) (l : IVec S3 32) (ge : FVec F S3x4096 .f32) : FVec F S3x384x4096 .f32 := clipped (dhA x g b l ge) (expoFA x g b l ge)

end Cert.ReferenceIdeal.Stage

end
-- ==== Proof.ReferenceReads.lean ====
/- What the reference's host line leaves in the buffers the results are read from: the stages of Stages.lean, over the
   arguments. -/
module

public import proofs.«01_k».proof.Proof.Stages
public import proofs.«01_k».proof.Proof.Gen.ReferenceIdeal.Frame
public import Idealize.ShloMosaic.Lib.StableHlo.RunRead

@[expose] public section

set_option maxRecDepth 16384

noncomputable section

namespace Cert.ReferenceIdeal.Reads

open Idealize.ShloMosaic Idealize.ShloMosaic.TcCoe Idealize.ShloMosaic.Tactic
open Idealize.ShloMosaic.StableHlo
open Cert.ReferenceIdeal Cert.ReferenceIdeal.Gen

variable {F : FTy → Type} [FloatOps F]

/-- The buffers after the reference's host line, from the contents `W`. -/
abbrev line (W : Valuation τ sig (Elt F)) : Valuation τ sig (Elt F) :=
  StableHlo.after (List.flatten [hostOps0, hostOps0_1, hostOps0_2, hostOps0_3, hostOps0_4, hostOps0_5]) W

/-- It leaves the scale's gradient, -/
theorem v60 (W : Valuation τ sig (Elt F)) : line W (main_v60 : DevRef τ sig) = Stage.dgammaA
    (W (main_arg0 : DevRef τ sig)) (W (main_arg1 : DevRef τ sig)) (W (main_arg2 : DevRef τ sig)) (W (main_arg3 : DevRef τ sig)) (W (main_arg4 : DevRef τ sig)) := by
  simp only [line, List.flatten_cons, List.flatten_nil]
  after_reads_simp
  rfl

/-- the shift's, -/
theorem v61 (W : Valuation τ sig (Elt F)) : line W (main_v61 : DevRef τ sig) = Stage.dbetaA
    (W (main_arg0 : DevRef τ sig)) (W (main_arg1 : DevRef τ sig)) (W (main_arg2 : DevRef τ sig)) (W (main_arg3 : DevRef τ sig)) (W (main_arg4 : DevRef τ sig)) := by
  simp only [line, List.flatten_cons, List.flatten_nil]
  after_reads_simp
  rfl

/-! The line up to the exponents: -/

theorem head_v80 (W : Valuation τ sig (Elt F)) : StableHlo.after (hostOps0 : List (HloOp τ sig (Elt F))) W (main_v80 : DevRef τ sig)
    = Stage.dhA (W (main_arg0 : DevRef τ sig)) (W (main_arg1 : DevRef τ sig)) (W (main_arg2 : DevRef τ sig)) (W (main_arg3 : DevRef τ sig)) (W (main_arg4 : DevRef τ sig)) := by
  after_reads_simp
  rfl

theorem head_v97 (W : Valuation τ sig (Elt F)) : StableHlo.after (hostOps0 : List (HloOp τ sig (Elt F))) W (main_v97 : DevRef τ sig)
    = Stage.above (Stage.amaxSA (W (main_arg0 : DevRef τ sig)) (W (main_arg1 : DevRef τ sig)) (W (main_arg2 : DevRef τ sig)) (W (main_arg3 : DevRef τ sig)) (W (main_arg4 : DevRef τ sig))) := by
  after_reads_simp
  rfl

theorem head_v99 (W : Valuation τ sig (Elt F)) : StableHlo.after (hostOps0 : List (HloOp τ sig (Elt F))) W (main_v99 : DevRef τ sig)
    = Stage.small (Stage.amaxSA (W (main_arg0 : DevRef τ sig)) (W (main_arg1 : DevRef τ sig)) (W (main_arg2 : DevRef τ sig)) (W (main_arg3 : DevRef τ sig)) (W (main_arg4 : DevRef τ sig))) := by
  after_reads_simp
  rfl

theorem head_v87 (W : Valuation τ sig (Elt F)) : StableHlo.after (hostOps0 : List (HloOp τ sig (Elt F))) W (main_v87 : DevRef τ sig)
    = Stage.powers := by
  after_reads_simp
  rfl

theorem head_c_18 (W : Valuation τ sig (Elt F)) : StableHlo.after (hostOps0 : List (HloOp τ sig (Elt F))) W (main_c_18 : DevRef τ sig)
    = Stage.lowest := by
  after_reads_simp
  rfl

/-! And from there on. -/

theorem tail_v105 (U : Valuation τ sig (Elt F)) : StableHlo.after (hostOps0_1 ++ (hostOps0_2 ++ (hostOps0_3 ++ (hostOps0_4 ++ hostOps0_5))) : List (HloOp τ sig (Elt F))) U (main_v105 : DevRef τ sig)
    = Stage.scales (Stage.expoF (Stage.choose (U (main_v97 : DevRef τ sig)) (U (main_v87 : DevRef τ sig)) (U (main_c_18 : DevRef τ sig)) (U (main_v99 : DevRef τ sig)))) := by
  after_reads_simp
  simp -implicitDefEqProofs only [StableHlo.TRef.toBuf, StableHlo.TRef.ofBuf, cast_cast, cast_eq]
  rfl

theorem tail_v112 (U : Valuation τ sig (Elt F)) : StableHlo.after (hostOps0_1 ++ (hostOps0_2 ++ (hostOps0_3 ++ (hostOps0_4 ++ hostOps0_5))) : List (HloOp τ sig (Elt F))) U (main_v112 : DevRef τ sig)
    = Stage.clipped (U (main_v80 : DevRef τ sig)) (Stage.expoF (Stage.choose (U (main_v97 : DevRef τ sig)) (U (main_v87 : DevRef τ sig)) (U (main_c_18 : DevRef τ sig)) (U (main_v99 : DevRef τ sig)))) := by
  after_reads_simp
  simp -implicitDefEqProofs only [StableHlo.TRef.toBuf, StableHlo.TRef.ofBuf, cast_cast, cast_eq]
  rfl

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem line_eq (W : Valuation τ sig (Elt F)) : line W
    = StableHlo.after (hostOps0_1 ++ (hostOps0_2 ++ (hostOps0_3 ++ (hostOps0_4 ++ hostOps0_5)))) (StableHlo.after hostOps0 W) := by
  simp only [line, List.flatten_cons, List.flatten_nil, List.append_nil]
  rw [after_append hostOps0]

/-- the rows' scales, -/
theorem v105 (W : Valuation τ sig (Elt F)) : line W (main_v105 : DevRef τ sig) = Stage.scalesA
    (W (main_arg0 : DevRef τ sig)) (W (main_arg1 : DevRef τ sig)) (W (main_arg2 : DevRef τ sig)) (W (main_arg3 : DevRef τ sig)) (W (main_arg4 : DevRef τ sig)) := by
  rw [line_eq, tail_v105, head_v97, head_v87, head_c_18, head_v99]; rfl

/-- and the rows over their scales, kept in the codes' range. -/
theorem v112 (W : Valuation τ sig (Elt F)) : line W (main_v112 : DevRef τ sig) = Stage.clippedA
    (W (main_arg0 : DevRef τ sig)) (W (main_arg1 : DevRef τ sig)) (W (main_arg2 : DevRef τ sig)) (W (main_arg3 : DevRef τ sig)) (W (main_arg4 : DevRef τ sig)) := by
  rw [line_eq, tail_v112, head_v80, head_v97, head_v87, head_c_18, head_v99]; rfl

/-- It leaves the weights as they were. -/
theorem arg5 (W : Valuation τ sig (Elt F)) : line W (main_arg5 : DevRef τ sig) = W (main_arg5 : DevRef τ sig) := by
  simp only [line, List.flatten_cons, List.flatten_nil]
  after_reads_simp

/-- It leaves the weights as they were. -/
theorem arg6 (W : Valuation τ sig (Elt F)) : line W (main_arg6 : DevRef τ sig) = W (main_arg6 : DevRef τ sig) := by
  simp only [line, List.flatten_cons, List.flatten_nil]
  after_reads_simp

end Cert.ReferenceIdeal.Reads

end
-- ==== Proof.ReferenceFinal.lean ====
/- The reference's run: what its last step leaves, and the five results as functions of the arguments. -/
module

public import proofs.«01_k».proof.Proof.ReferenceReads
public import Idealize.ShloMosaic.Lib.Pointwise
public import Idealize.ShloMosaic.Lib.Pipeline.Value

@[expose] public section

set_option maxRecDepth 16384

noncomputable section

namespace Cert.ReferenceIdeal.Final

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz : (![0, 0] : Fin 2 → Nat) = fun _ => 0 := funext fun a => by fin_cases a <;> rfl
theorem hz1 : (![0] : Fin 1 → Nat) = fun _ => 0 := funext fun a => by fin_cases a; rfl

/-- The reference's product, entry by entry. -/
theorem pay_at (v0 : Vec Ideal S3x384x4096 .f32) (v4 : Vec Ideal S14336x4096 .fp8e4m3) (v6 : Vec Ideal S3x384 .f32) (v9 : Vec Ideal S14336 .f32)
    (b : Fin 3) (t : Fin 384) (j : Fin 14336) :
    k0_pay2 v0 v4 v6 v9 (ix3 b t j)
      = ((∑ k : Fin 4096, (v0 (ix3 b t k) : EReal) * (v4 (ix2 j k) : EReal)) * ((v6 (ix2 b t) : EReal) * (v9 (ix1 j) : EReal)) : EReal) := by
  unfold k0_pay2 k0_pay1
  pointwise

/-- The codes it stores are the clipped values themselves, as numbers. -/
theorem codes_at (v0 : Vec Ideal S3x384x4096 .f32) : (k0_pay1 v0 : Vec Ideal S3x384x4096 .fp8e5m2) = v0 := by
  funext j
  idx_vars j
  unfold k0_pay1
  pointwise

/-- The one point's blocks start at the arrays' origins. -/
theorem offs (t : Fin cfg0.N) :
    (∀ a, win0_0.index t a * win0_0.size a = 0) ∧ (∀ a, win0_1.index t a * win0_1.size a = 0) ∧ (∀ a, win0_2.index t a * win0_2.size a = 0)
    ∧ (∀ a, win0_3.index t a * win0_3.size a = 0) ∧ (∀ a, win0_4.index t a * win0_4.size a = 0) ∧ (∀ a, win0_5.index t a * win0_5.size a = 0)
    ∧ win0_4.xsize (grid0.coords t) 0 = 3 ∧ win0_4.xsize (grid0.coords t) 1 = 384 ∧ win0_4.xsize (grid0.coords t) 2 = 14336
    ∧ win0_5.xsize (grid0.coords t) 0 = 3 ∧ win0_5.xsize (grid0.coords t) 1 = 384 ∧ win0_5.xsize (grid0.coords t) 2 = 4096 := by
  rcases fin_N0 t with rfl
  decide +kernel

theorem blk0 (c : Dev nD) (t : Fin cfg0.N) : iblk m c 0 t = V m c main_v112 := by
  refine funext fun (j : S3x384x4096.Idx) => ?_
  have h := (offs t).1
  refine congrArg (V m c main_v112) (funext fun x => Fin.ext ?_)
  show win0_0.index t x * win0_0.size x + 1 * (j x).val = (j x).val
  rw [h x]; omega
theorem blk1 (c : Dev nD) (t : Fin cfg0.N) : iblk m c 1 t = V m c main_v105 := by
  refine funext fun (j : S3x384.Idx) => ?_
  have h := (offs t).2.1
  refine congrArg (V m c main_v105) (funext fun x => Fin.ext ?_)
  show win0_1.index t x * win0_1.size x + 1 * (j x).val = (j x).val
  rw [h x]; omega
theorem blk2 (c : Dev nD) (t : Fin cfg0.N) : iblk m c 2 t = V m c main_arg5 := by
  refine funext fun (j : S14336x4096.Idx) => ?_
  have h := (offs t).2.2.1
  refine congrArg (V m c main_arg5) (funext fun x => Fin.ext ?_)
  show win0_2.index t x * win0_2.size x + 1 * (j x).val = (j x).val
  rw [h x]; omega
theorem blk3 (c : Dev nD) (t : Fin cfg0.N) : iblk m c 3 t = V m c main_arg6 := by
  refine funext fun (j : S14336.Idx) => ?_
  have h := (offs t).2.2.2.1
  refine congrArg (V m c main_arg6) (funext fun x => Fin.ext ?_)
  show win0_3.index t x * win0_3.size x + 1 * (j x).val = (j x).val
  rw [h x]; omega

theorem out4 (G : Vec Ideal S3x384x14336 .bf16) (t : Fin cfg0.N) : (win0_4.blk t).view.read (Elt Ideal) G = G := by
  refine funext fun (j : S3x384x14336.Idx) => ?_
  have h := (offs t).2.2.2.2.1
  refine congrArg G (funext fun x => Fin.ext ?_)
  show win0_4.index t x * win0_4.size x + 1 * (j x).val = (j x).val
  rw [h x]; omega
theorem out5 (G : Vec Ideal S3x384x4096 .fp8e5m2) (t : Fin cfg0.N) : (win0_5.blk t).view.read (Elt Ideal) G = G := by
  refine funext fun (j : S3x384x4096.Idx) => ?_
  have h := (offs t).2.2.2.2.2.1
  refine congrArg G (funext fun x => Fin.ext ?_)
  show win0_5.index t x * win0_5.size x + 1 * (j x).val = (j x).val
  rw [h x]; omega

/-- The product, from what the host line leaves. -/
abbrev prod (c : Dev nD) : Buf (Elt Ideal) ((c : Thread nD τ).loc main_v113_0) :=
  k0_pay2 (F := Ideal) (V m c main_v112) (V m c main_arg5) (V m c main_v105) (V m c main_arg6)
/-- The codes. -/
abbrev codes (c : Dev nD) : Buf (Elt Ideal) ((c : Thread nD τ).loc main_v113_1) := k0_pay1 (F := Ideal) (V m c main_v112)

theorem flushed4 (c : Dev nD) (t : Fin cfg0.N) :
    (dats m 0 c).flushed 4 t = (win0_4.blk t).view.read (Elt Ideal) (prod m c) := by
  show (cfg0.win 4).cut (grid0.coords t) ((dats m 0 c).after 4 t) = _
  rw [after0_4, out4]
  unfold out0_4
  rw [View.canon_unit_zero hz3, View.ld_unit_zero hz3, View.ld_unit_zero hz, View.ld_unit_zero hz, View.ld_unit_zero hz1, blk0, blk1, blk2, blk3]
  rfl
theorem flushed5 (c : Dev nD) (t : Fin cfg0.N) :
    (dats m 0 c).flushed 5 t = (win0_5.blk t).view.read (Elt Ideal) (codes m c) := by
  show (cfg0.win 5).cut (grid0.coords t) ((dats m 0 c).after 5 t) = _
  rw [after0_5, out5]
  unfold out0_5
  rw [View.canon_unit_zero hz3, View.ld_unit_zero hz3, blk0]
  rfl

theorem mem4 (t : Fin cfg0.N) (i : S3x384x14336.Idx) : i ∈ ((cfg0.win 4).blk t).view.set := by
  show i ∈ ((View.whole main_v113_0).slice (win0_4.rect t)).set
  rw [View.set_slice_whole, Rect.mem_set_unit]
  have h0 : (i 0 : Nat) < 3 := (i 0).isLt
  have h1 : (i 1 : Nat) < 384 := (i 1).isLt
  have h2 : (i 2 : Nat) < 14336 := (i 2).isLt
  obtain ⟨-, -, -, -, e, -, e0, e1, e2, -⟩ := offs t
  intro a
  match a with
  | ⟨0, _⟩ => show win0_4.index t 0 * win0_4.size 0 ≤ (i 0 : Nat) ∧ (i 0 : Nat) < win0_4.index t 0 * win0_4.size 0 + win0_4.xsize (grid0.coords t) 0
              have := e 0; omega
  | ⟨1, _⟩ => show win0_4.index t 1 * win0_4.size 1 ≤ (i 1 : Nat) ∧ (i 1 : Nat) < win0_4.index t 1 * win0_4.size 1 + win0_4.xsize (grid0.coords t) 1
              have := e 1; omega
  | ⟨2, _⟩ => show win0_4.index t 2 * win0_4.size 2 ≤ (i 2 : Nat) ∧ (i 2 : Nat) < win0_4.index t 2 * win0_4.size 2 + win0_4.xsize (grid0.coords t) 2
              have := e 2; omega
theorem mem5 (t : Fin cfg0.N) (i : S3x384x4096.Idx) : i ∈ ((cfg0.win 5).blk t).view.set := by
  show i ∈ ((View.whole main_v113_1).slice (win0_5.rect t)).set
  rw [View.set_slice_whole, Rect.mem_set_unit]
  have h0 : (i 0 : Nat) < 3 := (i 0).isLt
  have h1 : (i 1 : Nat) < 384 := (i 1).isLt
  have h2 : (i 2 : Nat) < 4096 := (i 2).isLt
  obtain ⟨-, -, -, -, -, e, -, -, -, e0, e1, e2⟩ := offs t
  intro a
  match a with
  | ⟨0, _⟩ => show win0_5.index t 0 * win0_5.size 0 ≤ (i 0 : Nat) ∧ (i 0 : Nat) < win0_5.index t 0 * win0_5.size 0 + win0_5.xsize (grid0.coords t) 0
              have := e 0; omega
  | ⟨1, _⟩ => show win0_5.index t 1 * win0_5.size 1 ≤ (i 1 : Nat) ∧ (i 1 : Nat) < win0_5.index t 1 * win0_5.size 1 + win0_5.xsize (grid0.coords t) 1
              have := e 1; omega
  | ⟨2, _⟩ => show win0_5.index t 2 * win0_5.size 2 ≤ (i 2 : Nat) ∧ (i 2 : Nat) < win0_5.index t 2 * win0_5.size 2 + win0_5.xsize (grid0.coords t) 2
              have := e 2; omega

theorem final4 (c : Dev nD) : (dats m 0 c).arrAt 4 cfg0.N = prod m c :=
  (dats m 0 c).arrAt_eq_of_cover 4 (prod m c) (fun t _ => flushed4 m c t) fun i => ⟨⟨0, by have : cfg0.N = 1 := N_0; omega⟩, flush0_4 _, mem4 _ i⟩
theorem final5 (c : Dev nD) : (dats m 0 c).arrAt 5 cfg0.N = codes m c :=
  (dats m 0 c).arrAt_eq_of_cover 5 (codes m c) (fun t _ => flushed5 m c t) fun i => ⟨⟨0, by have : cfg0.N = 1 := N_0; omega⟩, flush0_5 _, mem5 _ i⟩

/-! The results from the arguments. -/

section
variable (c : Dev nD)
/-- The clipped rows, -/
abbrev clippedM : Vec Ideal S3x384x4096 .f32 := Stage.clippedA (F := Ideal) (m ((c : Thread nD τ).loc main_arg0)) (m ((c : Thread nD τ).loc main_arg1))
  (m ((c : Thread nD τ).loc main_arg2)) (m ((c : Thread nD τ).loc main_arg3)) (m ((c : Thread nD τ).loc main_arg4))
/-- their scales, -/
abbrev scalesM : Vec Ideal S3x384 .f32 := Stage.scalesA (F := Ideal) (m ((c : Thread nD τ).loc main_arg0)) (m ((c : Thread nD τ).loc main_arg1))
  (m ((c : Thread nD τ).loc main_arg2)) (m ((c : Thread nD τ).loc main_arg3)) (m ((c : Thread nD τ).loc main_arg4))
/-- the gradients of the scale -/
abbrev dgammaM : Vec Ideal S4096 .f32 := Stage.dgammaA (F := Ideal) (m ((c : Thread nD τ).loc main_arg0)) (m ((c : Thread nD τ).loc main_arg1))
  (m ((c : Thread nD τ).loc main_arg2)) (m ((c : Thread nD τ).loc main_arg3)) (m ((c : Thread nD τ).loc main_arg4))
/-- and of the shift, -/
abbrev dbetaM : Vec Ideal S4096 .f32 := Stage.dbetaA (F := Ideal) (m ((c : Thread nD τ).loc main_arg0)) (m ((c : Thread nD τ).loc main_arg1))
  (m ((c : Thread nD τ).loc main_arg2)) (m ((c : Thread nD τ).loc main_arg3)) (m ((c : Thread nD τ).loc main_arg4))
/-- and the product. -/
abbrev daM : Vec Ideal S3x384x14336 .bf16 := k0_pay2 (F := Ideal) (clippedM m c) (m ((c : Thread nD τ).loc main_arg5)) (scalesM m c) (m ((c : Thread nD τ).loc main_arg6))
end

theorem V_v112 (c : Dev nD) : V m c main_v112 = clippedM m c := Reads.v112 _
theorem V_v105 (c : Dev nD) : V m c main_v105 = scalesM m c := Reads.v105 _
theorem V_v60 (c : Dev nD) : V m c main_v60 = dgammaM m c := Reads.v60 _
theorem V_v61 (c : Dev nD) : V m c main_v61 = dbetaM m c := Reads.v61 _

theorem prod_eq (c : Dev nD) : prod m c = daM m c := by
  unfold prod
  rw [V_v112, V_v105, V_main_arg5, V_main_arg6]
theorem codes_eq (c : Dev nD) : codes m c = clippedM m c := by
  unfold codes
  rw [V_v112]; exact codes_at _

/-- The reference's run: its five results, and its arguments unchanged. -/
theorem run : θ_run defs (onTc (τ := τ) (main (F := Ideal))) ⟨m, fun _ => 0, ρ⟩ (fun r => ∀ c : Dev nD,
      r.2.mem ((c.tc : Thread nD τ).loc main_v113_0) = daM m c
      ∧ r.2.mem ((c.tc : Thread nD τ).loc main_v60) = dgammaM m c
      ∧ r.2.mem ((c.tc : Thread nD τ).loc main_v61) = dbetaM m c
      ∧ r.2.mem ((c.tc : Thread nD τ).loc main_v113_1) = clippedM m c
      ∧ r.2.mem ((c.tc : Thread nD τ).loc main_v105) = scalesM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (θ_run_and (unchanged m ρ) (run_main m ρ))
  have hp := h.2 c
  refine ⟨?_, ?_, ?_, ?_, ?_, h.1 c⟩
  · exact (hp.1 4).trans ((final4 m c).trans (prod_eq m c))
  · exact (hp.2 main_v60 (Pipeline.mem_restRefs_of main_v60 (by decide) (by decide))).trans (V_v60 m c)
  · exact (hp.2 main_v61 (Pipeline.mem_restRefs_of main_v61 (by decide) (by decide))).trans (V_v61 m c)
  · exact (hp.1 5).trans ((final5 m c).trans (codes_eq m c))
  · exact (hp.1 1).trans (((dats m 0 c).arrAt_in 1 rfl _).trans ((A_eq m c 1).trans (V_v105 m c)))

end Cert.ReferenceIdeal.Final

end
-- ==== Proof.ReferenceAt.lean ====
/- The reference's stages, entry by entry, are the formulas. -/
module

public import proofs.«01_k».proof.Proof.Stages
public import proofs.«01_k».proof.Proof.Formulas

@[expose] public section

set_option maxRecDepth 16384

noncomputable section

namespace Cert.ReferenceIdeal.Stage

open Idealize.ShloMosaic Idealize.ShloMosaic.TcCoe Idealize.ShloMosaic.Tactic
open Cert.ReferenceIdeal Cert.ReferenceIdeal.Gen

variable (x : FVec Ideal S3x384x4096 .bf16) (g be : FVec Ideal S4096 .f32) (l : IVec S3 32) (ge : FVec Ideal S3x4096 .f32)
  (c h z y : FVec Ideal S3x384x4096 .f32) (r : FVec Ideal S3x384x1 .f32) (mk a : FVec Ideal S3x384 .f32) (ln n : FVec Ideal S3x1 .f32)
  (p e dl d : FVec Ideal S3x4096 .f32) (k : FVec Ideal S3x384 .f32) (b : Fin 3) (t : Fin 384) (q : Fin 4096)

/-- Sequence `b` of the rows, -/
def seqX (b : Fin 3) (t : Fin 384) (q : Fin 4096) : EReal := x (ix3 b t q)
/-- and a vector's entries. -/
def vecV (g : FVec Ideal S4096 .f32) (q : Fin 4096) : EReal := g (ix1 q)
def rowV (g : FVec Ideal S3x4096 .f32) (b : Fin 3) (q : Fin 4096) : EReal := g (ix2 b q)

theorem xc_at : xcA x (ix3 b t q) = Formulas.cen (seqX x b) t q := by
  unfold xcA xc; pointwise; rfl
theorem rstd_at0 : rstd c (ix3 b t 0) = Ideal.rsqrt (Ideal.div (∑ k, c (ix3 b t k) * c (ix3 b t k)) Formulas.width + Ideal.ofBits .f32 0x3727C5AC#32) := by
  unfold rstd; pointwise
theorem rstd_at : rstdA x (ix3 b t 0) = Formulas.dev (seqX x b) t := by
  unfold rstdA Formulas.dev; rw [rstd_at0]; simp only [xc_at]
theorem xhat_at0 : xhat c r (ix3 b t q) = c (ix3 b t q) * r (ix3 b t 0) := by
  unfold xhat; pointwise
theorem xhat_at : xhatA x (ix3 b t q) = Formulas.nrm (seqX x b) t q := by
  unfold xhatA Formulas.nrm; rw [xhat_at0, xc_at, rstd_at]
theorem mask_at : (maskA l (ix2 b t) : Ideal .f32) = Formulas.ins (l (ix1 b)) t.val := by
  unfold maskA mask Formulas.ins; pointwise
theorem len_at : (lenA l (ix2 b 0) : Ideal .f32) = Formulas.len (l (ix1 b)) := by
  unfold lenA len Formulas.len; pointwise
theorem pool_at0 : pool h g be mk ln (ix2 b q) = Ideal.div (∑ t, mk (ix2 b t) * (h (ix3 b t q) * g (ix1 q) + be (ix1 q))) (ln (ix2 b 0)) := by
  unfold pool; pointwise
theorem pool_at : poolA x g be l (ix2 b q) = Formulas.mean (seqX x b) (l (ix1 b)) (vecV g) (vecV be) q := by
  unfold poolA Formulas.mean; rw [pool_at0]; simp only [mask_at, xhat_at, len_at]; rfl
theorem norm_at0 : norm p (ix2 b 0) = Formulas.size (rowV p b) := by
  unfold norm Formulas.size; pointwise; rfl
theorem rowV_pool : rowV (poolA x g be l) b = Formulas.mean (seqX x b) (l (ix1 b)) (vecV g) (vecV be) := funext fun q => pool_at x g be l b q
theorem norm_at : normA x g be l (ix2 b 0) = Formulas.size (Formulas.mean (seqX x b) (l (ix1 b)) (vecV g) (vecV be)) := by
  unfold normA; rw [norm_at0, rowV_pool]
theorem unit_at0 : unit p n (ix2 b q) = Ideal.div (p (ix2 b q)) (n (ix2 b 0)) := by
  unfold unit; pointwise
theorem dpool_at0 : dpool n e ge (ix2 b q) = Ideal.div (ge (ix2 b q) - e (ix2 b q) * ∑ k, e (ix2 b k) * ge (ix2 b k)) (n (ix2 b 0)) := by
  unfold dpool; pointwise
theorem dpool_at : dpoolA x g be l ge (ix2 b q) = Formulas.dmean (rowV ge b) (Formulas.mean (seqX x b) (l (ix1 b)) (vecV g) (vecV be)) q := by
  unfold dpoolA unitA Formulas.dmean; rw [dpool_at0]; simp only [unit_at0, norm_at, pool_at]; rfl
theorem dpl_at0 : dpl d ln (ix2 b q) = Ideal.div (d (ix2 b q)) (ln (ix2 b 0)) := by
  unfold dpl; pointwise
theorem dpl_at : dplA x g be l ge (ix2 b q) = Formulas.share (seqX x b) (l (ix1 b)) (vecV g) (vecV be) (rowV ge b) q := by
  unfold dplA Formulas.share; rw [dpl_at0, dpool_at, len_at]
theorem dy_at0 : dy mk dl (ix3 b t q) = mk (ix2 b t) * dl (ix2 b q) := by
  unfold dy; pointwise
theorem dy_at : dyA x g be l ge (ix3 b t q) = Formulas.ins (l (ix1 b)) t.val * Formulas.share (seqX x b) (l (ix1 b)) (vecV g) (vecV be) (rowV ge b) q := by
  unfold dyA; rw [dy_at0, mask_at, dpl_at]
theorem dxhat_at0 : dxhat y g (ix3 b t q) = y (ix3 b t q) * g (ix1 q) := by
  unfold dxhat; pointwise
theorem dxhat_at : dxhatA x g be l ge (ix3 b t q) = Formulas.dnrm (l (ix1 b)) (vecV g) (Formulas.share (seqX x b) (l (ix1 b)) (vecV g) (vecV be) (rowV ge b)) t q := by
  unfold dxhatA; rw [dxhat_at0, dy_at]; rfl
theorem dh_at0 : dh z h r (ix3 b t q) = r (ix3 b t 0) *
      (z (ix3 b t q) - Ideal.div (∑ k, z (ix3 b t k)) Formulas.width -
        h (ix3 b t q) * Ideal.div (∑ k, z (ix3 b t k) * h (ix3 b t k)) Formulas.width) := by
  unfold dh; pointwise
theorem dh_at : dhA x g be l ge (ix3 b t q) = Formulas.grad (seqX x b) (l (ix1 b)) (vecV g) (Formulas.share (seqX x b) (l (ix1 b)) (vecV g) (vecV be) (rowV ge b)) t q := by
  unfold dhA Formulas.grad; rw [dh_at0]; simp only [rstd_at, dxhat_at, xhat_at]
theorem amax_at0 : amax z (ix2 b t) = Formulas.top (fun q => z (ix3 b t q)) := by
  unfold amax Formulas.top; pointwise
theorem amax_at : amaxA x g be l ge (ix2 b t) = Formulas.top (Formulas.grad (seqX x b) (l (ix1 b)) (vecV g) (Formulas.share (seqX x b) (l (ix1 b)) (vecV g) (vecV be) (rowV ge b)) t) := by
  unfold amaxA; rw [amax_at0]; exact congrArg Formulas.top (funext fun q => dh_at x g be l ge b t q)
theorem amaxS_at0 : amaxS a (ix2 b t) = a (ix2 b t) * Ideal.ofBits .f32 0x37924925#32 := by
  unfold amaxS; pointwise
theorem amaxS_at : amaxSA x g be l ge (ix2 b t) = Formulas.rel (Formulas.grad (seqX x b) (l (ix1 b)) (vecV g) (Formulas.share (seqX x b) (l (ix1 b)) (vecV g) (vecV be) (rowV ge b)) t) := by
  unfold amaxSA Formulas.rel; rw [amaxS_at0, amax_at]
theorem expo_at0 : expo a (ix2 b t) = Formulas.expo (a (ix2 b t)) := by
  unfold expo Formulas.expo; pointwise; rfl
theorem expo_at : expoA x g be l ge (ix2 b t) = Formulas.expo (Formulas.rel (Formulas.grad (seqX x b) (l (ix1 b)) (vecV g) (Formulas.share (seqX x b) (l (ix1 b)) (vecV g) (vecV be) (rowV ge b)) t)) := by
  unfold expoA; rw [expo_at0, amaxS_at]
theorem scales_at0 (k : IVec S3x384 32) : scales (expoF (F := Ideal) k) (ix2 b t) = Formulas.scale (k (ix2 b t)) := by
  unfold scales expoF Formulas.scale; pointwise
theorem clipped_at0 (k : IVec S3x384 32) : clipped z (expoF (F := Ideal) k) (ix3 b t q) = Formulas.code (z (ix3 b t q)) (k (ix2 b t)) := by
  unfold clipped expoF Formulas.code; pointwise; rfl
/-- The scales, -/
theorem scales_at : scalesA x g be l ge (ix2 b t) = Formulas.scale (Formulas.expo (Formulas.rel (Formulas.grad (seqX x b) (l (ix1 b)) (vecV g) (Formulas.share (seqX x b) (l (ix1 b)) (vecV g) (vecV be) (rowV ge b)) t))) := by
  unfold scalesA expoFA; rw [scales_at0, expo_at]
/-- the codes, -/
theorem clipped_at : clippedA x g be l ge (ix3 b t q) = Formulas.code (Formulas.grad (seqX x b) (l (ix1 b)) (vecV g) (Formulas.share (seqX x b) (l (ix1 b)) (vecV g) (vecV be) (rowV ge b)) t q)
    (Formulas.expo (Formulas.rel (Formulas.grad (seqX x b) (l (ix1 b)) (vecV g) (Formulas.share (seqX x b) (l (ix1 b)) (vecV g) (vecV be) (rowV ge b)) t))) := by
  unfold clippedA expoFA; rw [clipped_at0, dh_at, expo_at]
theorem sum_at0 (j : S4096.Idx) : Ideal.hostReduceAdd reducesTo_S3x384x4096_S4096_d0_1 y 0 j = ∑ b : Fin 3, ∑ t : Fin 384, y (ix3 b t (j 0)) := by
  unfold Ideal.hostReduceAdd
  rw [zero_add, ← Fintype.sum_prod_type' (fun (b : Fin 3) (t : Fin 384) => y (ix3 b t (j 0)))]
  refine Finset.sum_bij' (fun i _ => (i 0, i 1)) (fun p _ => ix3 p.1 p.2 (j 0)) (fun _ _ => Finset.mem_univ _) (fun p _ => ?_) (fun i hi => ?_) (fun _ _ => rfl) (fun i hi => ?_)
  · rw [Finset.mem_filter]
    refine ⟨Finset.mem_univ _, funext fun a => ?_⟩
    fin_cases a; rfl
  · have e := (Finset.mem_filter.1 hi).2
    subst e
    funext a; fin_cases a <;> rfl
  · have e := (Finset.mem_filter.1 hi).2
    subst e
    refine congrArg y (funext fun a => ?_)
    fin_cases a <;> rfl
/-- the scale's gradient -/
theorem dgamma_at : dgammaA x g be l ge (ix1 q) = ∑ b : Fin 3, ∑ t : Fin 384,
    Formulas.ins (l (ix1 b)) t.val * Formulas.share (seqX x b) (l (ix1 b)) (vecV g) (vecV be) (rowV ge b) q * Formulas.nrm (seqX x b) t q := by
  unfold dgammaA dgamma; pointwise; rw [sum_at0]; simp only [mulf_apply]
  refine Finset.sum_congr rfl fun b _ => Finset.sum_congr rfl fun t _ => ?_
  exact congrArg₂ _ (dy_at x g be l ge b t q) (xhat_at x b t q)
/-- and the shift's. -/
theorem dbeta_at : dbetaA x g be l ge (ix1 q) = ∑ b : Fin 3, ∑ t : Fin 384,
    Formulas.ins (l (ix1 b)) t.val * Formulas.share (seqX x b) (l (ix1 b)) (vecV g) (vecV be) (rowV ge b) q := by
  unfold dbetaA dbeta; pointwise; rw [sum_at0]
  exact Finset.sum_congr rfl fun b _ => Finset.sum_congr rfl fun t _ => dy_at x g be l ge b t q
end Cert.ReferenceIdeal.Stage

end
-- ==== Proof.Range.lean ====
/- What the claim's precondition says: the scale is real numbers, no length is beyond the number of rows, the gradient in the
   pooled mean is real, and no row's largest gradient is beyond the largest finite one. -/
module

public import proofs.«01_k».proof.Proof.Gen.Pre_in_range
public import proofs.«01_k».proof.Proof.ReferenceAt
public import proofs.«01_k».proof.Proof.Reals
public import Idealize.ShloMosaic.Lib.Pointwise

@[expose] public section

set_option maxRecDepth 16384

noncomputable section

namespace Cert.Pre_in_range

open Idealize.ShloMosaic Idealize.ShloMosaic.TcCoe Idealize.ShloMosaic.Tactic
open Cert.Pre_in_range.Gen

theorem andi_one : ∀ a b : BitVec 1, IntOp.andi a b = 1#1 → a = 1#1 ∧ b = 1#1 := by decide

theorem fold_andi {ι : Type} (f : ι → BitVec 1) (l : List ι) (a : BitVec 1) (e : l.foldl (fun r n => IntOp.andi r (f n)) a = 1#1) :
    a = 1#1 ∧ ∀ n ∈ l, f n = 1#1 := by
  induction l generalizing a with
  | nil => exact ⟨e, fun n h => absurd h List.not_mem_nil⟩
  | cons n l ih =>
    obtain ⟨h1, h2⟩ := ih _ e
    obtain ⟨h3, h4⟩ := andi_one _ _ h1
    refine ⟨h3, fun k hk => ?_⟩
    rcases List.mem_cons.1 hk with rfl | hk
    · exact h4
    · exact h2 k hk

/-- A conjunction over a whole array holds at every entry. -/
theorem all_ones {s : Shape} {axes : List (Fin s.rank)} (x : s.Idx → BitVec 1) (init : S_.Idx → BitVec 1) (h : s.ReducesTo axes S_) (hu : 0 < S_.numel)
    (j : S_.Idx) (e : Host.reduce IntOp.andi x init h hu j = 1#1) (i : s.Idx) : x i = 1#1 := by
  have := (fold_andi _ _ _ e).2 (s.rowMajor i) (List.mem_filter.2 ⟨List.mem_finRange _, by simpa using funext fun a => a.elim0⟩)
  simpa using this

variable (x : FVec Ideal S3x384x4096 .bf16) (g be : FVec Ideal S4096 .f32) (l : IVec S3 32) (ge : FVec Ideal S3x4096 .f32)
  (w : FVec Ideal S14336x4096 .fp8e4m3) (ws : FVec Ideal S14336 .f32)

/-- The conjunction, over any pooled gradient `d` and largest gradients `a`. -/
def conj {F : FTy → Type} [FloatOps F] (g : FVec F S4096 .f32) (l : IVec S3 32) (d : FVec F S3x4096 .f32) (a : FVec F S3x384 .f32) : IVec S_ 1 :=
  andi
    (andi
      (andi (Host.reduce IntOp.andi (cmpf .olt (Host.absf g) (broadcastInDim S4096 ![] bcast_S_S4096 (constant S_ .f32 0x7F800000#32))) (constantI S_ 1 1#1) reducesTo_S4096_S_d0 h_S_)
        (Host.reduce IntOp.andi (cmpi .sle l (broadcastInDim S3 ![] bcast_S_S3 (constantI S_ 32 384#32))) (constantI S_ 1 1#1) reducesTo_S3_S_d0 h_S_))
      (Host.reduce IntOp.andi (cmpf .olt (Host.absf d) (broadcastInDim S3x4096 ![] bcast_S_S3x4096 (constant S_ .f32 0x7F800000#32))) (constantI S_ 1 1#1) reducesTo_S3x4096_S_d0_1 h_S_))
    (Host.reduce IntOp.andi (cmpf .ole a (broadcastInDim S3x384 ![] bcast_S_S3x384 (constant S_ .f32 0x7F7FFFFF#32))) (constantI S_ 1 1#1) reducesTo_S3x384_S_d0_1 h_S_)

/-- The condition is that, of the reference's own stages. -/
theorem fn_eq {F : FTy → Type} [FloatOps F] (x : FVec F S3x384x4096 .bf16) (g be : FVec F S4096 .f32) (l : IVec S3 32) (ge : FVec F S3x4096 .f32)
  (w : FVec F S14336x4096 .fp8e4m3) (ws : FVec F S14336 .f32) : fn x g be l ge w ws
    = conj g l (Cert.ReferenceIdeal.Stage.dpoolA x g be l ge) (Cert.ReferenceIdeal.Stage.amaxA x g be l ge) := rfl

/-- A value whose size is below infinity is a real number. -/
theorem real_of (v : EReal) (h : Ideal.cmp .olt (max v (-v)) (Ideal.ofBits .f32 0x7F800000#32) = 1#1) : Formulas.IsReal v := by
  have htop : Ideal.ofBits .f32 0x7F800000#32 = ⊤ := by simp [Ideal.ofBits, Ideal.ieee]
  rw [htop] at h
  have h' : max v (-v) < ⊤ := by
    by_contra hn
    have : Ideal.cmp .olt (max v (-v)) ⊤ = 0#1 := by
      show BitVec.ofBool (decide (max v (-v) < ⊤)) = 0#1
      rw [decide_eq_false hn]; rfl
    rw [this] at h; exact absurd h (by decide)
  induction v using EReal.rec with
  | bot => simp at h'
  | coe r => exact ⟨r, rfl⟩
  | top => simp at h'

theorem le_of (v u : EReal) (h : Ideal.cmp .ole v u = 1#1) : v ≤ u := by
  by_contra hn
  have : Ideal.cmp .ole v u = 0#1 := by
    show BitVec.ofBool (decide (v ≤ u)) = 0#1
    rw [decide_eq_false hn]; rfl
  rw [this] at h; exact absurd h (by decide)

theorem len_of (a : BitVec 32) (h : IntOp.cmpi .sle a 384#32 = 1#1) : a.toInt ≤ 384 := by
  by_contra hn
  have : IntOp.cmpi .sle a 384#32 = 0#1 := by
    show BitVec.ofBool (decide (a.toInt ≤ (384#32 : BitVec 32).toInt)) = 0#1
    rw [decide_eq_false (by rw [show (384#32 : BitVec 32).toInt = 384 from by decide]; exact hn)]; rfl
  rw [this] at h; exact absurd h (by decide)

/-- What the precondition says of the arguments. -/
structure Says : Prop where
  gamma : ∀ q, Formulas.IsReal (g (ix1 q))
  len : ∀ b, (l (ix1 b)).toInt ≤ 384
  pool : ∀ b q, Formulas.IsReal (Cert.ReferenceIdeal.Stage.dpoolA x g be l ge (ix2 b q))
  top : ∀ b t, Cert.ReferenceIdeal.Stage.amaxA x g be l ge (ix2 b t) ≤ Ideal.ofBits .f32 0x7F7FFFFF#32

/-- What the conjunction says. -/
theorem conj_says (d : FVec Ideal S3x4096 .f32) (a : FVec Ideal S3x384 .f32) (j : S_.Idx) (h : conj g l d a j = 1#1) :
    (∀ q, Formulas.IsReal (g (ix1 q))) ∧ (∀ b, (l (ix1 b)).toInt ≤ 384) ∧ (∀ b q, Formulas.IsReal (d (ix2 b q)))
      ∧ ∀ b t, a (ix2 b t) ≤ Ideal.ofBits .f32 0x7F7FFFFF#32 := by
  unfold conj at h
  obtain ⟨h, h4⟩ := andi_one _ _ h
  obtain ⟨h, h3⟩ := andi_one _ _ h
  obtain ⟨h1, h2⟩ := andi_one _ _ h
  exact ⟨fun q => real_of _ (all_ones _ _ _ _ _ h1 (ix1 q)), fun b => len_of _ (all_ones _ _ _ _ _ h2 (ix1 b)),
    fun b q => real_of _ (all_ones _ _ _ _ _ h3 (ix2 b q)), fun b t => le_of _ _ (all_ones _ _ _ _ _ h4 (ix2 b t))⟩

theorem holds_of (h : fn x g be l ge w ws = fun _ => 1#1) : Says x g be l ge := by
  have e := congrFun ((fn_eq x g be l ge w ws).symm.trans h) (Shape.Idx.first h_S_)
  obtain ⟨gamma, len, pool, top⟩ := conj_says _ _ _ _ _ e
  exact ⟨gamma, len, pool, top⟩

end Cert.Pre_in_range

end
-- ==== Proof.Equal.lean ====
/- The equation: where the precondition holds, the kernel's five results are the reference's. -/
module

public import proofs.«01_k».proof.Proof.KernelAt
public import proofs.«01_k».proof.Proof.KernelResults
public import proofs.«01_k».proof.Proof.ReferenceFinal
public import proofs.«01_k».proof.Proof.Range

@[expose] public section

set_option maxRecDepth 16384

noncomputable section

namespace Cert.Equal

open Idealize.ShloMosaic Idealize.ShloMosaic.TcCoe Idealize.ShloMosaic.Tactic
open Idealize.SL.Sem
open Cert.ReferenceIdeal (Stage.seqX Stage.vecV Stage.rowV Stage.dgammaA Stage.dbetaA Stage.clippedA Stage.scalesA)
open Cert.KernelIdeal.Region0 (seqB vecB rowB xB gB bB lB eB codesR scalesR dgammaR dbetaR dgammaN dbetaN Fine)

variable (m : (ℓ : Loc KernelIdeal.nD KernelIdeal.τ KernelIdeal.sig) → Buf (Elt Ideal) ℓ) (c : Dev KernelIdeal.nD)
  (b : Fin 3) (t : Fin 384) (q : Fin 4096)

/-! The kernel's arguments. -/

abbrev ax : FVec Ideal KernelIdeal.S3x384x4096 .bf16 := m ((c.tc : Thread KernelIdeal.nD KernelIdeal.τ).loc KernelIdeal.main_arg0)
abbrev ag : FVec Ideal KernelIdeal.S4096 .f32 := m ((c.tc : Thread KernelIdeal.nD KernelIdeal.τ).loc KernelIdeal.main_arg1)
abbrev ab : FVec Ideal KernelIdeal.S4096 .f32 := m ((c.tc : Thread KernelIdeal.nD KernelIdeal.τ).loc KernelIdeal.main_arg2)
abbrev al : IVec KernelIdeal.S3 32 := m ((c.tc : Thread KernelIdeal.nD KernelIdeal.τ).loc KernelIdeal.main_arg3)
abbrev ae : FVec Ideal KernelIdeal.S3x4096 .f32 := m ((c.tc : Thread KernelIdeal.nD KernelIdeal.τ).loc KernelIdeal.main_arg4)
abbrev aw : FVec Ideal KernelIdeal.S14336x4096 .fp8e4m3 := m ((c.tc : Thread KernelIdeal.nD KernelIdeal.τ).loc KernelIdeal.main_arg5)
abbrev aws : FVec Ideal KernelIdeal.S14336 .f32 := m ((c.tc : Thread KernelIdeal.nD KernelIdeal.τ).loc KernelIdeal.main_arg6)

/-- What the precondition says of them. -/
abbrev Good : Prop := Pre_in_range.Says (ax m c) (ag m c) (ab m c) (al m c) (ae m c)

variable {m c}

theorem dmean_real (h : Good m c) : Formulas.IsReal (Formulas.dmean (rowB (eB m c b)) (Formulas.mean (seqB (xB m c b)) (lB m c b) (vecB (gB m c)) (vecB (bB m c))) q) := by
  have := h.pool b q
  rw [ReferenceIdeal.Stage.dpool_at] at this
  exact this

/-- Each sequence's inputs are fine. -/
theorem fine (h : Good m c) : Fine (lB m c b) (gB m c) where
  gamma q := h.gamma q
  pos := Formulas.len_nonneg 0 (dmean_real b 0 h)
  len := h.len b

theorem top_le (h : Good m c) : Formulas.top (Formulas.grad (seqB (xB m c b)) (lB m c b) (vecB (gB m c))
    (Formulas.share (seqB (xB m c b)) (lB m c b) (vecB (gB m c)) (vecB (bB m c)) (rowB (eB m c b))) t) ≤ Ideal.ofBits .f32 0x7F7FFFFF#32 :=
  (ReferenceIdeal.Stage.amax_at (ax m c) (ag m c) (ab m c) (al m c) (ae m c) b t).symm.le.trans (h.top b t)

/-- The codes, -/
theorem codes_eq (h : Good m c) : (codesR m c : FVec Ideal KernelIdeal.S3x384x4096 .fp8e5m2)
    = (ReferenceIdeal.Stage.clippedA (ax m c) (ag m c) (ab m c) (al m c) (ae m c) : FVec Ideal KernelIdeal.S3x384x4096 .f32) := by
  refine funext fun (j : KernelIdeal.S3x384x4096.Idx) => ?_
  idx_vars j
  exact (KernelIdeal.Region0.codes0_at j2 (eB m c j0) (fine j0 h) j1 (top_le j0 j1 h)).trans
    (ReferenceIdeal.Stage.clipped_at (ax m c) (ag m c) (ab m c) (al m c) (ae m c) j0 j1 j2).symm

/-- the scales, -/
theorem scales_eq (h : Good m c) : scalesR m c (ix3 b t 0) = ReferenceIdeal.Stage.scalesA (ax m c) (ag m c) (ab m c) (al m c) (ae m c) (ix2 b t) :=
  (KernelIdeal.Region0.scales0_at (eB m c b) (fine b h) t 0 (top_le b t h)).trans
    (ReferenceIdeal.Stage.scales_at (ax m c) (ag m c) (ab m c) (al m c) (ae m c) b t).symm

/-- the scale's gradient -/
theorem dgamma_eq (h : Good m c) : dgammaR m c (ix2 0 q) = ReferenceIdeal.Stage.dgammaA (ax m c) (ag m c) (ab m c) (al m c) (ae m c) (ix1 q) := by
  refine Eq.trans ?_ (ReferenceIdeal.Stage.dgamma_at (ax m c) (ag m c) (ab m c) (al m c) (ae m c) q).symm
  rw [Fin.sum_univ_three]
  refine (KernelIdeal.Region0.dgamma0_at q (eB m c 2) (fine 2 h) _ (dmean_real 2 q h)).trans (congrArg₂ (fun x y : EReal => x + y) ?_ rfl)
  refine (KernelIdeal.Region0.dgamma0_at q (eB m c 1) (fine 1 h) _ (dmean_real 1 q h)).trans (congrArg₂ (fun x y : EReal => x + y) ?_ rfl)
  refine (KernelIdeal.Region0.dgamma0_at q (eB m c 0) (fine 0 h) _ (dmean_real 0 q h)).trans ?_
  rw [KernelIdeal.Region0.pay4_at, zero_add]
  rfl

/-- and the shift's. -/
theorem dbeta_eq (h : Good m c) : dbetaR m c (ix2 0 q) = ReferenceIdeal.Stage.dbetaA (ax m c) (ag m c) (ab m c) (al m c) (ae m c) (ix1 q) := by
  refine Eq.trans ?_ (ReferenceIdeal.Stage.dbeta_at (ax m c) (ag m c) (ab m c) (al m c) (ae m c) q).symm
  rw [Fin.sum_univ_three]
  refine (KernelIdeal.Region0.dbeta0_at q (eB m c 2) (fine 2 h) _).trans (congrArg₂ (fun x y : EReal => x + y) ?_ rfl)
  refine (KernelIdeal.Region0.dbeta0_at q (eB m c 1) (fine 1 h) _).trans (congrArg₂ (fun x y : EReal => x + y) ?_ rfl)
  refine (KernelIdeal.Region0.dbeta0_at q (eB m c 0) (fine 0 h) _).trans ?_
  rw [KernelIdeal.Region0.pay5_at, zero_add]
  rfl

/-! The results at the end of the kernel's run. -/

open Cert.KernelIdeal.Run (W5 first)

theorem codes_end (h : Good m c) : W5 m (first m) c (KernelIdeal.main_v3_0 : DevRef KernelIdeal.τ KernelIdeal.sig)
    = ReferenceIdeal.Stage.clippedA (ax m c) (ag m c) (ab m c) (al m c) (ae m c) :=
  (KernelIdeal.Run.codes_end m c).trans (codes_eq h)
theorem scales_end (h : Good m c) : W5 m (first m) c (KernelIdeal.main_v11 : DevRef KernelIdeal.τ KernelIdeal.sig)
    = ReferenceIdeal.Stage.scalesA (ax m c) (ag m c) (ab m c) (al m c) (ae m c) := by
  refine funext fun (j : KernelIdeal.S3x384.Idx) => ?_
  idx_vars j
  exact (KernelIdeal.Run.scales_end m c j0 j1).trans (scales_eq j0 j1 h)
theorem dgamma_end (h : Good m c) : W5 m (first m) c (KernelIdeal.main_v9 : DevRef KernelIdeal.τ KernelIdeal.sig)
    = ReferenceIdeal.Stage.dgammaA (ax m c) (ag m c) (ab m c) (al m c) (ae m c) := by
  refine funext fun (j : KernelIdeal.S4096.Idx) => ?_
  idx_vars j
  exact (KernelIdeal.Run.dgamma_end m c j0).trans (dgamma_eq j0 h)
theorem dbeta_end (h : Good m c) : W5 m (first m) c (KernelIdeal.main_v10 : DevRef KernelIdeal.τ KernelIdeal.sig)
    = ReferenceIdeal.Stage.dbetaA (ax m c) (ag m c) (ab m c) (al m c) (ae m c) := by
  refine funext fun (j : KernelIdeal.S4096.Idx) => ?_
  idx_vars j
  exact (KernelIdeal.Run.dbeta_end m c j0).trans (dbeta_eq j0 h)

/-- Equal codes and scales give equal products. -/
theorem entry_eq (k : FVec Ideal KernelIdeal.S3x384x4096 .fp8e5m2) (k' : FVec Ideal KernelIdeal.S3x384x4096 .f32) (s : FVec Ideal KernelIdeal.S3x384x1 .f32)
    (s' : FVec Ideal KernelIdeal.S3x384 .f32) (w : FVec Ideal KernelIdeal.S14336x4096 .fp8e4m3) (ws : FVec Ideal KernelIdeal.S14336 .f32) (j : Fin 14336)
    (hk : k = k') (hs : s (ix3 b t 0) = s' (ix2 b t)) :
    KernelIdeal.Run.entry k s w ws b t j = ReferenceIdeal.Gen.k0_pay2 (F := Ideal) k' w s' ws (ix3 b t j) := by
  subst hk
  refine Eq.trans ?_ (ReferenceIdeal.Final.pay_at k w s' ws b t j).symm
  unfold KernelIdeal.Run.entry
  rw [hs]

theorem da_end (h : Good m c) : W5 m (first m) c (KernelIdeal.main_v8 : DevRef KernelIdeal.τ KernelIdeal.sig)
    = ReferenceIdeal.Gen.k0_pay2 (F := Ideal) (ReferenceIdeal.Stage.clippedA (ax m c) (ag m c) (ab m c) (al m c) (ae m c)) (aw m c)
      (ReferenceIdeal.Stage.scalesA (ax m c) (ag m c) (ab m c) (al m c) (ae m c)) (aws m c) := by
  refine funext fun (j : KernelIdeal.S3x384x14336.Idx) => ?_
  idx_vars j
  exact (KernelIdeal.Run.da_end m c j0 j1 j2).trans (entry_eq j0 j1 _ _ _ _ _ _ j2 (codes_eq h) (scales_eq j0 j1 h))

end Cert.Equal

end
-- ==== Proof.lean ====
/- The claims, assembled: the three programs' frames, and that the kernel's five results at exact arithmetic are the
   reference's. -/
module

public import proofs.«01_k».proof.Defs
public import proofs.«01_k».proof.Proof.KernelWhole
public import proofs.«01_k».proof.Proof.Equal

@[expose] public section

set_option maxRecDepth 16384

noncomputable section

namespace Cert

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The precondition, of one device's arguments. -/
theorem good (h : Pre_KernelIdeal_in_range (hPre_in_range := Pre_in_range.Gen.facts) m) (c : Dev KernelIdeal.nD) : Equal.Good m c :=
  Pre_in_range.holds_of _ _ _ _ _ _ _ (h c)

/-- Where the precondition holds, the kernel at exact arithmetic and the reference end with the same five results. -/
theorem algebraic : algebraic_KernelIdeal_ReferenceIdeal_pre_in_range (hKernelIdeal := KernelIdeal.Gen.facts) (hReferenceIdeal := ReferenceIdeal.Gen.facts)
    (hPre_in_range := Pre_in_range.Gen.facts) := by
  intro m g m' g' hp h
  refine ⟨fun c => ReferenceIdeal.Final.daM m' c, fun c => ReferenceIdeal.Final.dgammaM m' c, fun c => ReferenceIdeal.Final.dbetaM m' c,
    fun c => ReferenceIdeal.Final.clippedM m' c, fun c => ReferenceIdeal.Final.scalesM m' c, ?_, ReferenceIdeal.Final.run m' g'⟩
  refine (θ_run _ _ _).mono (fun r hr c => ?_) (KernelIdeal.Run.run m g (KernelIdeal.Run.first m))
  have hg := good m hp c
  obtain ⟨h0, h1, h2, h3, h4, h5, h6⟩ := h c
  obtain ⟨a0, a1, a2, a3, a4, a5, a6⟩ := KernelIdeal.Run.args m c
  refine ⟨(hr.1 c _ rfl).trans ((Equal.da_end hg).trans ?_), (hr.1 c _ rfl).trans ((Equal.dgamma_end hg).trans ?_),
    (hr.1 c _ rfl).trans ((Equal.dbeta_end hg).trans ?_), (hr.1 c _ rfl).trans ((Equal.codes_end hg).trans ?_),
    (hr.1 c _ rfl).trans ((Equal.scales_end hg).trans ?_), (hr.1 c _ rfl).trans a0, (hr.1 c _ rfl).trans a1, (hr.1 c _ rfl).trans a2,
    (hr.1 c _ rfl).trans a3, (hr.1 c _ rfl).trans a4, (hr.1 c _ rfl).trans a5, (hr.1 c _ rfl).trans a6⟩
  · unfold ReferenceIdeal.Final.daM ReferenceIdeal.Final.clippedM ReferenceIdeal.Final.scalesM; beta_reduce; rw [h0, h1, h2, h3, h4, h5, h6]
  · unfold ReferenceIdeal.Final.dgammaM; beta_reduce; rw [h0, h1, h2, h3, h4]
  · unfold ReferenceIdeal.Final.dbetaM; beta_reduce; rw [h0, h1, h2, h3, h4]
  · unfold ReferenceIdeal.Final.clippedM; beta_reduce; rw [h0, h1, h2, h3, h4]
  · unfold ReferenceIdeal.Final.scalesM; beta_reduce; rw [h0, h1, h2, h3, h4]

theorem Proof.claim : Claim :=
  ⟨Kernel.Gen.facts, KernelIdeal.Gen.facts, ReferenceIdeal.Gen.facts, Pre_in_range.Gen.facts,
    fun m ρ _ => Kernel.Run.frame m ρ,
    fun m ρ _ => KernelIdeal.Run.frame m ρ,
    fun m ρ _ => KernelIdeal.Run.frame m ρ,
    fun m ρ _ => ReferenceIdeal.Gen.frame m ρ,
    fun m ρ _ => ReferenceIdeal.Gen.frame m ρ,
    trivial, algebraic⟩

end Cert

end
